-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "eps_sq" .f32 0x179ABE15#32 ((5316911940649 / 5316911983139663491615228241121378304 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1024 : Shape := ⟨3, ![2, 2048, 1024]⟩
abbrev S2x16384x1024 : Shape := ⟨3, ![2, 16384, 1024]⟩
abbrev S2x2048 : Shape := ⟨2, ![2, 2048]⟩
abbrev S512x1024 : Shape := ⟨2, ![512, 1024]⟩
abbrev S2x16384 : Shape := ⟨2, ![2, 16384]⟩
abbrev S_ : Shape := ⟨0, ![]⟩
abbrev S4096 : Shape := ⟨1, ![4096]⟩
abbrev S1024x32 : Shape := ⟨2, ![1024, 32]⟩
abbrev S2x32x64x1024 : Shape := ⟨4, ![2, 32, 64, 1024]⟩
abbrev S2x32x64x1 : Shape := ⟨4, ![2, 32, 64, 1]⟩
abbrev S2x32x64x128 : Shape := ⟨4, ![2, 32, 64, 128]⟩
abbrev S1x1x64x1024 : Shape := ⟨4, ![1, 1, 64, 1024]⟩
abbrev S1x1x64x1 : Shape := ⟨4, ![1, 1, 64, 1]⟩
abbrev S1x32x1024 : Shape := ⟨3, ![1, 32, 1024]⟩
abbrev S1 : Shape := ⟨1, ![1]⟩
abbrev S1x1x64x128 : Shape := ⟨4, ![1, 1, 64, 128]⟩
abbrev S64x1024 : Shape := ⟨2, ![64, 1024]⟩
abbrev S64 : Shape := ⟨1, ![64]⟩
abbrev S64x1 : Shape := ⟨2, ![64, 1]⟩
abbrev S1x1024 : Shape := ⟨2, ![1, 1024]⟩
abbrev S32x1024 : Shape := ⟨2, ![32, 1024]⟩
abbrev S1x32 : Shape := ⟨2, ![1, 32]⟩
abbrev S64x32 : Shape := ⟨2, ![64, 32]⟩
abbrev S1x128 : Shape := ⟨2, ![1, 128]⟩
abbrev S64x128 : Shape := ⟨2, ![64, 128]⟩
abbrev S2x32x64 : Shape := ⟨3, ![2, 32, 64]⟩

abbrev nBuf : Space → Nat
  | .hbm => 37
  | .vmem => 266
  | .smem => 2
  | _ => 0

abbrev vmemTy0_0 (i : Nat) : BufTy := match i % 128 with
  | 0 => ⟨S1x1x64x1024, .f32⟩
  | 1 => ⟨S1x1x64x1024, .f32⟩
  | 2 => ⟨S1x1x64x1, .i32⟩
  | 3 => ⟨S1x1x64x1, .i32⟩
  | 4 => ⟨S1x32x1024, .f32⟩
  | 5 => ⟨S1x32x1024, .f32⟩
  | 6 => ⟨S1x32x1024, .f32⟩
  | 7 => ⟨S1x32x1024, .f32⟩
  | 8 => ⟨S1x32x1024, .f32⟩
  | 9 => ⟨S1x32x1024, .f32⟩
  | 10 => ⟨S1x32x1024, .f32⟩
  | 11 => ⟨S1x32x1024, .f32⟩
  | 12 => ⟨S1x32x1024, .f32⟩
  | 13 => ⟨S1x32x1024, .f32⟩
  | 14 => ⟨S1x32x1024, .f32⟩
  | 15 => ⟨S1x32x1024, .f32⟩
  | 16 => ⟨S1x32x1024, .f32⟩
  | 17 => ⟨S1x32x1024, .f32⟩
  | 18 => ⟨S1x32x1024, .f32⟩
  | 19 => ⟨S1x32x1024, .f32⟩
  | 20 => ⟨S1x32x1024, .f32⟩
  | 21 => ⟨S1x32x1024, .f32⟩
  | 22 => ⟨S1x32x1024, .f32⟩
  | 23 => ⟨S1x32x1024, .f32⟩
  | 24 => ⟨S1x32x1024, .f32⟩
  | 25 => ⟨S1x32x1024, .f32⟩
  | 26 => ⟨S1x32x1024, .f32⟩
  | 27 => ⟨S1x32x1024, .f32⟩
  | 28 => ⟨S1x32x1024, .f32⟩
  | 29 => ⟨S1x32x1024, .f32⟩
  | 30 => ⟨S1x32x1024, .f32⟩
  | 31 => ⟨S1x32x1024, .f32⟩
  | 32 => ⟨S1x32x1024, .f32⟩
  | 33 => ⟨S1x32x1024, .f32⟩
  | 34 => ⟨S1x32x1024, .f32⟩
  | 35 => ⟨S1x32x1024, .f32⟩
  | 36 => ⟨S1x32x1024, .f32⟩
  | 37 => ⟨S1x32x1024, .f32⟩
  | 38 => ⟨S1x32x1024, .f32⟩
  | 39 => ⟨S1x32x1024, .f32⟩
  | 40 => ⟨S1x32x1024, .f32⟩
  | 41 => ⟨S1x32x1024, .f32⟩
  | 42 => ⟨S1x32x1024, .f32⟩
  | 43 => ⟨S1x32x1024, .f32⟩
  | 44 => ⟨S1x32x1024, .f32⟩
  | 45 => ⟨S1x32x1024, .f32⟩
  | 46 => ⟨S1x32x1024, .f32⟩
  | 47 => ⟨S1x32x1024, .f32⟩
  | 48 => ⟨S1x32x1024, .f32⟩
  | 49 => ⟨S1x32x1024, .f32⟩
  | 50 => ⟨S1x32x1024, .f32⟩
  | 51 => ⟨S1x32x1024, .f32⟩
  | 52 => ⟨S1x32x1024, .f32⟩
  | 53 => ⟨S1x32x1024, .f32⟩
  | 54 => ⟨S1x32x1024, .f32⟩
  | 55 => ⟨S1x32x1024, .f32⟩
  | 56 => ⟨S1x32x1024, .f32⟩
  | 57 => ⟨S1x32x1024, .f32⟩
  | 58 => ⟨S1x32x1024, .f32⟩
  | 59 => ⟨S1x32x1024, .f32⟩
  | 60 => ⟨S1x32x1024, .f32⟩
  | 61 => ⟨S1x32x1024, .f32⟩
  | 62 => ⟨S1x32x1024, .f32⟩
  | 63 => ⟨S1x32x1024, .f32⟩
  | 64 => ⟨S1x32x1024, .f32⟩
  | 65 => ⟨S1x32x1024, .f32⟩
  | 66 => ⟨S1x32x1024, .f32⟩
  | 67 => ⟨S1x32x1024, .f32⟩
  | 68 => ⟨S1x32x1024, .f32⟩
  | 69 => ⟨S1x32x1024, .f32⟩
  | 70 => ⟨S1x32x1024, .f32⟩
  | 71 => ⟨S1x32x1024, .f32⟩
  | 72 => ⟨S1x32x1024, .f32⟩
  | 73 => ⟨S1x32x1024, .f32⟩
  | 74 => ⟨S1x32x1024, .f32⟩
  | 75 => ⟨S1x32x1024, .f32⟩
  | 76 => ⟨S1x32x1024, .f32⟩
  | 77 => ⟨S1x32x1024, .f32⟩
  | 78 => ⟨S1x32x1024, .f32⟩
  | 79 => ⟨S1x32x1024, .f32⟩
  | 80 => ⟨S1x32x1024, .f32⟩
  | 81 => ⟨S1x32x1024, .f32⟩
  | 82 => ⟨S1x32x1024, .f32⟩
  | 83 => ⟨S1x32x1024, .f32⟩
  | 84 => ⟨S1x32x1024, .f32⟩
  | 85 => ⟨S1x32x1024, .f32⟩
  | 86 => ⟨S1x32x1024, .f32⟩
  | 87 => ⟨S1x32x1024, .f32⟩
  | 88 => ⟨S1x32x1024, .f32⟩
  | 89 => ⟨S1x32x1024, .f32⟩
  | 90 => ⟨S1x32x1024, .f32⟩
  | 91 => ⟨S1x32x1024, .f32⟩
  | 92 => ⟨S1x32x1024, .f32⟩
  | 93 => ⟨S1x32x1024, .f32⟩
  | 94 => ⟨S1x32x1024, .f32⟩
  | 95 => ⟨S1x32x1024, .f32⟩
  | 96 => ⟨S1x32x1024, .f32⟩
  | 97 => ⟨S1x32x1024, .f32⟩
  | 98 => ⟨S1x32x1024, .f32⟩
  | 99 => ⟨S1x32x1024, .f32⟩
  | 100 => ⟨S1x32x1024, .f32⟩
  | 101 => ⟨S1x32x1024, .f32⟩
  | 102 => ⟨S1x32x1024, .f32⟩
  | 103 => ⟨S1x32x1024, .f32⟩
  | 104 => ⟨S1x32x1024, .f32⟩
  | 105 => ⟨S1x32x1024, .f32⟩
  | 106 => ⟨S1x32x1024, .f32⟩
  | 107 => ⟨S1x32x1024, .f32⟩
  | 108 => ⟨S1x32x1024, .f32⟩
  | 109 => ⟨S1x32x1024, .f32⟩
  | 110 => ⟨S1x32x1024, .f32⟩
  | 111 => ⟨S1x32x1024, .f32⟩
  | 112 => ⟨S1x32x1024, .f32⟩
  | 113 => ⟨S1x32x1024, .f32⟩
  | 114 => ⟨S1x32x1024, .f32⟩
  | 115 => ⟨S1x32x1024, .f32⟩
  | 116 => ⟨S1x32x1024, .f32⟩
  | 117 => ⟨S1x32x1024, .f32⟩
  | 118 => ⟨S1x32x1024, .f32⟩
  | 119 => ⟨S1x32x1024, .f32⟩
  | 120 => ⟨S1x32x1024, .f32⟩
  | 121 => ⟨S1x32x1024, .f32⟩
  | 122 => ⟨S1x32x1024, .f32⟩
  | 123 => ⟨S1x32x1024, .f32⟩
  | 124 => ⟨S1x32x1024, .f32⟩
  | 125 => ⟨S1x32x1024, .f32⟩
  | 126 => ⟨S1x32x1024, .f32⟩
  | 127 => ⟨S1x32x1024, .f32⟩
  | _ => ⟨S2x2048x1024, .f32⟩

abbrev vmemTy0_1 (i : Nat) : BufTy := match i % 128 with
  | 0 => ⟨S1x32x1024, .f32⟩
  | 1 => ⟨S1x32x1024, .f32⟩
  | 2 => ⟨S1x32x1024, .f32⟩
  | 3 => ⟨S1x32x1024, .f32⟩
  | 4 => ⟨S1x32x1024, .f32⟩
  | 5 => ⟨S1x32x1024, .f32⟩
  | 6 => ⟨S1x32x1024, .f32⟩
  | 7 => ⟨S1x32x1024, .f32⟩
  | 8 => ⟨S1x32x1024, .f32⟩
  | 9 => ⟨S1x32x1024, .f32⟩
  | 10 => ⟨S1x32x1024, .f32⟩
  | 11 => ⟨S1x32x1024, .f32⟩
  | 12 => ⟨S1x32x1024, .f32⟩
  | 13 => ⟨S1x32x1024, .f32⟩
  | 14 => ⟨S1x32x1024, .f32⟩
  | 15 => ⟨S1x32x1024, .f32⟩
  | 16 => ⟨S1x32x1024, .f32⟩
  | 17 => ⟨S1x32x1024, .f32⟩
  | 18 => ⟨S1x32x1024, .f32⟩
  | 19 => ⟨S1x32x1024, .f32⟩
  | 20 => ⟨S1x32x1024, .f32⟩
  | 21 => ⟨S1x32x1024, .f32⟩
  | 22 => ⟨S1x32x1024, .f32⟩
  | 23 => ⟨S1x32x1024, .f32⟩
  | 24 => ⟨S1x32x1024, .f32⟩
  | 25 => ⟨S1x32x1024, .f32⟩
  | 26 => ⟨S1x32x1024, .f32⟩
  | 27 => ⟨S1x32x1024, .f32⟩
  | 28 => ⟨S1x32x1024, .f32⟩
  | 29 => ⟨S1x32x1024, .f32⟩
  | 30 => ⟨S1x32x1024, .f32⟩
  | 31 => ⟨S1x32x1024, .f32⟩
  | 32 => ⟨S1x32x1024, .f32⟩
  | 33 => ⟨S1x32x1024, .f32⟩
  | 34 => ⟨S1x32x1024, .f32⟩
  | 35 => ⟨S1x32x1024, .f32⟩
  | 36 => ⟨S1x32x1024, .f32⟩
  | 37 => ⟨S1x32x1024, .f32⟩
  | 38 => ⟨S1x32x1024, .f32⟩
  | 39 => ⟨S1x32x1024, .f32⟩
  | 40 => ⟨S1x32x1024, .f32⟩
  | 41 => ⟨S1x32x1024, .f32⟩
  | 42 => ⟨S1x32x1024, .f32⟩
  | 43 => ⟨S1x32x1024, .f32⟩
  | 44 => ⟨S1x32x1024, .f32⟩
  | 45 => ⟨S1x32x1024, .f32⟩
  | 46 => ⟨S1x32x1024, .f32⟩
  | 47 => ⟨S1x32x1024, .f32⟩
  | 48 => ⟨S1x32x1024, .f32⟩
  | 49 => ⟨S1x32x1024, .f32⟩
  | 50 => ⟨S1x32x1024, .f32⟩
  | 51 => ⟨S1x32x1024, .f32⟩
  | 52 => ⟨S1x32x1024, .f32⟩
  | 53 => ⟨S1x32x1024, .f32⟩
  | 54 => ⟨S1x32x1024, .f32⟩
  | 55 => ⟨S1x32x1024, .f32⟩
  | 56 => ⟨S1x32x1024, .f32⟩
  | 57 => ⟨S1x32x1024, .f32⟩
  | 58 => ⟨S1x32x1024, .f32⟩
  | 59 => ⟨S1x32x1024, .f32⟩
  | 60 => ⟨S1x32x1024, .f32⟩
  | 61 => ⟨S1x32x1024, .f32⟩
  | 62 => ⟨S1x32x1024, .f32⟩
  | 63 => ⟨S1x32x1024, .f32⟩
  | 64 => ⟨S1x32x1024, .f32⟩
  | 65 => ⟨S1x32x1024, .f32⟩
  | 66 => ⟨S1x32x1024, .f32⟩
  | 67 => ⟨S1x32x1024, .f32⟩
  | 68 => ⟨S1x32x1024, .f32⟩
  | 69 => ⟨S1x32x1024, .f32⟩
  | 70 => ⟨S1x32x1024, .f32⟩
  | 71 => ⟨S1x32x1024, .f32⟩
  | 72 => ⟨S1x32x1024, .f32⟩
  | 73 => ⟨S1x32x1024, .f32⟩
  | 74 => ⟨S1x32x1024, .f32⟩
  | 75 => ⟨S1x32x1024, .f32⟩
  | 76 => ⟨S1x32x1024, .f32⟩
  | 77 => ⟨S1x32x1024, .f32⟩
  | 78 => ⟨S1x32x1024, .f32⟩
  | 79 => ⟨S1x32x1024, .f32⟩
  | 80 => ⟨S1x32x1024, .f32⟩
  | 81 => ⟨S1x32x1024, .f32⟩
  | 82 => ⟨S1x32x1024, .f32⟩
  | 83 => ⟨S1x32x1024, .f32⟩
  | 84 => ⟨S1x32x1024, .f32⟩
  | 85 => ⟨S1x32x1024, .f32⟩
  | 86 => ⟨S1x32x1024, .f32⟩
  | 87 => ⟨S1x32x1024, .f32⟩
  | 88 => ⟨S1x32x1024, .f32⟩
  | 89 => ⟨S1x32x1024, .f32⟩
  | 90 => ⟨S1x32x1024, .f32⟩
  | 91 => ⟨S1x32x1024, .f32⟩
  | 92 => ⟨S1x32x1024, .f32⟩
  | 93 => ⟨S1x32x1024, .f32⟩
  | 94 => ⟨S1x32x1024, .f32⟩
  | 95 => ⟨S1x32x1024, .f32⟩
  | 96 => ⟨S1x32x1024, .f32⟩
  | 97 => ⟨S1x32x1024, .f32⟩
  | 98 => ⟨S1x32x1024, .f32⟩
  | 99 => ⟨S1x32x1024, .f32⟩
  | 100 => ⟨S1x32x1024, .f32⟩
  | 101 => ⟨S1x32x1024, .f32⟩
  | 102 => ⟨S1x32x1024, .f32⟩
  | 103 => ⟨S1x32x1024, .f32⟩
  | 104 => ⟨S1x32x1024, .f32⟩
  | 105 => ⟨S1x32x1024, .f32⟩
  | 106 => ⟨S1x32x1024, .f32⟩
  | 107 => ⟨S1x32x1024, .f32⟩
  | 108 => ⟨S1x32x1024, .f32⟩
  | 109 => ⟨S1x32x1024, .f32⟩
  | 110 => ⟨S1x32x1024, .f32⟩
  | 111 => ⟨S1x32x1024, .f32⟩
  | 112 => ⟨S1x32x1024, .f32⟩
  | 113 => ⟨S1x32x1024, .f32⟩
  | 114 => ⟨S1x32x1024, .f32⟩
  | 115 => ⟨S1x32x1024, .f32⟩
  | 116 => ⟨S1x32x1024, .f32⟩
  | 117 => ⟨S1x32x1024, .f32⟩
  | 118 => ⟨S1x32x1024, .f32⟩
  | 119 => ⟨S1x32x1024, .f32⟩
  | 120 => ⟨S1x32x1024, .f32⟩
  | 121 => ⟨S1x32x1024, .f32⟩
  | 122 => ⟨S1x32x1024, .f32⟩
  | 123 => ⟨S1x32x1024, .f32⟩
  | 124 => ⟨S1x32x1024, .f32⟩
  | 125 => ⟨S1x32x1024, .f32⟩
  | 126 => ⟨S1x32x1024, .f32⟩
  | 127 => ⟨S1x32x1024, .f32⟩
  | _ => ⟨S2x2048x1024, .f32⟩

abbrev vmemTy0_2 (i : Nat) : BufTy := match i % 128 with
  | 0 => ⟨S1x32x1024, .f32⟩
  | 1 => ⟨S1x32x1024, .f32⟩
  | 2 => ⟨S1x32x1024, .f32⟩
  | 3 => ⟨S1x32x1024, .f32⟩
  | 4 => ⟨S512x1024, .f32⟩
  | 5 => ⟨S1024x32, .i32⟩
  | 6 => ⟨S1x1x64x1024, .f32⟩
  | 7 => ⟨S1x1x64x1024, .f32⟩
  | 8 => ⟨S1x1x64x128, .f32⟩
  | 9 => ⟨S1x1x64x128, .f32⟩
  | _ => ⟨S2x2048x1024, .f32⟩

abbrev vmemTy (i : Nat) : BufTy := match i / 128 with
  | 0 => vmemTy0_0 i
  | 1 => vmemTy0_1 i
  | 2 => vmemTy0_2 i
  | _ => ⟨S2x2048x1024, .f32⟩

abbrev bufTy : (tb : Table) → Fin (tcTables nBuf tb) → BufTy
  | .hbm, ⟨0, _⟩ => ⟨S2x2048x1024, .f32⟩
  | .hbm, ⟨1, _⟩ => ⟨S2x16384x1024, .f32⟩
  | .hbm, ⟨2, _⟩ => ⟨S2x16384x1024, .f32⟩
  | .hbm, ⟨3, _⟩ => ⟨S2x2048, .i32⟩
  | .hbm, ⟨4, _⟩ => ⟨S512x1024, .f32⟩
  | .hbm, ⟨5, _⟩ => ⟨S2x16384, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S2x2048, .i32⟩
  | .hbm, ⟨13, _⟩ => ⟨S2x2048, .i32⟩
  | .hbm, ⟨14, _⟩ => ⟨S_, .i32⟩
  | .hbm, ⟨15, _⟩ => ⟨S2x2048, .i32⟩
  | .hbm, ⟨16, _⟩ => ⟨S2x2048, .i1⟩
  | .hbm, ⟨17, _⟩ => ⟨S_, .i32⟩
  | .hbm, ⟨18, _⟩ => ⟨S2x2048, .i32⟩
  | .hbm, ⟨19, _⟩ => ⟨S2x2048, .i1⟩
  | .hbm, ⟨20, _⟩ => ⟨S_, .i32⟩
  | .hbm, ⟨21, _⟩ => ⟨S_, .i1⟩
  | .hbm, ⟨22, _⟩ => ⟨S2x2048, .i1⟩
  | .hbm, ⟨23, _⟩ => ⟨S2x2048, .i1⟩
  | .hbm, ⟨24, _⟩ => ⟨S2x2048, .i1⟩
  | .hbm, ⟨25, _⟩ => ⟨S2x2048, .i32⟩
  | .hbm, ⟨26, _⟩ => ⟨S2x2048, .i32⟩
  | .hbm, ⟨27, _⟩ => ⟨S2x2048, .i32⟩
  | .hbm, ⟨28, _⟩ => ⟨S1024x32, .i32⟩
  | .hbm, ⟨29, _⟩ => ⟨S2x32x64x1024, .f32⟩
  | .hbm, ⟨30, _⟩ => ⟨S2x32x64x1, .i32⟩
  | .hbm, ⟨31, _⟩ => ⟨S2x32x64x1024, .f32⟩
  | .hbm, ⟨32, _⟩ => ⟨S2x32x64x128, .f32⟩
  | .hbm, ⟨33, _⟩ => ⟨S2x2048x1024, .f32⟩
  | .hbm, ⟨34, _⟩ => ⟨S2x32x64x1, .f32⟩
  | .hbm, ⟨35, _⟩ => ⟨S2x32x64, .f32⟩
  | .hbm, ⟨36, _⟩ => ⟨S2x2048, .f32⟩
  | .local _ .vmem, ⟨i, _⟩ => vmemTy i
  | .local _ .smem, ⟨0, _⟩ => ⟨S4096, .i32⟩
  | .local _ .smem, ⟨1, _⟩ => ⟨S4096, .i32⟩
  | _, _ => ⟨S2x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 266 → Bool
  | ⟨i, _⟩ => dmaSemScopedAt i

abbrev sig : RefSig :=
  ofTc nBuf bufTy 0 266 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6_0 : Ref sig .tc := ⟨.hbm, 31, rfl⟩
abbrev main_v6_1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_stg67_0 : Ref sig .tc := ⟨.vmem, 134, rfl⟩
abbrev cc0_stg67_1 : Ref sig .tc := ⟨.vmem, 135, rfl⟩
abbrev cc0_stg68_0 : Ref sig .tc := ⟨.vmem, 136, rfl⟩
abbrev cc0_stg68_1 : Ref sig .tc := ⟨.vmem, 137, rfl⟩
abbrev cc0_stg69_0 : Ref sig .tc := ⟨.vmem, 138, rfl⟩
abbrev cc0_stg69_1 : Ref sig .tc := ⟨.vmem, 139, rfl⟩
abbrev cc0_stg70_0 : Ref sig .tc := ⟨.vmem, 140, rfl⟩
abbrev cc0_stg70_1 : Ref sig .tc := ⟨.vmem, 141, rfl⟩
abbrev cc0_stg71_0 : Ref sig .tc := ⟨.vmem, 142, rfl⟩
abbrev cc0_stg71_1 : Ref sig .tc := ⟨.vmem, 143, rfl⟩
abbrev cc0_stg72_0 : Ref sig .tc := ⟨.vmem, 144, rfl⟩
abbrev cc0_stg72_1 : Ref sig .tc := ⟨.vmem, 145, rfl⟩
abbrev cc0_stg73_0 : Ref sig .tc := ⟨.vmem, 146, rfl⟩
abbrev cc0_stg73_1 : Ref sig .tc := ⟨.vmem, 147, rfl⟩
abbrev cc0_stg74_0 : Ref sig .tc := ⟨.vmem, 148, rfl⟩
abbrev cc0_stg74_1 : Ref sig .tc := ⟨.vmem, 149, rfl⟩
abbrev cc0_stg75_0 : Ref sig .tc := ⟨.vmem, 150, rfl⟩
abbrev cc0_stg75_1 : Ref sig .tc := ⟨.vmem, 151, rfl⟩
abbrev cc0_stg76_0 : Ref sig .tc := ⟨.vmem, 152, rfl⟩
abbrev cc0_stg76_1 : Ref sig .tc := ⟨.vmem, 153, rfl⟩
abbrev cc0_stg77_0 : Ref sig .tc := ⟨.vmem, 154, rfl⟩
abbrev cc0_stg77_1 : Ref sig .tc := ⟨.vmem, 155, rfl⟩
abbrev cc0_stg78_0 : Ref sig .tc := ⟨.vmem, 156, rfl⟩
abbrev cc0_stg78_1 : Ref sig .tc := ⟨.vmem, 157, rfl⟩
abbrev cc0_stg79_0 : Ref sig .tc := ⟨.vmem, 158, rfl⟩
abbrev cc0_stg79_1 : Ref sig .tc := ⟨.vmem, 159, rfl⟩
abbrev cc0_stg80_0 : Ref sig .tc := ⟨.vmem, 160, rfl⟩
abbrev cc0_stg80_1 : Ref sig .tc := ⟨.vmem, 161, rfl⟩
abbrev cc0_stg81_0 : Ref sig .tc := ⟨.vmem, 162, rfl⟩
abbrev cc0_stg81_1 : Ref sig .tc := ⟨.vmem, 163, rfl⟩
abbrev cc0_stg82_0 : Ref sig .tc := ⟨.vmem, 164, rfl⟩
abbrev cc0_stg82_1 : Ref sig .tc := ⟨.vmem, 165, rfl⟩
abbrev cc0_stg83_0 : Ref sig .tc := ⟨.vmem, 166, rfl⟩
abbrev cc0_stg83_1 : Ref sig .tc := ⟨.vmem, 167, rfl⟩
abbrev cc0_stg84_0 : Ref sig .tc := ⟨.vmem, 168, rfl⟩
abbrev cc0_stg84_1 : Ref sig .tc := ⟨.vmem, 169, rfl⟩
abbrev cc0_stg85_0 : Ref sig .tc := ⟨.vmem, 170, rfl⟩
abbrev cc0_stg85_1 : Ref sig .tc := ⟨.vmem, 171, rfl⟩
abbrev cc0_stg86_0 : Ref sig .tc := ⟨.vmem, 172, rfl⟩
abbrev cc0_stg86_1 : Ref sig .tc := ⟨.vmem, 173, rfl⟩
abbrev cc0_stg87_0 : Ref sig .tc := ⟨.vmem, 174, rfl⟩
abbrev cc0_stg87_1 : Ref sig .tc := ⟨.vmem, 175, rfl⟩
abbrev cc0_stg88_0 : Ref sig .tc := ⟨.vmem, 176, rfl⟩
abbrev cc0_stg88_1 : Ref sig .tc := ⟨.vmem, 177, rfl⟩
abbrev cc0_stg89_0 : Ref sig .tc := ⟨.vmem, 178, rfl⟩
abbrev cc0_stg89_1 : Ref sig .tc := ⟨.vmem, 179, rfl⟩
abbrev cc0_stg90_0 : Ref sig .tc := ⟨.vmem, 180, rfl⟩
abbrev cc0_stg90_1 : Ref sig .tc := ⟨.vmem, 181, rfl⟩
abbrev cc0_stg91_0 : Ref sig .tc := ⟨.vmem, 182, rfl⟩
abbrev cc0_stg91_1 : Ref sig .tc := ⟨.vmem, 183, rfl⟩
abbrev cc0_stg92_0 : Ref sig .tc := ⟨.vmem, 184, rfl⟩
abbrev cc0_stg92_1 : Ref sig .tc := ⟨.vmem, 185, rfl⟩
abbrev cc0_stg93_0 : Ref sig .tc := ⟨.vmem, 186, rfl⟩
abbrev cc0_stg93_1 : Ref sig .tc := ⟨.vmem, 187, rfl⟩
abbrev cc0_stg94_0 : Ref sig .tc := ⟨.vmem, 188, rfl⟩
abbrev cc0_stg94_1 : Ref sig .tc := ⟨.vmem, 189, rfl⟩
abbrev cc0_stg95_0 : Ref sig .tc := ⟨.vmem, 190, rfl⟩
abbrev cc0_stg95_1 : Ref sig .tc := ⟨.vmem, 191, rfl⟩
abbrev cc0_stg96_0 : Ref sig .tc := ⟨.vmem, 192, rfl⟩
abbrev cc0_stg96_1 : Ref sig .tc := ⟨.vmem, 193, rfl⟩
abbrev cc0_stg97_0 : Ref sig .tc := ⟨.vmem, 194, rfl⟩
abbrev cc0_stg97_1 : Ref sig .tc := ⟨.vmem, 195, rfl⟩
abbrev cc0_stg98_0 : Ref sig .tc := ⟨.vmem, 196, rfl⟩
abbrev cc0_stg98_1 : Ref sig .tc := ⟨.vmem, 197, rfl⟩
abbrev cc0_stg99_0 : Ref sig .tc := ⟨.vmem, 198, rfl⟩
abbrev cc0_stg99_1 : Ref sig .tc := ⟨.vmem, 199, rfl⟩
abbrev cc0_stg100_0 : Ref sig .tc := ⟨.vmem, 200, rfl⟩
abbrev cc0_stg100_1 : Ref sig .tc := ⟨.vmem, 201, rfl⟩
abbrev cc0_stg101_0 : Ref sig .tc := ⟨.vmem, 202, rfl⟩
abbrev cc0_stg101_1 : Ref sig .tc := ⟨.vmem, 203, rfl⟩
abbrev cc0_stg102_0 : Ref sig .tc := ⟨.vmem, 204, rfl⟩
abbrev cc0_stg102_1 : Ref sig .tc := ⟨.vmem, 205, rfl⟩
abbrev cc0_stg103_0 : Ref sig .tc := ⟨.vmem, 206, rfl⟩
abbrev cc0_stg103_1 : Ref sig .tc := ⟨.vmem, 207, rfl⟩
abbrev cc0_stg104_0 : Ref sig .tc := ⟨.vmem, 208, rfl⟩
abbrev cc0_stg104_1 : Ref sig .tc := ⟨.vmem, 209, rfl⟩
abbrev cc0_stg105_0 : Ref sig .tc := ⟨.vmem, 210, rfl⟩
abbrev cc0_stg105_1 : Ref sig .tc := ⟨.vmem, 211, rfl⟩
abbrev cc0_stg106_0 : Ref sig .tc := ⟨.vmem, 212, rfl⟩
abbrev cc0_stg106_1 : Ref sig .tc := ⟨.vmem, 213, rfl⟩
abbrev cc0_stg107_0 : Ref sig .tc := ⟨.vmem, 214, rfl⟩
abbrev cc0_stg107_1 : Ref sig .tc := ⟨.vmem, 215, rfl⟩
abbrev cc0_stg108_0 : Ref sig .tc := ⟨.vmem, 216, rfl⟩
abbrev cc0_stg108_1 : Ref sig .tc := ⟨.vmem, 217, rfl⟩
abbrev cc0_stg109_0 : Ref sig .tc := ⟨.vmem, 218, rfl⟩
abbrev cc0_stg109_1 : Ref sig .tc := ⟨.vmem, 219, rfl⟩
abbrev cc0_stg110_0 : Ref sig .tc := ⟨.vmem, 220, rfl⟩
abbrev cc0_stg110_1 : Ref sig .tc := ⟨.vmem, 221, rfl⟩
abbrev cc0_stg111_0 : Ref sig .tc := ⟨.vmem, 222, rfl⟩
abbrev cc0_stg111_1 : Ref sig .tc := ⟨.vmem, 223, rfl⟩
abbrev cc0_stg112_0 : Ref sig .tc := ⟨.vmem, 224, rfl⟩
abbrev cc0_stg112_1 : Ref sig .tc := ⟨.vmem, 225, rfl⟩
abbrev cc0_stg113_0 : Ref sig .tc := ⟨.vmem, 226, rfl⟩
abbrev cc0_stg113_1 : Ref sig .tc := ⟨.vmem, 227, rfl⟩
abbrev cc0_stg114_0 : Ref sig .tc := ⟨.vmem, 228, rfl⟩
abbrev cc0_stg114_1 : Ref sig .tc := ⟨.vmem, 229, rfl⟩
abbrev cc0_stg115_0 : Ref sig .tc := ⟨.vmem, 230, rfl⟩
abbrev cc0_stg115_1 : Ref sig .tc := ⟨.vmem, 231, rfl⟩
abbrev cc0_stg116_0 : Ref sig .tc := ⟨.vmem, 232, rfl⟩
abbrev cc0_stg116_1 : Ref sig .tc := ⟨.vmem, 233, rfl⟩
abbrev cc0_stg117_0 : Ref sig .tc := ⟨.vmem, 234, rfl⟩
abbrev cc0_stg117_1 : Ref sig .tc := ⟨.vmem, 235, rfl⟩
abbrev cc0_stg118_0 : Ref sig .tc := ⟨.vmem, 236, rfl⟩
abbrev cc0_stg118_1 : Ref sig .tc := ⟨.vmem, 237, rfl⟩
abbrev cc0_stg119_0 : Ref sig .tc := ⟨.vmem, 238, rfl⟩
abbrev cc0_stg119_1 : Ref sig .tc := ⟨.vmem, 239, rfl⟩
abbrev cc0_stg120_0 : Ref sig .tc := ⟨.vmem, 240, rfl⟩
abbrev cc0_stg120_1 : Ref sig .tc := ⟨.vmem, 241, rfl⟩
abbrev cc0_stg121_0 : Ref sig .tc := ⟨.vmem, 242, rfl⟩
abbrev cc0_stg121_1 : Ref sig .tc := ⟨.vmem, 243, rfl⟩
abbrev cc0_stg122_0 : Ref sig .tc := ⟨.vmem, 244, rfl⟩
abbrev cc0_stg122_1 : Ref sig .tc := ⟨.vmem, 245, rfl⟩
abbrev cc0_stg123_0 : Ref sig .tc := ⟨.vmem, 246, rfl⟩
abbrev cc0_stg123_1 : Ref sig .tc := ⟨.vmem, 247, rfl⟩
abbrev cc0_stg124_0 : Ref sig .tc := ⟨.vmem, 248, rfl⟩
abbrev cc0_stg124_1 : Ref sig .tc := ⟨.vmem, 249, rfl⟩
abbrev cc0_stg125_0 : Ref sig .tc := ⟨.vmem, 250, rfl⟩
abbrev cc0_stg125_1 : Ref sig .tc := ⟨.vmem, 251, rfl⟩
abbrev cc0_stg126_0 : Ref sig .tc := ⟨.vmem, 252, rfl⟩
abbrev cc0_stg126_1 : Ref sig .tc := ⟨.vmem, 253, rfl⟩
abbrev cc0_stg127_0 : Ref sig .tc := ⟨.vmem, 254, rfl⟩
abbrev cc0_stg127_1 : Ref sig .tc := ⟨.vmem, 255, rfl⟩
abbrev cc0_stg128_0 : Ref sig .tc := ⟨.vmem, 256, rfl⟩
abbrev cc0_stg128_1 : Ref sig .tc := ⟨.vmem, 257, rfl⟩
abbrev cc0_stg129_0 : Ref sig .tc := ⟨.vmem, 258, rfl⟩
abbrev cc0_stg129_1 : Ref sig .tc := ⟨.vmem, 259, rfl⟩
abbrev cc0_stg130_0 : Ref sig .tc := ⟨.vmem, 260, rfl⟩
abbrev cc0_stg131_0 : Ref sig .tc := ⟨.vmem, 261, rfl⟩
abbrev cc0_stg132_0 : Ref sig .tc := ⟨.vmem, 262, rfl⟩
abbrev cc0_stg132_1 : Ref sig .tc := ⟨.vmem, 263, rfl⟩
abbrev cc0_stg133_0 : Ref sig .tc := ⟨.vmem, 264, rfl⟩
abbrev cc0_stg133_1 : Ref sig .tc := ⟨.vmem, 265, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133
abbrev cc0_sem67_0 : DmaSem sig := 134
abbrev cc0_sem67_1 : DmaSem sig := 135
abbrev cc0_sem68_0 : DmaSem sig := 136
abbrev cc0_sem68_1 : DmaSem sig := 137
abbrev cc0_sem69_0 : DmaSem sig := 138
abbrev cc0_sem69_1 : DmaSem sig := 139
abbrev cc0_sem70_0 : DmaSem sig := 140
abbrev cc0_sem70_1 : DmaSem sig := 141
abbrev cc0_sem71_0 : DmaSem sig := 142
abbrev cc0_sem71_1 : DmaSem sig := 143
abbrev cc0_sem72_0 : DmaSem sig := 144
abbrev cc0_sem72_1 : DmaSem sig := 145
abbrev cc0_sem73_0 : DmaSem sig := 146
abbrev cc0_sem73_1 : DmaSem sig := 147
abbrev cc0_sem74_0 : DmaSem sig := 148
abbrev cc0_sem74_1 : DmaSem sig := 149
abbrev cc0_sem75_0 : DmaSem sig := 150
abbrev cc0_sem75_1 : DmaSem sig := 151
abbrev cc0_sem76_0 : DmaSem sig := 152
abbrev cc0_sem76_1 : DmaSem sig := 153
abbrev cc0_sem77_0 : DmaSem sig := 154
abbrev cc0_sem77_1 : DmaSem sig := 155
abbrev cc0_sem78_0 : DmaSem sig := 156
abbrev cc0_sem78_1 : DmaSem sig := 157
abbrev cc0_sem79_0 : DmaSem sig := 158
abbrev cc0_sem79_1 : DmaSem sig := 159
abbrev cc0_sem80_0 : DmaSem sig := 160
abbrev cc0_sem80_1 : DmaSem sig := 161
abbrev cc0_sem81_0 : DmaSem sig := 162
abbrev cc0_sem81_1 : DmaSem sig := 163
abbrev cc0_sem82_0 : DmaSem sig := 164
abbrev cc0_sem82_1 : DmaSem sig := 165
abbrev cc0_sem83_0 : DmaSem sig := 166
abbrev cc0_sem83_1 : DmaSem sig := 167
abbrev cc0_sem84_0 : DmaSem sig := 168
abbrev cc0_sem84_1 : DmaSem sig := 169
abbrev cc0_sem85_0 : DmaSem sig := 170
abbrev cc0_sem85_1 : DmaSem sig := 171
abbrev cc0_sem86_0 : DmaSem sig := 172
abbrev cc0_sem86_1 : DmaSem sig := 173
abbrev cc0_sem87_0 : DmaSem sig := 174
abbrev cc0_sem87_1 : DmaSem sig := 175
abbrev cc0_sem88_0 : DmaSem sig := 176
abbrev cc0_sem88_1 : DmaSem sig := 177
abbrev cc0_sem89_0 : DmaSem sig := 178
abbrev cc0_sem89_1 : DmaSem sig := 179
abbrev cc0_sem90_0 : DmaSem sig := 180
abbrev cc0_sem90_1 : DmaSem sig := 181
abbrev cc0_sem91_0 : DmaSem sig := 182
abbrev cc0_sem91_1 : DmaSem sig := 183
abbrev cc0_sem92_0 : DmaSem sig := 184
abbrev cc0_sem92_1 : DmaSem sig := 185
abbrev cc0_sem93_0 : DmaSem sig := 186
abbrev cc0_sem93_1 : DmaSem sig := 187
abbrev cc0_sem94_0 : DmaSem sig := 188
abbrev cc0_sem94_1 : DmaSem sig := 189
abbrev cc0_sem95_0 : DmaSem sig := 190
abbrev cc0_sem95_1 : DmaSem sig := 191
abbrev cc0_sem96_0 : DmaSem sig := 192
abbrev cc0_sem96_1 : DmaSem sig := 193
abbrev cc0_sem97_0 : DmaSem sig := 194
abbrev cc0_sem97_1 : DmaSem sig := 195
abbrev cc0_sem98_0 : DmaSem sig := 196
abbrev cc0_sem98_1 : DmaSem sig := 197
abbrev cc0_sem99_0 : DmaSem sig := 198
abbrev cc0_sem99_1 : DmaSem sig := 199
abbrev cc0_sem100_0 : DmaSem sig := 200
abbrev cc0_sem100_1 : DmaSem sig := 201
abbrev cc0_sem101_0 : DmaSem sig := 202
abbrev cc0_sem101_1 : DmaSem sig := 203
abbrev cc0_sem102_0 : DmaSem sig := 204
abbrev cc0_sem102_1 : DmaSem sig := 205
abbrev cc0_sem103_0 : DmaSem sig := 206
abbrev cc0_sem103_1 : DmaSem sig := 207
abbrev cc0_sem104_0 : DmaSem sig := 208
abbrev cc0_sem104_1 : DmaSem sig := 209
abbrev cc0_sem105_0 : DmaSem sig := 210
abbrev cc0_sem105_1 : DmaSem sig := 211
abbrev cc0_sem106_0 : DmaSem sig := 212
abbrev cc0_sem106_1 : DmaSem sig := 213
abbrev cc0_sem107_0 : DmaSem sig := 214
abbrev cc0_sem107_1 : DmaSem sig := 215
abbrev cc0_sem108_0 : DmaSem sig := 216
abbrev cc0_sem108_1 : DmaSem sig := 217
abbrev cc0_sem109_0 : DmaSem sig := 218
abbrev cc0_sem109_1 : DmaSem sig := 219
abbrev cc0_sem110_0 : DmaSem sig := 220
abbrev cc0_sem110_1 : DmaSem sig := 221
abbrev cc0_sem111_0 : DmaSem sig := 222
abbrev cc0_sem111_1 : DmaSem sig := 223
abbrev cc0_sem112_0 : DmaSem sig := 224
abbrev cc0_sem112_1 : DmaSem sig := 225
abbrev cc0_sem113_0 : DmaSem sig := 226
abbrev cc0_sem113_1 : DmaSem sig := 227
abbrev cc0_sem114_0 : DmaSem sig := 228
abbrev cc0_sem114_1 : DmaSem sig := 229
abbrev cc0_sem115_0 : DmaSem sig := 230
abbrev cc0_sem115_1 : DmaSem sig := 231
abbrev cc0_sem116_0 : DmaSem sig := 232
abbrev cc0_sem116_1 : DmaSem sig := 233
abbrev cc0_sem117_0 : DmaSem sig := 234
abbrev cc0_sem117_1 : DmaSem sig := 235
abbrev cc0_sem118_0 : DmaSem sig := 236
abbrev cc0_sem118_1 : DmaSem sig := 237
abbrev cc0_sem119_0 : DmaSem sig := 238
abbrev cc0_sem119_1 : DmaSem sig := 239
abbrev cc0_sem120_0 : DmaSem sig := 240
abbrev cc0_sem120_1 : DmaSem sig := 241
abbrev cc0_sem121_0 : DmaSem sig := 242
abbrev cc0_sem121_1 : DmaSem sig := 243
abbrev cc0_sem122_0 : DmaSem sig := 244
abbrev cc0_sem122_1 : DmaSem sig := 245
abbrev cc0_sem123_0 : DmaSem sig := 246
abbrev cc0_sem123_1 : DmaSem sig := 247
abbrev cc0_sem124_0 : DmaSem sig := 248
abbrev cc0_sem124_1 : DmaSem sig := 249
abbrev cc0_sem125_0 : DmaSem sig := 250
abbrev cc0_sem125_1 : DmaSem sig := 251
abbrev cc0_sem126_0 : DmaSem sig := 252
abbrev cc0_sem126_1 : DmaSem sig := 253
abbrev cc0_sem127_0 : DmaSem sig := 254
abbrev cc0_sem127_1 : DmaSem sig := 255
abbrev cc0_sem128_0 : DmaSem sig := 256
abbrev cc0_sem128_1 : DmaSem sig := 257
abbrev cc0_sem129_0 : DmaSem sig := 258
abbrev cc0_sem129_1 : DmaSem sig := 259
abbrev cc0_sem130_0 : DmaSem sig := 260
abbrev cc0_sem131_0 : DmaSem sig := 261
abbrev cc0_sem132_0 : DmaSem sig := 262
abbrev cc0_sem132_1 : DmaSem sig := 263
abbrev cc0_sem133_0 : DmaSem sig := 264
abbrev cc0_sem133_1 : DmaSem sig := 265

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) (c0_i32_4 : BitVec 32) : Fin 1 → Nat :=
  let arg0 : BitVec 32 := BitVec.ofNat 32 (i 0).val
  let c64_i32 : BitVec 32 := 64#32
  let v17 : BitVec 32 := Scalar.muli arg0 c64_i32
  let v18 : BitVec 32 := Scalar.addi v17 c0_i32_4
  let v19 : Index := Scalar.indexCast v18
  ![v19.toNat]
def k0_off2 (v30 : BitVec 32) : Fin 2 → Nat :=
  let v31 : Index := Scalar.indexCast v30
  let c0_9 : Index := 0#32
  ![v31.toNat, 0]

def k0_chk1 (v30 : BitVec 32) : Prop :=
  (∀ a, (k0_off2 v30) a + S1x1024.size a ≤ S512x1024.size a)
theorem k0_off2_inb : ∀ (v30 : BitVec 32) (k0_hw1 : k0_chk1 v30), ∀ a, (k0_off2 v30) a + S1x1024.size a ≤ S512x1024.size a := fun v30 k0_hw1 => k0_hw1

def k0_off3 (i : grid0.Coords) : Fin 1 → Nat :=
  let arg0 : BitVec 32 := BitVec.ofNat 32 (i 0).val
  let c64_i32 : BitVec 32 := 64#32
  let v0 : BitVec 32 := Scalar.muli arg0 c64_i32
  let c1_i32_10 : BitVec 32 := 1#32
  let v33 : BitVec 32 := Scalar.addi v0 c1_i32_10
  let v34 : Index := Scalar.indexCast v33
  ![v34.toNat]
def k0_off4 (v35 : BitVec 32) : Fin 2 → Nat :=
  let v36 : Index := Scalar.indexCast v35
  let c0_11 : Index := 0#32
  ![v36.toNat, 0]

def k0_chk2 (v35 : BitVec 32) : Prop :=
  (∀ a, (k0_off4 v35) a + S1x1024.size a ≤ S512x1024.size a)
theorem k0_off4_inb : ∀ (v35 : BitVec 32) (k0_hw2 : k0_chk2 v35), ∀ a, (k0_off4 v35) a + S1x1024.size a ≤ S512x1024.size a := fun v35 k0_hw2 => k0_hw2

def k0_off5 (i : grid0.Coords) : Fin 1 → Nat :=
  let arg0 : BitVec 32 := BitVec.ofNat 32 (i 0).val
  let c64_i32 : BitVec 32 := 64#32
  let v0 : BitVec 32 := Scalar.muli arg0 c64_i32
  let c2_i32 : BitVec 32 := 2#32
  let v38 : BitVec 32 := Scalar.addi v0 c2_i32
  let v39 : Index := Scalar.indexCast v38
  ![v39.toNat]
def k0_off6 (v40 : BitVec 32) : Fin 2 → Nat :=
  let v41 : Index := Scalar.indexCast v40
  let c0_12 : Index := 0#32
  ![v41.toNat, 0]

def k0_chk3 (v40 : BitVec 32) : Prop :=
  (∀ a, (k0_off6 v40) a + S1x1024.size a ≤ S512x1024.size a)
theorem k0_off6_inb : ∀ (v40 : BitVec 32) (k0_hw3 : k0_chk3 v40), ∀ a, (k0_off6 v40) a + S1x1024.size a ≤ S512x1024.size a := fun v40 k0_hw3 => k0_hw3

def k0_off7 (i : grid0.Coords) : Fin 1 → Nat :=
  let arg0 : BitVec 32 := BitVec.ofNat 32 (i 0).val
  let c64_i32 : BitVec 32 := 64#32
  let v0 : BitVec 32 := Scalar.muli arg0 c64_i32
  let c3_i32 : BitVec 32 := 3#32
  let v43 : BitVec 32 := Scalar.addi v0 c3_i32
  let v44 : Index := Scalar.indexCast v43
  ![v44.toNat]
def k0_off8 (v45 : BitVec 32) : Fin 2 → Nat :=
  let v46 : Index := Scalar.indexCast v45
  let c0_13 : Index := 0#32
  ![v46.toNat, 0]

def k0_chk4 (v45 : BitVec 32) : Prop :=
  (∀ a, (k0_off8 v45) a + S1x1024.size a ≤ S512x1024.size a)
theorem k0_off8_inb : ∀ (v45 : BitVec 32) (k0_hw4 : k0_chk4 v45), ∀ a, (k0_off8 v45) a + S1x1024.size a ≤ S512x1024.size a := fun v45 k0_hw4 => k0_hw4

def k0_off9 (i : grid0.Coords) : Fin 1 → Nat :=
  let arg0 : BitVec 32 := BitVec.ofNat 32 (i 0).val
  let c64_i32 : BitVec 32 := 64#32
  let v0 : BitVec 32 := Scalar.muli arg0 c64_i32
  let c4_i32 : BitVec 32 := 4#32
  let v48 : BitVec 32 := Scalar.addi v0 c4_i32
  let v49 : Index := Scalar.indexCast v48
  ![v49.toNat]
def k0_off10 (v50 : BitVec 32) : Fin 2 → Nat :=
  let v51 : Index := Scalar.indexCast v50
  let c0_14 : Index := 0#32
  ![v51.toNat, 0]

def k0_chk5 (v50 : BitVec 32) : Prop :=
  (∀ a, (k0_off10 v50) a + S1x1024.size a ≤ S512x1024.size a)
theorem k0_off10_inb : ∀ (v50 : BitVec 32) (k0_hw5 : k0_chk5 v50), ∀ a, (k0_off10 v50) a + S1x1024.size a ≤ S512x1024.size a := fun v50 k0_hw5 => k0_hw5

def k0_off11 (i : grid0.Coords) : Fin 1 → Nat :=
  let arg0 : BitVec 32 := BitVec.ofNat 32 (i 0).val
  let c64_i32 : BitVec 32 := 64#32
  let v0 : BitVec 32 := Scalar.muli arg0 c64_i32
  let c5_i32 : BitVec 32 := 5#32
  let v53 : BitVec 32 := Scalar.addi v0 c5_i32
  let v54 : Index := Scalar.indexCast v53
  ![v54.toNat]
def k0_off12 (v55 : BitVec 32) : Fin 2 → Nat :=
  let v56 : Index := Scalar.indexCast v55
  let c0_15 : Index := 0#32
  ![v56.toNat, 0]

def k0_chk6 (v55 : BitVec 32) : Prop :=
  (∀ a, (k0_off12 v55) a + S1x1024.size a ≤ S512x1024.size a)
theorem k0_off12_inb : ∀ (v55 : BitVec 32) (k0_hw6 : k0_chk6 v55), ∀ a, (k0_off12 v55) a + S1x1024.size a ≤ S512x1024.size a := fun v55 k0_hw6 => k0_hw6

def k0_off13 (i : grid0.Coords) : Fin 1 → Nat :=
  let arg0 : BitVec 32 := BitVec.ofNat 32 (i 0).val
  let c64_i32 : BitVec 32 := 64#32
  let v0 : BitVec 32 := Scalar.muli arg0 c64_i32
  let c6_i32 : BitVec 32 := 6#32
  let v58 : BitVec 32 := Scalar.addi v0 c6_i32
  let v59 : Index := Scalar.indexCast v58
  ![v59.toNat]
def k0_off14 (v60 : BitVec 32) : Fin 2 → Nat :=
  let v61 : Index := Scalar.indexCast v60
  let c0_16 : Index := 0#32
  ![v61.toNat, 0]

def k0_chk7 (v60 : BitVec 32) : Prop :=
  (∀ a, (k0_off14 v60) a + S1x1024.size a ≤ S512x1024.size a)
theorem k0_off14_inb : ∀ (v60 : BitVec 32) (k0_hw7 : k0_chk7 v60), ∀ a, (k0_off14 v60) a + S1x1024.size a ≤ S512x1024.size a := fun v60 k0_hw7 => k0_hw7

def k0_off15 (i : grid0.Coords) : Fin 1 → Nat :=
  let arg0 : BitVec 32 := BitVec.ofNat 32 (i 0).val
  let c64_i32 : BitVec 32 := 64#32
  let v0 : BitVec 32 := Scalar.muli arg0 c64_i32
  let c7_i32 : BitVec 32 := 7#32
  let v63 : BitVec 32 := Scalar.addi v0 c7_i32
  let v64 : Index := Scalar.indexCast v63
  ![v64.toNat]
def k0_off16 (v65 : BitVec 32) : Fin 2 → Nat :=
  let v66 : Index := Scalar.indexCast v65
  let c0_17 : Index := 0#32
  ![v66.toNat, 0]

def k0_chk8 (v65 : BitVec 32) : Prop :=
  (∀ a, (k0_off16 v65) a + S1x1024.size a ≤ S512x1024.size a)
theorem k0_off16_inb : ∀ (v65 : BitVec 32) (k0_hw8 : k0_chk8 v65), ∀ a, (k0_off16 v65) a + S1x1024.size a ≤ S512x1024.size a := fun v65 k0_hw8 => k0_hw8

def k0_off17 (i : grid0.Coords) : Fin 1 → Nat :=
  let arg0 : BitVec 32 := BitVec.ofNat 32 (i 0).val
  let c64_i32 : BitVec 32 := 64#32
  let v0 : BitVec 32 := Scalar.muli arg0 c64_i32
  let c8_i32 : BitVec 32 := 8#32
  let v68 : BitVec 32 := Scalar.addi v0 c8_i32
  let v69 : Index := Scalar.indexCast v68
  ![v69.toNat]
def k0_off18 (v70 : BitVec 32) : Fin 2 → Nat :=
  let v71 : Index := Scalar.indexCast v70
  let c0_18 : Index := 0#32
  ![v71.toNat, 0]

def k0_chk9 (v70 : BitVec 32) : Prop :=
  (∀ a, (k0_off18 v70) a + S1x1024.size a ≤ S512x1024.size a)
theorem k0_off18_inb : ∀ (v70 : BitVec 32) (k0_hw9 : k0_chk9 v70), ∀ a, (k0_off18 v70) a + S1x1024.size a ≤ S512x1024.size a := fun v70 k0_hw9 => k0_hw9

def k0_off19 (i : grid0.Coords) : Fin 1 → Nat :=
  let arg0 : BitVec 32 := BitVec.ofNat 32 (i 0).val
  let c64_i32 : BitVec 32 := 64#32
  let v0 : BitVec 32 := Scalar.muli arg0 c64_i32
  let c9_i32 : BitVec 32 := 9#32
  let v73 : BitVec 32 := Scalar.addi v0 c9_i32
  let v74 : Index := Scalar.indexCast v73
  ![v74.toNat]
def k0_off20 (v75 : BitVec 32) : Fin 2 → Nat :=
  let v76 : Index := Scalar.indexCast v75
  let c0_19 : Index := 0#32
  ![v76.toNat, 0]

def k0_chk10 (v75 : BitVec 32) : Prop :=
  (∀ a, (k0_off20 v75) a + S1x1024.size a ≤ S512x1024.size a)
theorem k0_off20_inb : ∀ (v75 : BitVec 32) (k0_hw10 : k0_chk10 v75), ∀ a, (k0_off20 v75) a + S1x1024.size a ≤ S512x1024.size a := fun v75 k0_hw10 => k0_hw10

def k0_off21 (i : grid0.Coords) : Fin 1 → Nat :=
  let arg0 : BitVec 32 := BitVec.ofNat 32 (i 0).val
  let c64_i32 : BitVec 32 := 64#32
  let v0 : BitVec 32 := Scalar.muli arg0 c64_i32
  let c10_i32 : BitVec 32 := 10#32
  let v78 : BitVec 32 := Scalar.addi v0 c10_i32
  let v79 : Index := Scalar.indexCast v78
  ![v79.toNat]
def k0_off22 (v80 : BitVec 32) : Fin 2 → Nat :=
  let v81 : Index := Scalar.indexCast v80
  let c0_20 : Index := 0#32
  ![v81.toNat, 0]

def k0_chk11 (v80 : BitVec 32) : Prop :=
  (∀ a, (k0_off22 v80) a + S1x1024.size a ≤ S512x1024.size a)
theorem k0_off22_inb : ∀ (v80 : BitVec 32) (k0_hw11 : k0_chk11 v80), ∀ a, (k0_off22 v80) a + S1x1024.size a ≤ S512x1024.size a := fun v80 k0_hw11 => k0_hw11

def k0_off23 (i : grid0.Coords) : Fin 1 → Nat :=
  let arg0 : BitVec 32 := BitVec.ofNat 32 (i 0).val
  let c64_i32 : BitVec 32 := 64#32
  let v0 : BitVec 32 := Scalar.muli arg0 c64_i32
  let c11_i32 : BitVec 32 := 11#32
  let v83 : BitVec 32 := Scalar.addi v0 c11_i32
  let v84 : Index := Scalar.indexCast v83
  ![v84.toNat]
def k0_off24 (v85 : BitVec 32) : Fin 2 → Nat :=
  let v86 : Index := Scalar.indexCast v85
  let c0_21 : Index := 0#32
  ![v86.toNat, 0]

def k0_chk12 (v85 : BitVec 32) : Prop :=
  (∀ a, (k0_off24 v85) a + S1x1024.size a ≤ S512x1024.size a)
theorem k0_off24_inb : ∀ (v85 : BitVec 32) (k0_hw12 : k0_chk12 v85), ∀ a, (k0_off24 v85) a + S1x1024.size a ≤ S512x1024.size a := fun v85 k0_hw12 => k0_hw12

def k0_off25 (i : grid0.Coords) : Fin 1 → Nat :=
  let arg0 : BitVec 32 := BitVec.ofNat 32 (i 0).val
  let c64_i32 : BitVec 32 := 64#32
  let v0 : BitVec 32 := Scalar.muli arg0 c64_i32
  let c12_i32 : BitVec 32 := 12#32
  let v88 : BitVec 32 := Scalar.addi v0 c12_i32
  let v89 : Index := Scalar.indexCast v88
  ![v89.toNat]
def k0_off26 (v90 : BitVec 32) : Fin 2 → Nat :=
  let v91 : Index := Scalar.indexCast v90
  let c0_22 : Index := 0#32
  ![v91.toNat, 0]

def k0_chk13 (v90 : BitVec 32) : Prop :=
  (∀ a, (k0_off26 v90) a + S1x1024.size a ≤ S512x1024.size a)
theorem k0_off26_inb : ∀ (v90 : BitVec 32) (k0_hw13 : k0_chk13 v90), ∀ a, (k0_off26 v90) a + S1x1024.size a ≤ S512x1024.size a := fun v90 k0_hw13 => k0_hw13

def k0_off27 (i : grid0.Coords) : Fin 1 → Nat :=
  let arg0 : BitVec 32 := BitVec.ofNat 32 (i 0).val
  let c64_i32 : BitVec 32 := 64#32
  let v0 : BitVec 32 := Scalar.muli arg0 c64_i32
  let c13_i32 : BitVec 32 := 13#32
  let v93 : BitVec 32 := Scalar.addi v0 c13_i32
  let v94 : Index := Scalar.indexCast v93
  ![v94.toNat]
def k0_off28 (v95 : BitVec 32) : Fin 2 → Nat :=
  let v96 : Index := Scalar.indexCast v95
  let c0_23 : Index := 0#32
  ![v96.toNat, 0]

def k0_chk14 (v95 : BitVec 32) : Prop :=
  (∀ a, (k0_off28 v95) a + S1x1024.size a ≤ S512x1024.size a)
theorem k0_off28_inb : ∀ (v95 : BitVec 32) (k0_hw14 : k0_chk14 v95), ∀ a, (k0_off28 v95) a + S1x1024.size a ≤ S512x1024.size a := fun v95 k0_hw14 => k0_hw14

def k0_off29 (i : grid0.Coords) : Fin 1 → Nat :=
  let arg0 : BitVec 32 := BitVec.ofNat 32 (i 0).val
  let c64_i32 : BitVec 32 := 64#32
  let v0 : BitVec 32 := Scalar.muli arg0 c64_i32
  let c14_i32 : BitVec 32 := 14#32
  let v98 : BitVec 32 := Scalar.addi v0 c14_i32
  let v99 : Index := Scalar.indexCast v98
  ![v99.toNat]
def k0_off30 (v100 : BitVec 32) : Fin 2 → Nat :=
  let v101 : Index := Scalar.indexCast v100
  let c0_24 : Index := 0#32
  ![v101.toNat, 0]

def k0_chk15 (v100 : BitVec 32) : Prop :=
  (∀ a, (k0_off30 v100) a + S1x1024.size a ≤ S512x1024.size a)
theorem k0_off30_inb : ∀ (v100 : BitVec 32) (k0_hw15 : k0_chk15 v100), ∀ a, (k0_off30 v100) a + S1x1024.size a ≤ S512x1024.size a := fun v100 k0_hw15 => k0_hw15

def k0_off31 (i : grid0.Coords) : Fin 1 → Nat :=
  let arg0 : BitVec 32 := BitVec.ofNat 32 (i 0).val
  let c64_i32 : BitVec 32 := 64#32
  let v0 : BitVec 32 := Scalar.muli arg0 c64_i32
  let c15_i32 : BitVec 32 := 15#32
  let v103 : BitVec 32 := Scalar.addi v0 c15_i32
  let v104 : Index := Scalar.indexCast v103
  ![v104.toNat]
def k0_off32 (v105 : BitVec 32) : Fin 2 → Nat :=
  let v106 : Index := Scalar.indexCast v105
  let c0_25 : Index := 0#32
  ![v106.toNat, 0]

def k0_chk16 (v105 : BitVec 32) : Prop :=
  (∀ a, (k0_off32 v105) a + S1x1024.size a ≤ S512x1024.size a)
theorem k0_off32_inb : ∀ (v105 : BitVec 32) (k0_hw16 : k0_chk16 v105), ∀ a, (k0_off32 v105) a + S1x1024.size a ≤ S512x1024.size a := fun v105 k0_hw16 => k0_hw16

def k0_off33 (i : grid0.Coords) : Fin 1 → Nat :=
  let arg0 : BitVec 32 := BitVec.ofNat 32 (i 0).val
  let c64_i32 : BitVec 32 := 64#32
  let v0 : BitVec 32 := Scalar.muli arg0 c64_i32
  let c16_i32 : BitVec 32 := 16#32
  let v108 : BitVec 32 := Scalar.addi v0 c16_i32
  let v109 : Index := Scalar.indexCast v108
  ![v109.toNat]
def k0_off34 (v110 : BitVec 32) : Fin 2 → Nat :=
  let v111 : Index := Scalar.indexCast v110
  let c0_26 : Index := 0#32
  ![v111.toNat, 0]

def k0_chk17 (v110 : BitVec 32) : Prop :=
  (∀ a, (k0_off34 v110) a + S1x1024.size a ≤ S512x1024.size a)
theorem k0_off34_inb : ∀ (v110 : BitVec 32) (k0_hw17 : k0_chk17 v110), ∀ a, (k0_off34 v110) a + S1x1024.size a ≤ S512x1024.size a := fun v110 k0_hw17 => k0_hw17

def k0_off35 (i : grid0.Coords) : Fin 1 → Nat :=
  let arg0 : BitVec 32 := BitVec.ofNat 32 (i 0).val
  let c64_i32 : BitVec 32 := 64#32
  let v0 : BitVec 32 := Scalar.muli arg0 c64_i32
  let c17_i32 : BitVec 32 := 17#32
  let v113 : BitVec 32 := Scalar.addi v0 c17_i32
  let v114 : Index := Scalar.indexCast v113
  ![v114.toNat]
def k0_off36 (v115 : BitVec 32) : Fin 2 → Nat :=
  let v116 : Index := Scalar.indexCast v115
  let c0_27 : Index := 0#32
  ![v116.toNat, 0]

def k0_chk18 (v115 : BitVec 32) : Prop :=
  (∀ a, (k0_off36 v115) a + S1x1024.size a ≤ S512x1024.size a)
theorem k0_off36_inb : ∀ (v115 : BitVec 32) (k0_hw18 : k0_chk18 v115), ∀ a, (k0_off36 v115) a + S1x1024.size a ≤ S512x1024.size a := fun v115 k0_hw18 => k0_hw18

def k0_off37 (i : grid0.Coords) : Fin 1 → Nat :=
  let arg0 : BitVec 32 := BitVec.ofNat 32 (i 0).val
  let c64_i32 : BitVec 32 := 64#32
  let v0 : BitVec 32 := Scalar.muli arg0 c64_i32
  let c18_i32 : BitVec 32 := 18#32
  let v118 : BitVec 32 := Scalar.addi v0 c18_i32
  let v119 : Index := Scalar.indexCast v118
  ![v119.toNat]
def k0_off38 (v120 : BitVec 32) : Fin 2 → Nat :=
  let v121 : Index := Scalar.indexCast v120
  let c0_28 : Index := 0#32
  ![v121.toNat, 0]

def k0_chk19 (v120 : BitVec 32) : Prop :=
  (∀ a, (k0_off38 v120) a + S1x1024.size a ≤ S512x1024.size a)
theorem k0_off38_inb : ∀ (v120 : BitVec 32) (k0_hw19 : k0_chk19 v120), ∀ a, (k0_off38 v120) a + S1x1024.size a ≤ S512x1024.size a := fun v120 k0_hw19 => k0_hw19

def k0_off39 (i : grid0.Coords) : Fin 1 → Nat :=
  let arg0 : BitVec 32 := BitVec.ofNat 32 (i 0).val
  let c64_i32 : BitVec 32 := 64#32
  let v0 : BitVec 32 := Scalar.muli arg0 c64_i32
  let c19_i32 : BitVec 32 := 19#32
  let v123 : BitVec 32 := Scalar.addi v0 c19_i32
  let v124 : Index := Scalar.indexCast v123
  ![v124.toNat]
def k0_off40 (v125 : BitVec 32) : Fin 2 → Nat :=
  let v126 : Index := Scalar.indexCast v125
  let c0_29 : Index := 0#32
  ![v126.toNat, 0]

def k0_chk20 (v125 : BitVec 32) : Prop :=
  (∀ a, (k0_off40 v125) a + S1x1024.size a ≤ S512x1024.size a)
theorem k0_off40_inb : ∀ (v125 : BitVec 32) (k0_hw20 : k0_chk20 v125), ∀ a, (k0_off40 v125) a + S1x1024.size a ≤ S512x1024.size a := fun v125 k0_hw20 => k0_hw20

def k0_off41 (i : grid0.Coords) : Fin 1 → Nat :=
  let arg0 : BitVec 32 := BitVec.ofNat 32 (i 0).val
  let c64_i32 : BitVec 32 := 64#32
  let v0 : BitVec 32 := Scalar.muli arg0 c64_i32
  let c20_i32 : BitVec 32 := 20#32
  let v128 : BitVec 32 := Scalar.addi v0 c20_i32
  let v129 : Index := Scalar.indexCast v128
  ![v129.toNat]
def k0_off42 (v130 : BitVec 32) : Fin 2 → Nat :=
  let v131 : Index := Scalar.indexCast v130
  let c0_30 : Index := 0#32
  ![v131.toNat, 0]

def k0_chk21 (v130 : BitVec 32) : Prop :=
  (∀ a, (k0_off42 v130) a + S1x1024.size a ≤ S512x1024.size a)
theorem k0_off42_inb : ∀ (v130 : BitVec 32) (k0_hw21 : k0_chk21 v130), ∀ a, (k0_off42 v130) a + S1x1024.size a ≤ S512x1024.size a := fun v130 k0_hw21 => k0_hw21

def k0_off43 (i : grid0.Coords) : Fin 1 → Nat :=
  let arg0 : BitVec 32 := BitVec.ofNat 32 (i 0).val
  let c64_i32 : BitVec 32 := 64#32
  let v0 : BitVec 32 := Scalar.muli arg0 c64_i32
  let c21_i32 : BitVec 32 := 21#32
  let v133 : BitVec 32 := Scalar.addi v0 c21_i32
  let v134 : Index := Scalar.indexCast v133
  ![v134.toNat]
def k0_off44 (v135 : BitVec 32) : Fin 2 → Nat :=
  let v136 : Index := Scalar.indexCast v135
  let c0_31 : Index := 0#32
  ![v136.toNat, 0]

def k0_chk22 (v135 : BitVec 32) : Prop :=
  (∀ a, (k0_off44 v135) a + S1x1024.size a ≤ S512x1024.size a)
theorem k0_off44_inb : ∀ (v135 : BitVec 32) (k0_hw22 : k0_chk22 v135), ∀ a, (k0_off44 v135) a + S1x1024.size a ≤ S512x1024.size a := fun v135 k0_hw22 => k0_hw22

def k0_off45 (i : grid0.Coords) : Fin 1 → Nat :=
  let arg0 : BitVec 32 := BitVec.ofNat 32 (i 0).val
  let c64_i32 : BitVec 32 := 64#32
  let v0 : BitVec 32 := Scalar.muli arg0 c64_i32
  let c22_i32 : BitVec 32 := 22#32
  let v138 : BitVec 32 := Scalar.addi v0 c22_i32
  let v139 : Index := Scalar.indexCast v138
  ![v139.toNat]
def k0_off46 (v140 : BitVec 32) : Fin 2 → Nat :=
  let v141 : Index := Scalar.indexCast v140
  let c0_32 : Index := 0#32
  ![v141.toNat, 0]

def k0_chk23 (v140 : BitVec 32) : Prop :=
  (∀ a, (k0_off46 v140) a + S1x1024.size a ≤ S512x1024.size a)
theorem k0_off46_inb : ∀ (v140 : BitVec 32) (k0_hw23 : k0_chk23 v140), ∀ a, (k0_off46 v140) a + S1x1024.size a ≤ S512x1024.size a := fun v140 k0_hw23 => k0_hw23

def k0_off47 (i : grid0.Coords) : Fin 1 → Nat :=
  let arg0 : BitVec 32 := BitVec.ofNat 32 (i 0).val
  let c64_i32 : BitVec 32 := 64#32
  let v0 : BitVec 32 := Scalar.muli arg0 c64_i32
  let c23_i32 : BitVec 32 := 23#32
  let v143 : BitVec 32 := Scalar.addi v0 c23_i32
  let v144 : Index := Scalar.indexCast v143
  ![v144.toNat]
def k0_off48 (v145 : BitVec 32) : Fin 2 → Nat :=
  let v146 : Index := Scalar.indexCast v145
  let c0_33 : Index := 0#32
  ![v146.toNat, 0]

def k0_chk24 (v145 : BitVec 32) : Prop :=
  (∀ a, (k0_off48 v145) a + S1x1024.size a ≤ S512x1024.size a)
theorem k0_off48_inb : ∀ (v145 : BitVec 32) (k0_hw24 : k0_chk24 v145), ∀ a, (k0_off48 v145) a + S1x1024.size a ≤ S512x1024.size a := fun v145 k0_hw24 => k0_hw24

def k0_off49 (i : grid0.Coords) : Fin 1 → Nat :=
  let arg0 : BitVec 32 := BitVec.ofNat 32 (i 0).val
  let c64_i32 : BitVec 32 := 64#32
  let v0 : BitVec 32 := Scalar.muli arg0 c64_i32
  let c24_i32 : BitVec 32 := 24#32
  let v148 : BitVec 32 := Scalar.addi v0 c24_i32
  let v149 : Index := Scalar.indexCast v148
  ![v149.toNat]
def k0_off50 (v150 : BitVec 32) : Fin 2 → Nat :=
  let v151 : Index := Scalar.indexCast v150
  let c0_34 : Index := 0#32
  ![v151.toNat, 0]

def k0_chk25 (v150 : BitVec 32) : Prop :=
  (∀ a, (k0_off50 v150) a + S1x1024.size a ≤ S512x1024.size a)
theorem k0_off50_inb : ∀ (v150 : BitVec 32) (k0_hw25 : k0_chk25 v150), ∀ a, (k0_off50 v150) a + S1x1024.size a ≤ S512x1024.size a := fun v150 k0_hw25 => k0_hw25

def k0_off51 (i : grid0.Coords) : Fin 1 → Nat :=
  let arg0 : BitVec 32 := BitVec.ofNat 32 (i 0).val
  let c64_i32 : BitVec 32 := 64#32
  let v0 : BitVec 32 := Scalar.muli arg0 c64_i32
  let c25_i32 : BitVec 32 := 25#32
  let v153 : BitVec 32 := Scalar.addi v0 c25_i32
  let v154 : Index := Scalar.indexCast v153
  ![v154.toNat]
def k0_off52 (v155 : BitVec 32) : Fin 2 → Nat :=
  let v156 : Index := Scalar.indexCast v155
  let c0_35 : Index := 0#32
  ![v156.toNat, 0]

def k0_chk26 (v155 : BitVec 32) : Prop :=
  (∀ a, (k0_off52 v155) a + S1x1024.size a ≤ S512x1024.size a)
theorem k0_off52_inb : ∀ (v155 : BitVec 32) (k0_hw26 : k0_chk26 v155), ∀ a, (k0_off52 v155) a + S1x1024.size a ≤ S512x1024.size a := fun v155 k0_hw26 => k0_hw26

def k0_off53 (i : grid0.Coords) : Fin 1 → Nat :=
  let arg0 : BitVec 32 := BitVec.ofNat 32 (i 0).val
  let c64_i32 : BitVec 32 := 64#32
  let v0 : BitVec 32 := Scalar.muli arg0 c64_i32
  let c26_i32 : BitVec 32 := 26#32
  let v158 : BitVec 32 := Scalar.addi v0 c26_i32
  let v159 : Index := Scalar.indexCast v158
  ![v159.toNat]
def k0_off54 (v160 : BitVec 32) : Fin 2 → Nat :=
  let v161 : Index := Scalar.indexCast v160
  let c0_36 : Index := 0#32
  ![v161.toNat, 0]

def k0_chk27 (v160 : BitVec 32) : Prop :=
  (∀ a, (k0_off54 v160) a + S1x1024.size a ≤ S512x1024.size a)
theorem k0_off54_inb : ∀ (v160 : BitVec 32) (k0_hw27 : k0_chk27 v160), ∀ a, (k0_off54 v160) a + S1x1024.size a ≤ S512x1024.size a := fun v160 k0_hw27 => k0_hw27

def k0_off55 (i : grid0.Coords) : Fin 1 → Nat :=
  let arg0 : BitVec 32 := BitVec.ofNat 32 (i 0).val
  let c64_i32 : BitVec 32 := 64#32
  let v0 : BitVec 32 := Scalar.muli arg0 c64_i32
  let c27_i32 : BitVec 32 := 27#32
  let v163 : BitVec 32 := Scalar.addi v0 c27_i32
  let v164 : Index := Scalar.indexCast v163
  ![v164.toNat]
def k0_off56 (v165 : BitVec 32) : Fin 2 → Nat :=
  let v166 : Index := Scalar.indexCast v165
  let c0_37 : Index := 0#32
  ![v166.toNat, 0]

def k0_chk28 (v165 : BitVec 32) : Prop :=
  (∀ a, (k0_off56 v165) a + S1x1024.size a ≤ S512x1024.size a)
theorem k0_off56_inb : ∀ (v165 : BitVec 32) (k0_hw28 : k0_chk28 v165), ∀ a, (k0_off56 v165) a + S1x1024.size a ≤ S512x1024.size a := fun v165 k0_hw28 => k0_hw28

def k0_off57 (i : grid0.Coords) : Fin 1 → Nat :=
  let arg0 : BitVec 32 := BitVec.ofNat 32 (i 0).val
  let c64_i32 : BitVec 32 := 64#32
  let v0 : BitVec 32 := Scalar.muli arg0 c64_i32
  let c28_i32 : BitVec 32 := 28#32
  let v168 : BitVec 32 := Scalar.addi v0 c28_i32
  let v169 : Index := Scalar.indexCast v168
  ![v169.toNat]
def k0_off58 (v170 : BitVec 32) : Fin 2 → Nat :=
  let v171 : Index := Scalar.indexCast v170
  let c0_38 : Index := 0#32
  ![v171.toNat, 0]

def k0_chk29 (v170 : BitVec 32) : Prop :=
  (∀ a, (k0_off58 v170) a + S1x1024.size a ≤ S512x1024.size a)
theorem k0_off58_inb : ∀ (v170 : BitVec 32) (k0_hw29 : k0_chk29 v170), ∀ a, (k0_off58 v170) a + S1x1024.size a ≤ S512x1024.size a := fun v170 k0_hw29 => k0_hw29

def k0_off59 (i : grid0.Coords) : Fin 1 → Nat :=
  let arg0 : BitVec 32 := BitVec.ofNat 32 (i 0).val
  let c64_i32 : BitVec 32 := 64#32
  let v0 : BitVec 32 := Scalar.muli arg0 c64_i32
  let c29_i32 : BitVec 32 := 29#32
  let v173 : BitVec 32 := Scalar.addi v0 c29_i32
  let v174 : Index := Scalar.indexCast v173
  ![v174.toNat]
def k0_off60 (v175 : BitVec 32) : Fin 2 → Nat :=
  let v176 : Index := Scalar.indexCast v175
  let c0_39 : Index := 0#32
  ![v176.toNat, 0]

def k0_chk30 (v175 : BitVec 32) : Prop :=
  (∀ a, (k0_off60 v175) a + S1x1024.size a ≤ S512x1024.size a)
theorem k0_off60_inb : ∀ (v175 : BitVec 32) (k0_hw30 : k0_chk30 v175), ∀ a, (k0_off60 v175) a + S1x1024.size a ≤ S512x1024.size a := fun v175 k0_hw30 => k0_hw30

def k0_off61 (i : grid0.Coords) : Fin 1 → Nat :=
  let arg0 : BitVec 32 := BitVec.ofNat 32 (i 0).val
  let c64_i32 : BitVec 32 := 64#32
  let v0 : BitVec 32 := Scalar.muli arg0 c64_i32
  let c30_i32 : BitVec 32 := 30#32
  let v178 : BitVec 32 := Scalar.addi v0 c30_i32
  let v179 : Index := Scalar.indexCast v178
  ![v179.toNat]
def k0_off62 (v180 : BitVec 32) : Fin 2 → Nat :=
  let v181 : Index := Scalar.indexCast v180
  let c0_40 : Index := 0#32
  ![v181.toNat, 0]

def k0_chk31 (v180 : BitVec 32) : Prop :=
  (∀ a, (k0_off62 v180) a + S1x1024.size a ≤ S512x1024.size a)
theorem k0_off62_inb : ∀ (v180 : BitVec 32) (k0_hw31 : k0_chk31 v180), ∀ a, (k0_off62 v180) a + S1x1024.size a ≤ S512x1024.size a := fun v180 k0_hw31 => k0_hw31

def k0_off63 (i : grid0.Coords) : Fin 1 → Nat :=
  let arg0 : BitVec 32 := BitVec.ofNat 32 (i 0).val
  let c64_i32 : BitVec 32 := 64#32
  let v0 : BitVec 32 := Scalar.muli arg0 c64_i32
  let c31_i32 : BitVec 32 := 31#32
  let v183 : BitVec 32 := Scalar.addi v0 c31_i32
  let v184 : Index := Scalar.indexCast v183
  ![v184.toNat]
def k0_off64 (v185 : BitVec 32) : Fin 2 → Nat :=
  let v186 : Index := Scalar.indexCast v185
  let c0_41 : Index := 0#32
  ![v186.toNat, 0]

def k0_chk32 (v185 : BitVec 32) : Prop :=
  (∀ a, (k0_off64 v185) a + S1x1024.size a ≤ S512x1024.size a)
theorem k0_off64_inb : ∀ (v185 : BitVec 32) (k0_hw32 : k0_chk32 v185), ∀ a, (k0_off64 v185) a + S1x1024.size a ≤ S512x1024.size a := fun v185 k0_hw32 => k0_hw32

def k0_off65 (i : grid0.Coords) : Fin 1 → Nat :=
  let arg0 : BitVec 32 := BitVec.ofNat 32 (i 0).val
  let c64_i32 : BitVec 32 := 64#32
  let v0 : BitVec 32 := Scalar.muli arg0 c64_i32
  let c32_i32_42 : BitVec 32 := 32#32
  let v188 : BitVec 32 := Scalar.addi v0 c32_i32_42
  let v189 : Index := Scalar.indexCast v188
  ![v189.toNat]
def k0_off66 (v190 : BitVec 32) : Fin 2 → Nat :=
  let v191 : Index := Scalar.indexCast v190
  let c0_43 : Index := 0#32
  ![v191.toNat, 0]

def k0_chk33 (v190 : BitVec 32) : Prop :=
  (∀ a, (k0_off66 v190) a + S1x1024.size a ≤ S512x1024.size a)
theorem k0_off66_inb : ∀ (v190 : BitVec 32) (k0_hw33 : k0_chk33 v190), ∀ a, (k0_off66 v190) a + S1x1024.size a ≤ S512x1024.size a := fun v190 k0_hw33 => k0_hw33

def k0_off67 (i : grid0.Coords) : Fin 1 → Nat :=
  let arg0 : BitVec 32 := BitVec.ofNat 32 (i 0).val
  let c64_i32 : BitVec 32 := 64#32
  let v0 : BitVec 32 := Scalar.muli arg0 c64_i32
  let c33_i32 : BitVec 32 := 33#32
  let v193 : BitVec 32 := Scalar.addi v0 c33_i32
  let v194 : Index := Scalar.indexCast v193
  ![v194.toNat]
def k0_off68 (v195 : BitVec 32) : Fin 2 → Nat :=
  let v196 : Index := Scalar.indexCast v195
  let c0_44 : Index := 0#32
  ![v196.toNat, 0]

def k0_chk34 (v195 : BitVec 32) : Prop :=
  (∀ a, (k0_off68 v195) a + S1x1024.size a ≤ S512x1024.size a)
theorem k0_off68_inb : ∀ (v195 : BitVec 32) (k0_hw34 : k0_chk34 v195), ∀ a, (k0_off68 v195) a + S1x1024.size a ≤ S512x1024.size a := fun v195 k0_hw34 => k0_hw34

def k0_off69 (i : grid0.Coords) : Fin 1 → Nat :=
  let arg0 : BitVec 32 := BitVec.ofNat 32 (i 0).val
  let c64_i32 : BitVec 32 := 64#32
  let v0 : BitVec 32 := Scalar.muli arg0 c64_i32
  let c34_i32 : BitVec 32 := 34#32
  let v198 : BitVec 32 := Scalar.addi v0 c34_i32
  let v199 : Index := Scalar.indexCast v198
  ![v199.toNat]
def k0_off70 (v200 : BitVec 32) : Fin 2 → Nat :=
  let v201 : Index := Scalar.indexCast v200
  let c0_45 : Index := 0#32
  ![v201.toNat, 0]

def k0_chk35 (v200 : BitVec 32) : Prop :=
  (∀ a, (k0_off70 v200) a + S1x1024.size a ≤ S512x1024.size a)
theorem k0_off70_inb : ∀ (v200 : BitVec 32) (k0_hw35 : k0_chk35 v200), ∀ a, (k0_off70 v200) a + S1x1024.size a ≤ S512x1024.size a := fun v200 k0_hw35 => k0_hw35

def k0_off71 (i : grid0.Coords) : Fin 1 → Nat :=
  let arg0 : BitVec 32 := BitVec.ofNat 32 (i 0).val
  let c64_i32 : BitVec 32 := 64#32
  let v0 : BitVec 32 := Scalar.muli arg0 c64_i32
  let c35_i32 : BitVec 32 := 35#32
  let v203 : BitVec 32 := Scalar.addi v0 c35_i32
  let v204 : Index := Scalar.indexCast v203
  ![v204.toNat]
def k0_off72 (v205 : BitVec 32) : Fin 2 → Nat :=
  let v206 : Index := Scalar.indexCast v205
  let c0_46 : Index := 0#32
  ![v206.toNat, 0]

def k0_chk36 (v205 : BitVec 32) : Prop :=
  (∀ a, (k0_off72 v205) a + S1x1024.size a ≤ S512x1024.size a)
theorem k0_off72_inb : ∀ (v205 : BitVec 32) (k0_hw36 : k0_chk36 v205), ∀ a, (k0_off72 v205) a + S1x1024.size a ≤ S512x1024.size a := fun v205 k0_hw36 => k0_hw36

def k0_off73 (i : grid0.Coords) : Fin 1 → Nat :=
  let arg0 : BitVec 32 := BitVec.ofNat 32 (i 0).val
  let c64_i32 : BitVec 32 := 64#32
  let v0 : BitVec 32 := Scalar.muli arg0 c64_i32
  let c36_i32 : BitVec 32 := 36#32
  let v208 : BitVec 32 := Scalar.addi v0 c36_i32
  let v209 : Index := Scalar.indexCast v208
  ![v209.toNat]
def k0_off74 (v210 : BitVec 32) : Fin 2 → Nat :=
  let v211 : Index := Scalar.indexCast v210
  let c0_47 : Index := 0#32
  ![v211.toNat, 0]

def k0_chk37 (v210 : BitVec 32) : Prop :=
  (∀ a, (k0_off74 v210) a + S1x1024.size a ≤ S512x1024.size a)
theorem k0_off74_inb : ∀ (v210 : BitVec 32) (k0_hw37 : k0_chk37 v210), ∀ a, (k0_off74 v210) a + S1x1024.size a ≤ S512x1024.size a := fun v210 k0_hw37 => k0_hw37

def k0_off75 (i : grid0.Coords) : Fin 1 → Nat :=
  let arg0 : BitVec 32 := BitVec.ofNat 32 (i 0).val
  let c64_i32 : BitVec 32 := 64#32
  let v0 : BitVec 32 := Scalar.muli arg0 c64_i32
  let c37_i32 : BitVec 32 := 37#32
  let v213 : BitVec 32 := Scalar.addi v0 c37_i32
  let v214 : Index := Scalar.indexCast v213
  ![v214.toNat]
def k0_off76 (v215 : BitVec 32) : Fin 2 → Nat :=
  let v216 : Index := Scalar.indexCast v215
  let c0_48 : Index := 0#32
  ![v216.toNat, 0]

def k0_chk38 (v215 : BitVec 32) : Prop :=
  (∀ a, (k0_off76 v215) a + S1x1024.size a ≤ S512x1024.size a)
theorem k0_off76_inb : ∀ (v215 : BitVec 32) (k0_hw38 : k0_chk38 v215), ∀ a, (k0_off76 v215) a + S1x1024.size a ≤ S512x1024.size a := fun v215 k0_hw38 => k0_hw38

def k0_off77 (i : grid0.Coords) : Fin 1 → Nat :=
  let arg0 : BitVec 32 := BitVec.ofNat 32 (i 0).val
  let c64_i32 : BitVec 32 := 64#32
  let v0 : BitVec 32 := Scalar.muli arg0 c64_i32
  let c38_i32 : BitVec 32 := 38#32
  let v218 : BitVec 32 := Scalar.addi v0 c38_i32
  let v219 : Index := Scalar.indexCast v218
  ![v219.toNat]
def k0_off78 (v220 : BitVec 32) : Fin 2 → Nat :=
  let v221 : Index := Scalar.indexCast v220
  let c0_49 : Index := 0#32
  ![v221.toNat, 0]

def k0_chk39 (v220 : BitVec 32) : Prop :=
  (∀ a, (k0_off78 v220) a + S1x1024.size a ≤ S512x1024.size a)
theorem k0_off78_inb : ∀ (v220 : BitVec 32) (k0_hw39 : k0_chk39 v220), ∀ a, (k0_off78 v220) a + S1x1024.size a ≤ S512x1024.size a := fun v220 k0_hw39 => k0_hw39

def k0_off79 (i : grid0.Coords) : Fin 1 → Nat :=
  let arg0 : BitVec 32 := BitVec.ofNat 32 (i 0).val
  let c64_i32 : BitVec 32 := 64#32
  let v0 : BitVec 32 := Scalar.muli arg0 c64_i32
  let c39_i32 : BitVec 32 := 39#32
  let v223 : BitVec 32 := Scalar.addi v0 c39_i32
  let v224 : Index := Scalar.indexCast v223
  ![v224.toNat]
def k0_off80 (v225 : BitVec 32) : Fin 2 → Nat :=
  let v226 : Index := Scalar.indexCast v225
  let c0_50 : Index := 0#32
  ![v226.toNat, 0]

def k0_chk40 (v225 : BitVec 32) : Prop :=
  (∀ a, (k0_off80 v225) a + S1x1024.size a ≤ S512x1024.size a)
theorem k0_off80_inb : ∀ (v225 : BitVec 32) (k0_hw40 : k0_chk40 v225), ∀ a, (k0_off80 v225) a + S1x1024.size a ≤ S512x1024.size a := fun v225 k0_hw40 => k0_hw40

def k0_off81 (i : grid0.Coords) : Fin 1 → Nat :=
  let arg0 : BitVec 32 := BitVec.ofNat 32 (i 0).val
  let c64_i32 : BitVec 32 := 64#32
  let v0 : BitVec 32 := Scalar.muli arg0 c64_i32
  let c40_i32 : BitVec 32 := 40#32
  let v228 : BitVec 32 := Scalar.addi v0 c40_i32
  let v229 : Index := Scalar.indexCast v228
  ![v229.toNat]
def k0_off82 (v230 : BitVec 32) : Fin 2 → Nat :=
  let v231 : Index := Scalar.indexCast v230
  let c0_51 : Index := 0#32
  ![v231.toNat, 0]

def k0_chk41 (v230 : BitVec 32) : Prop :=
  (∀ a, (k0_off82 v230) a + S1x1024.size a ≤ S512x1024.size a)
theorem k0_off82_inb : ∀ (v230 : BitVec 32) (k0_hw41 : k0_chk41 v230), ∀ a, (k0_off82 v230) a + S1x1024.size a ≤ S512x1024.size a := fun v230 k0_hw41 => k0_hw41

def k0_off83 (i : grid0.Coords) : Fin 1 → Nat :=
  let arg0 : BitVec 32 := BitVec.ofNat 32 (i 0).val
  let c64_i32 : BitVec 32 := 64#32
  let v0 : BitVec 32 := Scalar.muli arg0 c64_i32
  let c41_i32 : BitVec 32 := 41#32
  let v233 : BitVec 32 := Scalar.addi v0 c41_i32
  let v234 : Index := Scalar.indexCast v233
  ![v234.toNat]
def k0_off84 (v235 : BitVec 32) : Fin 2 → Nat :=
  let v236 : Index := Scalar.indexCast v235
  let c0_52 : Index := 0#32
  ![v236.toNat, 0]

def k0_chk42 (v235 : BitVec 32) : Prop :=
  (∀ a, (k0_off84 v235) a + S1x1024.size a ≤ S512x1024.size a)
theorem k0_off84_inb : ∀ (v235 : BitVec 32) (k0_hw42 : k0_chk42 v235), ∀ a, (k0_off84 v235) a + S1x1024.size a ≤ S512x1024.size a := fun v235 k0_hw42 => k0_hw42

def k0_off85 (i : grid0.Coords) : Fin 1 → Nat :=
  let arg0 : BitVec 32 := BitVec.ofNat 32 (i 0).val
  let c64_i32 : BitVec 32 := 64#32
  let v0 : BitVec 32 := Scalar.muli arg0 c64_i32
  let c42_i32 : BitVec 32 := 42#32
  let v238 : BitVec 32 := Scalar.addi v0 c42_i32
  let v239 : Index := Scalar.indexCast v238
  ![v239.toNat]
def k0_off86 (v240 : BitVec 32) : Fin 2 → Nat :=
  let v241 : Index := Scalar.indexCast v240
  let c0_53 : Index := 0#32
  ![v241.toNat, 0]

def k0_chk43 (v240 : BitVec 32) : Prop :=
  (∀ a, (k0_off86 v240) a + S1x1024.size a ≤ S512x1024.size a)
theorem k0_off86_inb : ∀ (v240 : BitVec 32) (k0_hw43 : k0_chk43 v240), ∀ a, (k0_off86 v240) a + S1x1024.size a ≤ S512x1024.size a := fun v240 k0_hw43 => k0_hw43

def k0_off87 (i : grid0.Coords) : Fin 1 → Nat :=
  let arg0 : BitVec 32 := BitVec.ofNat 32 (i 0).val
  let c64_i32 : BitVec 32 := 64#32
  let v0 : BitVec 32 := Scalar.muli arg0 c64_i32
  let c43_i32 : BitVec 32 := 43#32
  let v243 : BitVec 32 := Scalar.addi v0 c43_i32
  let v244 : Index := Scalar.indexCast v243
  ![v244.toNat]
def k0_off88 (v245 : BitVec 32) : Fin 2 → Nat :=
  let v246 : Index := Scalar.indexCast v245
  let c0_54 : Index := 0#32
  ![v246.toNat, 0]

def k0_chk44 (v245 : BitVec 32) : Prop :=
  (∀ a, (k0_off88 v245) a + S1x1024.size a ≤ S512x1024.size a)
theorem k0_off88_inb : ∀ (v245 : BitVec 32) (k0_hw44 : k0_chk44 v245), ∀ a, (k0_off88 v245) a + S1x1024.size a ≤ S512x1024.size a := fun v245 k0_hw44 => k0_hw44

def k0_off89 (i : grid0.Coords) : Fin 1 → Nat :=
  let arg0 : BitVec 32 := BitVec.ofNat 32 (i 0).val
  let c64_i32 : BitVec 32 := 64#32
  let v0 : BitVec 32 := Scalar.muli arg0 c64_i32
  let c44_i32 : BitVec 32 := 44#32
  let v248 : BitVec 32 := Scalar.addi v0 c44_i32
  let v249 : Index := Scalar.indexCast v248
  ![v249.toNat]
def k0_off90 (v250 : BitVec 32) : Fin 2 → Nat :=
  let v251 : Index := Scalar.indexCast v250
  let c0_55 : Index := 0#32
  ![v251.toNat, 0]

def k0_chk45 (v250 : BitVec 32) : Prop :=
  (∀ a, (k0_off90 v250) a + S1x1024.size a ≤ S512x1024.size a)
theorem k0_off90_inb : ∀ (v250 : BitVec 32) (k0_hw45 : k0_chk45 v250), ∀ a, (k0_off90 v250) a + S1x1024.size a ≤ S512x1024.size a := fun v250 k0_hw45 => k0_hw45

def k0_off91 (i : grid0.Coords) : Fin 1 → Nat :=
  let arg0 : BitVec 32 := BitVec.ofNat 32 (i 0).val
  let c64_i32 : BitVec 32 := 64#32
  let v0 : BitVec 32 := Scalar.muli arg0 c64_i32
  let c45_i32 : BitVec 32 := 45#32
  let v253 : BitVec 32 := Scalar.addi v0 c45_i32
  let v254 : Index := Scalar.indexCast v253
  ![v254.toNat]
def k0_off92 (v255 : BitVec 32) : Fin 2 → Nat :=
  let v256 : Index := Scalar.indexCast v255
  let c0_56 : Index := 0#32
  ![v256.toNat, 0]

def k0_chk46 (v255 : BitVec 32) : Prop :=
  (∀ a, (k0_off92 v255) a + S1x1024.size a ≤ S512x1024.size a)
theorem k0_off92_inb : ∀ (v255 : BitVec 32) (k0_hw46 : k0_chk46 v255), ∀ a, (k0_off92 v255) a + S1x1024.size a ≤ S512x1024.size a := fun v255 k0_hw46 => k0_hw46

def k0_off93 (i : grid0.Coords) : Fin 1 → Nat :=
  let arg0 : BitVec 32 := BitVec.ofNat 32 (i 0).val
  let c64_i32 : BitVec 32 := 64#32
  let v0 : BitVec 32 := Scalar.muli arg0 c64_i32
  let c46_i32 : BitVec 32 := 46#32
  let v258 : BitVec 32 := Scalar.addi v0 c46_i32
  let v259 : Index := Scalar.indexCast v258
  ![v259.toNat]
def k0_off94 (v260 : BitVec 32) : Fin 2 → Nat :=
  let v261 : Index := Scalar.indexCast v260
  let c0_57 : Index := 0#32
  ![v261.toNat, 0]

def k0_chk47 (v260 : BitVec 32) : Prop :=
  (∀ a, (k0_off94 v260) a + S1x1024.size a ≤ S512x1024.size a)
theorem k0_off94_inb : ∀ (v260 : BitVec 32) (k0_hw47 : k0_chk47 v260), ∀ a, (k0_off94 v260) a + S1x1024.size a ≤ S512x1024.size a := fun v260 k0_hw47 => k0_hw47

def k0_off95 (i : grid0.Coords) : Fin 1 → Nat :=
  let arg0 : BitVec 32 := BitVec.ofNat 32 (i 0).val
  let c64_i32 : BitVec 32 := 64#32
  let v0 : BitVec 32 := Scalar.muli arg0 c64_i32
  let c47_i32 : BitVec 32 := 47#32
  let v263 : BitVec 32 := Scalar.addi v0 c47_i32
  let v264 : Index := Scalar.indexCast v263
  ![v264.toNat]
def k0_off96 (v265 : BitVec 32) : Fin 2 → Nat :=
  let v266 : Index := Scalar.indexCast v265
  let c0_58 : Index := 0#32
  ![v266.toNat, 0]

def k0_chk48 (v265 : BitVec 32) : Prop :=
  (∀ a, (k0_off96 v265) a + S1x1024.size a ≤ S512x1024.size a)
theorem k0_off96_inb : ∀ (v265 : BitVec 32) (k0_hw48 : k0_chk48 v265), ∀ a, (k0_off96 v265) a + S1x1024.size a ≤ S512x1024.size a := fun v265 k0_hw48 => k0_hw48

def k0_off97 (i : grid0.Coords) : Fin 1 → Nat :=
  let arg0 : BitVec 32 := BitVec.ofNat 32 (i 0).val
  let c64_i32 : BitVec 32 := 64#32
  let v0 : BitVec 32 := Scalar.muli arg0 c64_i32
  let c48_i32 : BitVec 32 := 48#32
  let v268 : BitVec 32 := Scalar.addi v0 c48_i32
  let v269 : Index := Scalar.indexCast v268
  ![v269.toNat]
def k0_off98 (v270 : BitVec 32) : Fin 2 → Nat :=
  let v271 : Index := Scalar.indexCast v270
  let c0_59 : Index := 0#32
  ![v271.toNat, 0]

def k0_chk49 (v270 : BitVec 32) : Prop :=
  (∀ a, (k0_off98 v270) a + S1x1024.size a ≤ S512x1024.size a)
theorem k0_off98_inb : ∀ (v270 : BitVec 32) (k0_hw49 : k0_chk49 v270), ∀ a, (k0_off98 v270) a + S1x1024.size a ≤ S512x1024.size a := fun v270 k0_hw49 => k0_hw49

def k0_off99 (i : grid0.Coords) : Fin 1 → Nat :=
  let arg0 : BitVec 32 := BitVec.ofNat 32 (i 0).val
  let c64_i32 : BitVec 32 := 64#32
  let v0 : BitVec 32 := Scalar.muli arg0 c64_i32
  let c49_i32 : BitVec 32 := 49#32
  let v273 : BitVec 32 := Scalar.addi v0 c49_i32
  let v274 : Index := Scalar.indexCast v273
  ![v274.toNat]
def k0_off100 (v275 : BitVec 32) : Fin 2 → Nat :=
  let v276 : Index := Scalar.indexCast v275
  let c0_60 : Index := 0#32
  ![v276.toNat, 0]

def k0_chk50 (v275 : BitVec 32) : Prop :=
  (∀ a, (k0_off100 v275) a + S1x1024.size a ≤ S512x1024.size a)
theorem k0_off100_inb : ∀ (v275 : BitVec 32) (k0_hw50 : k0_chk50 v275), ∀ a, (k0_off100 v275) a + S1x1024.size a ≤ S512x1024.size a := fun v275 k0_hw50 => k0_hw50

def k0_off101 (i : grid0.Coords) : Fin 1 → Nat :=
  let arg0 : BitVec 32 := BitVec.ofNat 32 (i 0).val
  let c64_i32 : BitVec 32 := 64#32
  let v0 : BitVec 32 := Scalar.muli arg0 c64_i32
  let c50_i32 : BitVec 32 := 50#32
  let v278 : BitVec 32 := Scalar.addi v0 c50_i32
  let v279 : Index := Scalar.indexCast v278
  ![v279.toNat]
def k0_off102 (v280 : BitVec 32) : Fin 2 → Nat :=
  let v281 : Index := Scalar.indexCast v280
  let c0_61 : Index := 0#32
  ![v281.toNat, 0]

def k0_chk51 (v280 : BitVec 32) : Prop :=
  (∀ a, (k0_off102 v280) a + S1x1024.size a ≤ S512x1024.size a)
theorem k0_off102_inb : ∀ (v280 : BitVec 32) (k0_hw51 : k0_chk51 v280), ∀ a, (k0_off102 v280) a + S1x1024.size a ≤ S512x1024.size a := fun v280 k0_hw51 => k0_hw51

def k0_off103 (i : grid0.Coords) : Fin 1 → Nat :=
  let arg0 : BitVec 32 := BitVec.ofNat 32 (i 0).val
  let c64_i32 : BitVec 32 := 64#32
  let v0 : BitVec 32 := Scalar.muli arg0 c64_i32
  let c51_i32 : BitVec 32 := 51#32
  let v283 : BitVec 32 := Scalar.addi v0 c51_i32
  let v284 : Index := Scalar.indexCast v283
  ![v284.toNat]
def k0_off104 (v285 : BitVec 32) : Fin 2 → Nat :=
  let v286 : Index := Scalar.indexCast v285
  let c0_62 : Index := 0#32
  ![v286.toNat, 0]

def k0_chk52 (v285 : BitVec 32) : Prop :=
  (∀ a, (k0_off104 v285) a + S1x1024.size a ≤ S512x1024.size a)
theorem k0_off104_inb : ∀ (v285 : BitVec 32) (k0_hw52 : k0_chk52 v285), ∀ a, (k0_off104 v285) a + S1x1024.size a ≤ S512x1024.size a := fun v285 k0_hw52 => k0_hw52

def k0_off105 (i : grid0.Coords) : Fin 1 → Nat :=
  let arg0 : BitVec 32 := BitVec.ofNat 32 (i 0).val
  let c64_i32 : BitVec 32 := 64#32
  let v0 : BitVec 32 := Scalar.muli arg0 c64_i32
  let c52_i32 : BitVec 32 := 52#32
  let v288 : BitVec 32 := Scalar.addi v0 c52_i32
  let v289 : Index := Scalar.indexCast v288
  ![v289.toNat]
def k0_off106 (v290 : BitVec 32) : Fin 2 → Nat :=
  let v291 : Index := Scalar.indexCast v290
  let c0_63 : Index := 0#32
  ![v291.toNat, 0]

def k0_chk53 (v290 : BitVec 32) : Prop :=
  (∀ a, (k0_off106 v290) a + S1x1024.size a ≤ S512x1024.size a)
theorem k0_off106_inb : ∀ (v290 : BitVec 32) (k0_hw53 : k0_chk53 v290), ∀ a, (k0_off106 v290) a + S1x1024.size a ≤ S512x1024.size a := fun v290 k0_hw53 => k0_hw53

def k0_off107 (i : grid0.Coords) : Fin 1 → Nat :=
  let arg0 : BitVec 32 := BitVec.ofNat 32 (i 0).val
  let c64_i32 : BitVec 32 := 64#32
  let v0 : BitVec 32 := Scalar.muli arg0 c64_i32
  let c53_i32 : BitVec 32 := 53#32
  let v293 : BitVec 32 := Scalar.addi v0 c53_i32
  let v294 : Index := Scalar.indexCast v293
  ![v294.toNat]
def k0_off108 (v295 : BitVec 32) : Fin 2 → Nat :=
  let v296 : Index := Scalar.indexCast v295
  let c0_64 : Index := 0#32
  ![v296.toNat, 0]

def k0_chk54 (v295 : BitVec 32) : Prop :=
  (∀ a, (k0_off108 v295) a + S1x1024.size a ≤ S512x1024.size a)
theorem k0_off108_inb : ∀ (v295 : BitVec 32) (k0_hw54 : k0_chk54 v295), ∀ a, (k0_off108 v295) a + S1x1024.size a ≤ S512x1024.size a := fun v295 k0_hw54 => k0_hw54

def k0_off109 (i : grid0.Coords) : Fin 1 → Nat :=
  let arg0 : BitVec 32 := BitVec.ofNat 32 (i 0).val
  let c64_i32 : BitVec 32 := 64#32
  let v0 : BitVec 32 := Scalar.muli arg0 c64_i32
  let c54_i32 : BitVec 32 := 54#32
  let v298 : BitVec 32 := Scalar.addi v0 c54_i32
  let v299 : Index := Scalar.indexCast v298
  ![v299.toNat]
def k0_off110 (v300 : BitVec 32) : Fin 2 → Nat :=
  let v301 : Index := Scalar.indexCast v300
  let c0_65 : Index := 0#32
  ![v301.toNat, 0]

def k0_chk55 (v300 : BitVec 32) : Prop :=
  (∀ a, (k0_off110 v300) a + S1x1024.size a ≤ S512x1024.size a)
theorem k0_off110_inb : ∀ (v300 : BitVec 32) (k0_hw55 : k0_chk55 v300), ∀ a, (k0_off110 v300) a + S1x1024.size a ≤ S512x1024.size a := fun v300 k0_hw55 => k0_hw55

def k0_off111 (i : grid0.Coords) : Fin 1 → Nat :=
  let arg0 : BitVec 32 := BitVec.ofNat 32 (i 0).val
  let c64_i32 : BitVec 32 := 64#32
  let v0 : BitVec 32 := Scalar.muli arg0 c64_i32
  let c55_i32 : BitVec 32 := 55#32
  let v303 : BitVec 32 := Scalar.addi v0 c55_i32
  let v304 : Index := Scalar.indexCast v303
  ![v304.toNat]
def k0_off112 (v305 : BitVec 32) : Fin 2 → Nat :=
  let v306 : Index := Scalar.indexCast v305
  let c0_66 : Index := 0#32
  ![v306.toNat, 0]

def k0_chk56 (v305 : BitVec 32) : Prop :=
  (∀ a, (k0_off112 v305) a + S1x1024.size a ≤ S512x1024.size a)
theorem k0_off112_inb : ∀ (v305 : BitVec 32) (k0_hw56 : k0_chk56 v305), ∀ a, (k0_off112 v305) a + S1x1024.size a ≤ S512x1024.size a := fun v305 k0_hw56 => k0_hw56

def k0_off113 (i : grid0.Coords) : Fin 1 → Nat :=
  let arg0 : BitVec 32 := BitVec.ofNat 32 (i 0).val
  let c64_i32 : BitVec 32 := 64#32
  let v0 : BitVec 32 := Scalar.muli arg0 c64_i32
  let c56_i32 : BitVec 32 := 56#32
  let v308 : BitVec 32 := Scalar.addi v0 c56_i32
  let v309 : Index := Scalar.indexCast v308
  ![v309.toNat]
def k0_off114 (v310 : BitVec 32) : Fin 2 → Nat :=
  let v311 : Index := Scalar.indexCast v310
  let c0_67 : Index := 0#32
  ![v311.toNat, 0]

def k0_chk57 (v310 : BitVec 32) : Prop :=
  (∀ a, (k0_off114 v310) a + S1x1024.size a ≤ S512x1024.size a)
theorem k0_off114_inb : ∀ (v310 : BitVec 32) (k0_hw57 : k0_chk57 v310), ∀ a, (k0_off114 v310) a + S1x1024.size a ≤ S512x1024.size a := fun v310 k0_hw57 => k0_hw57

def k0_off115 (i : grid0.Coords) : Fin 1 → Nat :=
  let arg0 : BitVec 32 := BitVec.ofNat 32 (i 0).val
  let c64_i32 : BitVec 32 := 64#32
  let v0 : BitVec 32 := Scalar.muli arg0 c64_i32
  let c57_i32 : BitVec 32 := 57#32
  let v313 : BitVec 32 := Scalar.addi v0 c57_i32
  let v314 : Index := Scalar.indexCast v313
  ![v314.toNat]
def k0_off116 (v315 : BitVec 32) : Fin 2 → Nat :=
  let v316 : Index := Scalar.indexCast v315
  let c0_68 : Index := 0#32
  ![v316.toNat, 0]

def k0_chk58 (v315 : BitVec 32) : Prop :=
  (∀ a, (k0_off116 v315) a + S1x1024.size a ≤ S512x1024.size a)
theorem k0_off116_inb : ∀ (v315 : BitVec 32) (k0_hw58 : k0_chk58 v315), ∀ a, (k0_off116 v315) a + S1x1024.size a ≤ S512x1024.size a := fun v315 k0_hw58 => k0_hw58

def k0_off117 (i : grid0.Coords) : Fin 1 → Nat :=
  let arg0 : BitVec 32 := BitVec.ofNat 32 (i 0).val
  let c64_i32 : BitVec 32 := 64#32
  let v0 : BitVec 32 := Scalar.muli arg0 c64_i32
  let c58_i32 : BitVec 32 := 58#32
  let v318 : BitVec 32 := Scalar.addi v0 c58_i32
  let v319 : Index := Scalar.indexCast v318
  ![v319.toNat]
def k0_off118 (v320 : BitVec 32) : Fin 2 → Nat :=
  let v321 : Index := Scalar.indexCast v320
  let c0_69 : Index := 0#32
  ![v321.toNat, 0]

def k0_chk59 (v320 : BitVec 32) : Prop :=
  (∀ a, (k0_off118 v320) a + S1x1024.size a ≤ S512x1024.size a)
theorem k0_off118_inb : ∀ (v320 : BitVec 32) (k0_hw59 : k0_chk59 v320), ∀ a, (k0_off118 v320) a + S1x1024.size a ≤ S512x1024.size a := fun v320 k0_hw59 => k0_hw59

def k0_off119 (i : grid0.Coords) : Fin 1 → Nat :=
  let arg0 : BitVec 32 := BitVec.ofNat 32 (i 0).val
  let c64_i32 : BitVec 32 := 64#32
  let v0 : BitVec 32 := Scalar.muli arg0 c64_i32
  let c59_i32 : BitVec 32 := 59#32
  let v323 : BitVec 32 := Scalar.addi v0 c59_i32
  let v324 : Index := Scalar.indexCast v323
  ![v324.toNat]
def k0_off120 (v325 : BitVec 32) : Fin 2 → Nat :=
  let v326 : Index := Scalar.indexCast v325
  let c0_70 : Index := 0#32
  ![v326.toNat, 0]

def k0_chk60 (v325 : BitVec 32) : Prop :=
  (∀ a, (k0_off120 v325) a + S1x1024.size a ≤ S512x1024.size a)
theorem k0_off120_inb : ∀ (v325 : BitVec 32) (k0_hw60 : k0_chk60 v325), ∀ a, (k0_off120 v325) a + S1x1024.size a ≤ S512x1024.size a := fun v325 k0_hw60 => k0_hw60

def k0_off121 (i : grid0.Coords) : Fin 1 → Nat :=
  let arg0 : BitVec 32 := BitVec.ofNat 32 (i 0).val
  let c64_i32 : BitVec 32 := 64#32
  let v0 : BitVec 32 := Scalar.muli arg0 c64_i32
  let c60_i32 : BitVec 32 := 60#32
  let v328 : BitVec 32 := Scalar.addi v0 c60_i32
  let v329 : Index := Scalar.indexCast v328
  ![v329.toNat]
def k0_off122 (v330 : BitVec 32) : Fin 2 → Nat :=
  let v331 : Index := Scalar.indexCast v330
  let c0_71 : Index := 0#32
  ![v331.toNat, 0]

def k0_chk61 (v330 : BitVec 32) : Prop :=
  (∀ a, (k0_off122 v330) a + S1x1024.size a ≤ S512x1024.size a)
theorem k0_off122_inb : ∀ (v330 : BitVec 32) (k0_hw61 : k0_chk61 v330), ∀ a, (k0_off122 v330) a + S1x1024.size a ≤ S512x1024.size a := fun v330 k0_hw61 => k0_hw61

def k0_off123 (i : grid0.Coords) : Fin 1 → Nat :=
  let arg0 : BitVec 32 := BitVec.ofNat 32 (i 0).val
  let c64_i32 : BitVec 32 := 64#32
  let v0 : BitVec 32 := Scalar.muli arg0 c64_i32
  let c61_i32 : BitVec 32 := 61#32
  let v333 : BitVec 32 := Scalar.addi v0 c61_i32
  let v334 : Index := Scalar.indexCast v333
  ![v334.toNat]
def k0_off124 (v335 : BitVec 32) : Fin 2 → Nat :=
  let v336 : Index := Scalar.indexCast v335
  let c0_72 : Index := 0#32
  ![v336.toNat, 0]

def k0_chk62 (v335 : BitVec 32) : Prop :=
  (∀ a, (k0_off124 v335) a + S1x1024.size a ≤ S512x1024.size a)
theorem k0_off124_inb : ∀ (v335 : BitVec 32) (k0_hw62 : k0_chk62 v335), ∀ a, (k0_off124 v335) a + S1x1024.size a ≤ S512x1024.size a := fun v335 k0_hw62 => k0_hw62

def k0_off125 (i : grid0.Coords) : Fin 1 → Nat :=
  let arg0 : BitVec 32 := BitVec.ofNat 32 (i 0).val
  let c64_i32 : BitVec 32 := 64#32
  let v0 : BitVec 32 := Scalar.muli arg0 c64_i32
  let c62_i32 : BitVec 32 := 62#32
  let v338 : BitVec 32 := Scalar.addi v0 c62_i32
  let v339 : Index := Scalar.indexCast v338
  ![v339.toNat]
def k0_off126 (v340 : BitVec 32) : Fin 2 → Nat :=
  let v341 : Index := Scalar.indexCast v340
  let c0_73 : Index := 0#32
  ![v341.toNat, 0]

def k0_chk63 (v340 : BitVec 32) : Prop :=
  (∀ a, (k0_off126 v340) a + S1x1024.size a ≤ S512x1024.size a)
theorem k0_off126_inb : ∀ (v340 : BitVec 32) (k0_hw63 : k0_chk63 v340), ∀ a, (k0_off126 v340) a + S1x1024.size a ≤ S512x1024.size a := fun v340 k0_hw63 => k0_hw63

def k0_off127 (i : grid0.Coords) : Fin 1 → Nat :=
  let arg0 : BitVec 32 := BitVec.ofNat 32 (i 0).val
  let c64_i32 : BitVec 32 := 64#32
  let v0 : BitVec 32 := Scalar.muli arg0 c64_i32
  let c63_i32 : BitVec 32 := 63#32
  let v343 : BitVec 32 := Scalar.addi v0 c63_i32
  let v344 : Index := Scalar.indexCast v343
  ![v344.toNat]
def k0_off128 (v345 : BitVec 32) : Fin 2 → Nat :=
  let v346 : Index := Scalar.indexCast v345
  let c0_74 : Index := 0#32
  ![v346.toNat, 0]

def k0_chk64 (v345 : BitVec 32) : Prop :=
  (∀ a, (k0_off128 v345) a + S1x1024.size a ≤ S512x1024.size a)
theorem k0_off128_inb : ∀ (v345 : BitVec 32) (k0_hw64 : k0_chk64 v345), ∀ a, (k0_off128 v345) a + S1x1024.size a ≤ S512x1024.size a := fun v345 k0_hw64 => k0_hw64

def k0_off129 (i : grid0.Coords) : Fin 1 → Nat :=
  let arg0 : BitVec 32 := BitVec.ofNat 32 (i 0).val
  let c64_i32 : BitVec 32 := 64#32
  let v0 : BitVec 32 := Scalar.muli arg0 c64_i32
  let c0_i32_335 : BitVec 32 := 0#32
  let v620 : BitVec 32 := Scalar.addi v0 c0_i32_335
  let v621 : Index := Scalar.indexCast v620
  ![v621.toNat]
def k0_off130 (i : grid0.Coords) (v622 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v623 : BitVec 32 := Scalar.addi v619 v622
  let v624 : Index := Scalar.indexCast v623
  let c0_336 : Index := 0#32
  ![v624.toNat, 0]

def k0_chk65 (i : grid0.Coords) (v622 : BitVec 32) : Prop :=
  (∀ a, (k0_off130 i v622) a + S1x32.size a ≤ S1024x32.size a)
theorem k0_off130_inb : ∀ (i : grid0.Coords) (v622 : BitVec 32) (k0_hw65 : k0_chk65 i v622), ∀ a, (k0_off130 i v622) a + S1x32.size a ≤ S1024x32.size a := fun i v622 k0_hw65 => k0_hw65

def k0_off131 (i : grid0.Coords) : Fin 1 → Nat :=
  let arg0 : BitVec 32 := BitVec.ofNat 32 (i 0).val
  let c64_i32 : BitVec 32 := 64#32
  let v0 : BitVec 32 := Scalar.muli arg0 c64_i32
  let c1_i32_337 : BitVec 32 := 1#32
  let v627 : BitVec 32 := Scalar.addi v0 c1_i32_337
  let v628 : Index := Scalar.indexCast v627
  ![v628.toNat]
def k0_off132 (i : grid0.Coords) (v629 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v630 : BitVec 32 := Scalar.addi v619 v629
  let v631 : Index := Scalar.indexCast v630
  let c0_338 : Index := 0#32
  ![v631.toNat, 0]

def k0_chk66 (i : grid0.Coords) (v629 : BitVec 32) : Prop :=
  (∀ a, (k0_off132 i v629) a + S1x32.size a ≤ S1024x32.size a)
theorem k0_off132_inb : ∀ (i : grid0.Coords) (v629 : BitVec 32) (k0_hw66 : k0_chk66 i v629), ∀ a, (k0_off132 i v629) a + S1x32.size a ≤ S1024x32.size a := fun i v629 k0_hw66 => k0_hw66

def k0_off133 (i : grid0.Coords) : Fin 1 → Nat :=
  let arg0 : BitVec 32 := BitVec.ofNat 32 (i 0).val
  let c64_i32 : BitVec 32 := 64#32
  let v0 : BitVec 32 := Scalar.muli arg0 c64_i32
  let c2_i32_339 : BitVec 32 := 2#32
  let v634 : BitVec 32 := Scalar.addi v0 c2_i32_339
  let v635 : Index := Scalar.indexCast v634
  ![v635.toNat]
def k0_off134 (i : grid0.Coords) (v636 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v637 : BitVec 32 := Scalar.addi v619 v636
  let v638 : Index := Scalar.indexCast v637
  let c0_340 : Index := 0#32
  ![v638.toNat, 0]

def k0_chk67 (i : grid0.Coords) (v636 : BitVec 32) : Prop :=
  (∀ a, (k0_off134 i v636) a + S1x32.size a ≤ S1024x32.size a)
theorem k0_off134_inb : ∀ (i : grid0.Coords) (v636 : BitVec 32) (k0_hw67 : k0_chk67 i v636), ∀ a, (k0_off134 i v636) a + S1x32.size a ≤ S1024x32.size a := fun i v636 k0_hw67 => k0_hw67

def k0_off135 (i : grid0.Coords) : Fin 1 → Nat :=
  let arg0 : BitVec 32 := BitVec.ofNat 32 (i 0).val
  let c64_i32 : BitVec 32 := 64#32
  let v0 : BitVec 32 := Scalar.muli arg0 c64_i32
  let c3_i32_341 : BitVec 32 := 3#32
  let v641 : BitVec 32 := Scalar.addi v0 c3_i32_341
  let v642 : Index := Scalar.indexCast v641
  ![v642.toNat]
def k0_off136 (i : grid0.Coords) (v643 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v644 : BitVec 32 := Scalar.addi v619 v643
  let v645 : Index := Scalar.indexCast v644
  let c0_342 : Index := 0#32
  ![v645.toNat, 0]

def k0_chk68 (i : grid0.Coords) (v643 : BitVec 32) : Prop :=
  (∀ a, (k0_off136 i v643) a + S1x32.size a ≤ S1024x32.size a)
theorem k0_off136_inb : ∀ (i : grid0.Coords) (v643 : BitVec 32) (k0_hw68 : k0_chk68 i v643), ∀ a, (k0_off136 i v643) a + S1x32.size a ≤ S1024x32.size a := fun i v643 k0_hw68 => k0_hw68

def k0_off137 (i : grid0.Coords) : Fin 1 → Nat :=
  let arg0 : BitVec 32 := BitVec.ofNat 32 (i 0).val
  let c64_i32 : BitVec 32 := 64#32
  let v0 : BitVec 32 := Scalar.muli arg0 c64_i32
  let c4_i32_343 : BitVec 32 := 4#32
  let v648 : BitVec 32 := Scalar.addi v0 c4_i32_343
  let v649 : Index := Scalar.indexCast v648
  ![v649.toNat]
def k0_off138 (i : grid0.Coords) (v650 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v651 : BitVec 32 := Scalar.addi v619 v650
  let v652 : Index := Scalar.indexCast v651
  let c0_344 : Index := 0#32
  ![v652.toNat, 0]

def k0_chk69 (i : grid0.Coords) (v650 : BitVec 32) : Prop :=
  (∀ a, (k0_off138 i v650) a + S1x32.size a ≤ S1024x32.size a)
theorem k0_off138_inb : ∀ (i : grid0.Coords) (v650 : BitVec 32) (k0_hw69 : k0_chk69 i v650), ∀ a, (k0_off138 i v650) a + S1x32.size a ≤ S1024x32.size a := fun i v650 k0_hw69 => k0_hw69

def k0_off139 (i : grid0.Coords) : Fin 1 → Nat :=
  let arg0 : BitVec 32 := BitVec.ofNat 32 (i 0).val
  let c64_i32 : BitVec 32 := 64#32
  let v0 : BitVec 32 := Scalar.muli arg0 c64_i32
  let c5_i32_345 : BitVec 32 := 5#32
  let v655 : BitVec 32 := Scalar.addi v0 c5_i32_345
  let v656 : Index := Scalar.indexCast v655
  ![v656.toNat]
def k0_off140 (i : grid0.Coords) (v657 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v658 : BitVec 32 := Scalar.addi v619 v657
  let v659 : Index := Scalar.indexCast v658
  let c0_346 : Index := 0#32
  ![v659.toNat, 0]

def k0_chk70 (i : grid0.Coords) (v657 : BitVec 32) : Prop :=
  (∀ a, (k0_off140 i v657) a + S1x32.size a ≤ S1024x32.size a)
theorem k0_off140_inb : ∀ (i : grid0.Coords) (v657 : BitVec 32) (k0_hw70 : k0_chk70 i v657), ∀ a, (k0_off140 i v657) a + S1x32.size a ≤ S1024x32.size a := fun i v657 k0_hw70 => k0_hw70

def k0_off141 (i : grid0.Coords) : Fin 1 → Nat :=
  let arg0 : BitVec 32 := BitVec.ofNat 32 (i 0).val
  let c64_i32 : BitVec 32 := 64#32
  let v0 : BitVec 32 := Scalar.muli arg0 c64_i32
  let c6_i32_347 : BitVec 32 := 6#32
  let v662 : BitVec 32 := Scalar.addi v0 c6_i32_347
  let v663 : Index := Scalar.indexCast v662
  ![v663.toNat]
def k0_off142 (i : grid0.Coords) (v664 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v665 : BitVec 32 := Scalar.addi v619 v664
  let v666 : Index := Scalar.indexCast v665
  let c0_348 : Index := 0#32
  ![v666.toNat, 0]

def k0_chk71 (i : grid0.Coords) (v664 : BitVec 32) : Prop :=
  (∀ a, (k0_off142 i v664) a + S1x32.size a ≤ S1024x32.size a)
theorem k0_off142_inb : ∀ (i : grid0.Coords) (v664 : BitVec 32) (k0_hw71 : k0_chk71 i v664), ∀ a, (k0_off142 i v664) a + S1x32.size a ≤ S1024x32.size a := fun i v664 k0_hw71 => k0_hw71

def k0_off143 (i : grid0.Coords) : Fin 1 → Nat :=
  let arg0 : BitVec 32 := BitVec.ofNat 32 (i 0).val
  let c64_i32 : BitVec 32 := 64#32
  let v0 : BitVec 32 := Scalar.muli arg0 c64_i32
  let c7_i32_349 : BitVec 32 := 7#32
  let v669 : BitVec 32 := Scalar.addi v0 c7_i32_349
  let v670 : Index := Scalar.indexCast v669
  ![v670.toNat]
def k0_off144 (i : grid0.Coords) (v671 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v672 : BitVec 32 := Scalar.addi v619 v671
  let v673 : Index := Scalar.indexCast v672
  let c0_350 : Index := 0#32
  ![v673.toNat, 0]

def k0_chk72 (i : grid0.Coords) (v671 : BitVec 32) : Prop :=
  (∀ a, (k0_off144 i v671) a + S1x32.size a ≤ S1024x32.size a)
theorem k0_off144_inb : ∀ (i : grid0.Coords) (v671 : BitVec 32) (k0_hw72 : k0_chk72 i v671), ∀ a, (k0_off144 i v671) a + S1x32.size a ≤ S1024x32.size a := fun i v671 k0_hw72 => k0_hw72

def k0_off145 (i : grid0.Coords) : Fin 1 → Nat :=
  let arg0 : BitVec 32 := BitVec.ofNat 32 (i 0).val
  let c64_i32 : BitVec 32 := 64#32
  let v0 : BitVec 32 := Scalar.muli arg0 c64_i32
  let c8_i32_351 : BitVec 32 := 8#32
  let v676 : BitVec 32 := Scalar.addi v0 c8_i32_351
  let v677 : Index := Scalar.indexCast v676
  ![v677.toNat]
def k0_off146 (i : grid0.Coords) (v678 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v679 : BitVec 32 := Scalar.addi v619 v678
  let v680 : Index := Scalar.indexCast v679
  let c0_352 : Index := 0#32
  ![v680.toNat, 0]

def k0_chk73 (i : grid0.Coords) (v678 : BitVec 32) : Prop :=
  (∀ a, (k0_off146 i v678) a + S1x32.size a ≤ S1024x32.size a)
theorem k0_off146_inb : ∀ (i : grid0.Coords) (v678 : BitVec 32) (k0_hw73 : k0_chk73 i v678), ∀ a, (k0_off146 i v678) a + S1x32.size a ≤ S1024x32.size a := fun i v678 k0_hw73 => k0_hw73

def k0_off147 (i : grid0.Coords) : Fin 1 → Nat :=
  let arg0 : BitVec 32 := BitVec.ofNat 32 (i 0).val
  let c64_i32 : BitVec 32 := 64#32
  let v0 : BitVec 32 := Scalar.muli arg0 c64_i32
  let c9_i32_353 : BitVec 32 := 9#32
  let v683 : BitVec 32 := Scalar.addi v0 c9_i32_353
  let v684 : Index := Scalar.indexCast v683
  ![v684.toNat]
def k0_off148 (i : grid0.Coords) (v685 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v686 : BitVec 32 := Scalar.addi v619 v685
  let v687 : Index := Scalar.indexCast v686
  let c0_354 : Index := 0#32
  ![v687.toNat, 0]

def k0_chk74 (i : grid0.Coords) (v685 : BitVec 32) : Prop :=
  (∀ a, (k0_off148 i v685) a + S1x32.size a ≤ S1024x32.size a)
theorem k0_off148_inb : ∀ (i : grid0.Coords) (v685 : BitVec 32) (k0_hw74 : k0_chk74 i v685), ∀ a, (k0_off148 i v685) a + S1x32.size a ≤ S1024x32.size a := fun i v685 k0_hw74 => k0_hw74

def k0_off149 (i : grid0.Coords) : Fin 1 → Nat :=
  let arg0 : BitVec 32 := BitVec.ofNat 32 (i 0).val
  let c64_i32 : BitVec 32 := 64#32
  let v0 : BitVec 32 := Scalar.muli arg0 c64_i32
  let c10_i32_355 : BitVec 32 := 10#32
  let v690 : BitVec 32 := Scalar.addi v0 c10_i32_355
  let v691 : Index := Scalar.indexCast v690
  ![v691.toNat]
def k0_off150 (i : grid0.Coords) (v692 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v693 : BitVec 32 := Scalar.addi v619 v692
  let v694 : Index := Scalar.indexCast v693
  let c0_356 : Index := 0#32
  ![v694.toNat, 0]

def k0_chk75 (i : grid0.Coords) (v692 : BitVec 32) : Prop :=
  (∀ a, (k0_off150 i v692) a + S1x32.size a ≤ S1024x32.size a)
theorem k0_off150_inb : ∀ (i : grid0.Coords) (v692 : BitVec 32) (k0_hw75 : k0_chk75 i v692), ∀ a, (k0_off150 i v692) a + S1x32.size a ≤ S1024x32.size a := fun i v692 k0_hw75 => k0_hw75

def k0_off151 (i : grid0.Coords) : Fin 1 → Nat :=
  let arg0 : BitVec 32 := BitVec.ofNat 32 (i 0).val
  let c64_i32 : BitVec 32 := 64#32
  let v0 : BitVec 32 := Scalar.muli arg0 c64_i32
  let c11_i32_357 : BitVec 32 := 11#32
  let v697 : BitVec 32 := Scalar.addi v0 c11_i32_357
  let v698 : Index := Scalar.indexCast v697
  ![v698.toNat]
def k0_off152 (i : grid0.Coords) (v699 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v700 : BitVec 32 := Scalar.addi v619 v699
  let v701 : Index := Scalar.indexCast v700
  let c0_358 : Index := 0#32
  ![v701.toNat, 0]

def k0_chk76 (i : grid0.Coords) (v699 : BitVec 32) : Prop :=
  (∀ a, (k0_off152 i v699) a + S1x32.size a ≤ S1024x32.size a)
theorem k0_off152_inb : ∀ (i : grid0.Coords) (v699 : BitVec 32) (k0_hw76 : k0_chk76 i v699), ∀ a, (k0_off152 i v699) a + S1x32.size a ≤ S1024x32.size a := fun i v699 k0_hw76 => k0_hw76

def k0_off153 (i : grid0.Coords) : Fin 1 → Nat :=
  let arg0 : BitVec 32 := BitVec.ofNat 32 (i 0).val
  let c64_i32 : BitVec 32 := 64#32
  let v0 : BitVec 32 := Scalar.muli arg0 c64_i32
  let c12_i32_359 : BitVec 32 := 12#32
  let v704 : BitVec 32 := Scalar.addi v0 c12_i32_359
  let v705 : Index := Scalar.indexCast v704
  ![v705.toNat]
def k0_off154 (i : grid0.Coords) (v706 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v707 : BitVec 32 := Scalar.addi v619 v706
  let v708 : Index := Scalar.indexCast v707
  let c0_360 : Index := 0#32
  ![v708.toNat, 0]

def k0_chk77 (i : grid0.Coords) (v706 : BitVec 32) : Prop :=
  (∀ a, (k0_off154 i v706) a + S1x32.size a ≤ S1024x32.size a)
theorem k0_off154_inb : ∀ (i : grid0.Coords) (v706 : BitVec 32) (k0_hw77 : k0_chk77 i v706), ∀ a, (k0_off154 i v706) a + S1x32.size a ≤ S1024x32.size a := fun i v706 k0_hw77 => k0_hw77

def k0_off155 (i : grid0.Coords) : Fin 1 → Nat :=
  let arg0 : BitVec 32 := BitVec.ofNat 32 (i 0).val
  let c64_i32 : BitVec 32 := 64#32
  let v0 : BitVec 32 := Scalar.muli arg0 c64_i32
  let c13_i32_361 : BitVec 32 := 13#32
  let v711 : BitVec 32 := Scalar.addi v0 c13_i32_361
  let v712 : Index := Scalar.indexCast v711
  ![v712.toNat]
def k0_off156 (i : grid0.Coords) (v713 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v714 : BitVec 32 := Scalar.addi v619 v713
  let v715 : Index := Scalar.indexCast v714
  let c0_362 : Index := 0#32
  ![v715.toNat, 0]

def k0_chk78 (i : grid0.Coords) (v713 : BitVec 32) : Prop :=
  (∀ a, (k0_off156 i v713) a + S1x32.size a ≤ S1024x32.size a)
theorem k0_off156_inb : ∀ (i : grid0.Coords) (v713 : BitVec 32) (k0_hw78 : k0_chk78 i v713), ∀ a, (k0_off156 i v713) a + S1x32.size a ≤ S1024x32.size a := fun i v713 k0_hw78 => k0_hw78

def k0_off157 (i : grid0.Coords) : Fin 1 → Nat :=
  let arg0 : BitVec 32 := BitVec.ofNat 32 (i 0).val
  let c64_i32 : BitVec 32 := 64#32
  let v0 : BitVec 32 := Scalar.muli arg0 c64_i32
  let c14_i32_363 : BitVec 32 := 14#32
  let v718 : BitVec 32 := Scalar.addi v0 c14_i32_363
  let v719 : Index := Scalar.indexCast v718
  ![v719.toNat]
def k0_off158 (i : grid0.Coords) (v720 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v721 : BitVec 32 := Scalar.addi v619 v720
  let v722 : Index := Scalar.indexCast v721
  let c0_364 : Index := 0#32
  ![v722.toNat, 0]

def k0_chk79 (i : grid0.Coords) (v720 : BitVec 32) : Prop :=
  (∀ a, (k0_off158 i v720) a + S1x32.size a ≤ S1024x32.size a)
theorem k0_off158_inb : ∀ (i : grid0.Coords) (v720 : BitVec 32) (k0_hw79 : k0_chk79 i v720), ∀ a, (k0_off158 i v720) a + S1x32.size a ≤ S1024x32.size a := fun i v720 k0_hw79 => k0_hw79

def k0_off159 (i : grid0.Coords) : Fin 1 → Nat :=
  let arg0 : BitVec 32 := BitVec.ofNat 32 (i 0).val
  let c64_i32 : BitVec 32 := 64#32
  let v0 : BitVec 32 := Scalar.muli arg0 c64_i32
  let c15_i32_365 : BitVec 32 := 15#32
  let v725 : BitVec 32 := Scalar.addi v0 c15_i32_365
  let v726 : Index := Scalar.indexCast v725
  ![v726.toNat]
def k0_off160 (i : grid0.Coords) (v727 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v728 : BitVec 32 := Scalar.addi v619 v727
  let v729 : Index := Scalar.indexCast v728
  let c0_366 : Index := 0#32
  ![v729.toNat, 0]

def k0_chk80 (i : grid0.Coords) (v727 : BitVec 32) : Prop :=
  (∀ a, (k0_off160 i v727) a + S1x32.size a ≤ S1024x32.size a)
theorem k0_off160_inb : ∀ (i : grid0.Coords) (v727 : BitVec 32) (k0_hw80 : k0_chk80 i v727), ∀ a, (k0_off160 i v727) a + S1x32.size a ≤ S1024x32.size a := fun i v727 k0_hw80 => k0_hw80

def k0_off161 (i : grid0.Coords) : Fin 1 → Nat :=
  let arg0 : BitVec 32 := BitVec.ofNat 32 (i 0).val
  let c64_i32 : BitVec 32 := 64#32
  let v0 : BitVec 32 := Scalar.muli arg0 c64_i32
  let c16_i32_367 : BitVec 32 := 16#32
  let v732 : BitVec 32 := Scalar.addi v0 c16_i32_367
  let v733 : Index := Scalar.indexCast v732
  ![v733.toNat]
def k0_off162 (i : grid0.Coords) (v734 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v735 : BitVec 32 := Scalar.addi v619 v734
  let v736 : Index := Scalar.indexCast v735
  let c0_368 : Index := 0#32
  ![v736.toNat, 0]

def k0_chk81 (i : grid0.Coords) (v734 : BitVec 32) : Prop :=
  (∀ a, (k0_off162 i v734) a + S1x32.size a ≤ S1024x32.size a)
theorem k0_off162_inb : ∀ (i : grid0.Coords) (v734 : BitVec 32) (k0_hw81 : k0_chk81 i v734), ∀ a, (k0_off162 i v734) a + S1x32.size a ≤ S1024x32.size a := fun i v734 k0_hw81 => k0_hw81

def k0_off163 (i : grid0.Coords) : Fin 1 → Nat :=
  let arg0 : BitVec 32 := BitVec.ofNat 32 (i 0).val
  let c64_i32 : BitVec 32 := 64#32
  let v0 : BitVec 32 := Scalar.muli arg0 c64_i32
  let c17_i32_369 : BitVec 32 := 17#32
  let v739 : BitVec 32 := Scalar.addi v0 c17_i32_369
  let v740 : Index := Scalar.indexCast v739
  ![v740.toNat]
def k0_off164 (i : grid0.Coords) (v741 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v742 : BitVec 32 := Scalar.addi v619 v741
  let v743 : Index := Scalar.indexCast v742
  let c0_370 : Index := 0#32
  ![v743.toNat, 0]

def k0_chk82 (i : grid0.Coords) (v741 : BitVec 32) : Prop :=
  (∀ a, (k0_off164 i v741) a + S1x32.size a ≤ S1024x32.size a)
theorem k0_off164_inb : ∀ (i : grid0.Coords) (v741 : BitVec 32) (k0_hw82 : k0_chk82 i v741), ∀ a, (k0_off164 i v741) a + S1x32.size a ≤ S1024x32.size a := fun i v741 k0_hw82 => k0_hw82

def k0_off165 (i : grid0.Coords) : Fin 1 → Nat :=
  let arg0 : BitVec 32 := BitVec.ofNat 32 (i 0).val
  let c64_i32 : BitVec 32 := 64#32
  let v0 : BitVec 32 := Scalar.muli arg0 c64_i32
  let c18_i32_371 : BitVec 32 := 18#32
  let v746 : BitVec 32 := Scalar.addi v0 c18_i32_371
  let v747 : Index := Scalar.indexCast v746
  ![v747.toNat]
def k0_off166 (i : grid0.Coords) (v748 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v749 : BitVec 32 := Scalar.addi v619 v748
  let v750 : Index := Scalar.indexCast v749
  let c0_372 : Index := 0#32
  ![v750.toNat, 0]

def k0_chk83 (i : grid0.Coords) (v748 : BitVec 32) : Prop :=
  (∀ a, (k0_off166 i v748) a + S1x32.size a ≤ S1024x32.size a)
theorem k0_off166_inb : ∀ (i : grid0.Coords) (v748 : BitVec 32) (k0_hw83 : k0_chk83 i v748), ∀ a, (k0_off166 i v748) a + S1x32.size a ≤ S1024x32.size a := fun i v748 k0_hw83 => k0_hw83

def k0_off167 (i : grid0.Coords) : Fin 1 → Nat :=
  let arg0 : BitVec 32 := BitVec.ofNat 32 (i 0).val
  let c64_i32 : BitVec 32 := 64#32
  let v0 : BitVec 32 := Scalar.muli arg0 c64_i32
  let c19_i32_373 : BitVec 32 := 19#32
  let v753 : BitVec 32 := Scalar.addi v0 c19_i32_373
  let v754 : Index := Scalar.indexCast v753
  ![v754.toNat]
def k0_off168 (i : grid0.Coords) (v755 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v756 : BitVec 32 := Scalar.addi v619 v755
  let v757 : Index := Scalar.indexCast v756
  let c0_374 : Index := 0#32
  ![v757.toNat, 0]

def k0_chk84 (i : grid0.Coords) (v755 : BitVec 32) : Prop :=
  (∀ a, (k0_off168 i v755) a + S1x32.size a ≤ S1024x32.size a)
theorem k0_off168_inb : ∀ (i : grid0.Coords) (v755 : BitVec 32) (k0_hw84 : k0_chk84 i v755), ∀ a, (k0_off168 i v755) a + S1x32.size a ≤ S1024x32.size a := fun i v755 k0_hw84 => k0_hw84

def k0_off169 (i : grid0.Coords) : Fin 1 → Nat :=
  let arg0 : BitVec 32 := BitVec.ofNat 32 (i 0).val
  let c64_i32 : BitVec 32 := 64#32
  let v0 : BitVec 32 := Scalar.muli arg0 c64_i32
  let c20_i32_375 : BitVec 32 := 20#32
  let v760 : BitVec 32 := Scalar.addi v0 c20_i32_375
  let v761 : Index := Scalar.indexCast v760
  ![v761.toNat]
def k0_off170 (i : grid0.Coords) (v762 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v763 : BitVec 32 := Scalar.addi v619 v762
  let v764 : Index := Scalar.indexCast v763
  let c0_376 : Index := 0#32
  ![v764.toNat, 0]

def k0_chk85 (i : grid0.Coords) (v762 : BitVec 32) : Prop :=
  (∀ a, (k0_off170 i v762) a + S1x32.size a ≤ S1024x32.size a)
theorem k0_off170_inb : ∀ (i : grid0.Coords) (v762 : BitVec 32) (k0_hw85 : k0_chk85 i v762), ∀ a, (k0_off170 i v762) a + S1x32.size a ≤ S1024x32.size a := fun i v762 k0_hw85 => k0_hw85

def k0_off171 (i : grid0.Coords) : Fin 1 → Nat :=
  let arg0 : BitVec 32 := BitVec.ofNat 32 (i 0).val
  let c64_i32 : BitVec 32 := 64#32
  let v0 : BitVec 32 := Scalar.muli arg0 c64_i32
  let c21_i32_377 : BitVec 32 := 21#32
  let v767 : BitVec 32 := Scalar.addi v0 c21_i32_377
  let v768 : Index := Scalar.indexCast v767
  ![v768.toNat]
def k0_off172 (i : grid0.Coords) (v769 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v770 : BitVec 32 := Scalar.addi v619 v769
  let v771 : Index := Scalar.indexCast v770
  let c0_378 : Index := 0#32
  ![v771.toNat, 0]

def k0_chk86 (i : grid0.Coords) (v769 : BitVec 32) : Prop :=
  (∀ a, (k0_off172 i v769) a + S1x32.size a ≤ S1024x32.size a)
theorem k0_off172_inb : ∀ (i : grid0.Coords) (v769 : BitVec 32) (k0_hw86 : k0_chk86 i v769), ∀ a, (k0_off172 i v769) a + S1x32.size a ≤ S1024x32.size a := fun i v769 k0_hw86 => k0_hw86

def k0_off173 (i : grid0.Coords) : Fin 1 → Nat :=
  let arg0 : BitVec 32 := BitVec.ofNat 32 (i 0).val
  let c64_i32 : BitVec 32 := 64#32
  let v0 : BitVec 32 := Scalar.muli arg0 c64_i32
  let c22_i32_379 : BitVec 32 := 22#32
  let v774 : BitVec 32 := Scalar.addi v0 c22_i32_379
  let v775 : Index := Scalar.indexCast v774
  ![v775.toNat]
def k0_off174 (i : grid0.Coords) (v776 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v777 : BitVec 32 := Scalar.addi v619 v776
  let v778 : Index := Scalar.indexCast v777
  let c0_380 : Index := 0#32
  ![v778.toNat, 0]

def k0_chk87 (i : grid0.Coords) (v776 : BitVec 32) : Prop :=
  (∀ a, (k0_off174 i v776) a + S1x32.size a ≤ S1024x32.size a)
theorem k0_off174_inb : ∀ (i : grid0.Coords) (v776 : BitVec 32) (k0_hw87 : k0_chk87 i v776), ∀ a, (k0_off174 i v776) a + S1x32.size a ≤ S1024x32.size a := fun i v776 k0_hw87 => k0_hw87

def k0_off175 (i : grid0.Coords) : Fin 1 → Nat :=
  let arg0 : BitVec 32 := BitVec.ofNat 32 (i 0).val
  let c64_i32 : BitVec 32 := 64#32
  let v0 : BitVec 32 := Scalar.muli arg0 c64_i32
  let c23_i32_381 : BitVec 32 := 23#32
  let v781 : BitVec 32 := Scalar.addi v0 c23_i32_381
  let v782 : Index := Scalar.indexCast v781
  ![v782.toNat]
def k0_off176 (i : grid0.Coords) (v783 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v784 : BitVec 32 := Scalar.addi v619 v783
  let v785 : Index := Scalar.indexCast v784
  let c0_382 : Index := 0#32
  ![v785.toNat, 0]

def k0_chk88 (i : grid0.Coords) (v783 : BitVec 32) : Prop :=
  (∀ a, (k0_off176 i v783) a + S1x32.size a ≤ S1024x32.size a)
theorem k0_off176_inb : ∀ (i : grid0.Coords) (v783 : BitVec 32) (k0_hw88 : k0_chk88 i v783), ∀ a, (k0_off176 i v783) a + S1x32.size a ≤ S1024x32.size a := fun i v783 k0_hw88 => k0_hw88

def k0_off177 (i : grid0.Coords) : Fin 1 → Nat :=
  let arg0 : BitVec 32 := BitVec.ofNat 32 (i 0).val
  let c64_i32 : BitVec 32 := 64#32
  let v0 : BitVec 32 := Scalar.muli arg0 c64_i32
  let c24_i32_383 : BitVec 32 := 24#32
  let v788 : BitVec 32 := Scalar.addi v0 c24_i32_383
  let v789 : Index := Scalar.indexCast v788
  ![v789.toNat]
def k0_off178 (i : grid0.Coords) (v790 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v791 : BitVec 32 := Scalar.addi v619 v790
  let v792 : Index := Scalar.indexCast v791
  let c0_384 : Index := 0#32
  ![v792.toNat, 0]

def k0_chk89 (i : grid0.Coords) (v790 : BitVec 32) : Prop :=
  (∀ a, (k0_off178 i v790) a + S1x32.size a ≤ S1024x32.size a)
theorem k0_off178_inb : ∀ (i : grid0.Coords) (v790 : BitVec 32) (k0_hw89 : k0_chk89 i v790), ∀ a, (k0_off178 i v790) a + S1x32.size a ≤ S1024x32.size a := fun i v790 k0_hw89 => k0_hw89

def k0_off179 (i : grid0.Coords) : Fin 1 → Nat :=
  let arg0 : BitVec 32 := BitVec.ofNat 32 (i 0).val
  let c64_i32 : BitVec 32 := 64#32
  let v0 : BitVec 32 := Scalar.muli arg0 c64_i32
  let c25_i32_385 : BitVec 32 := 25#32
  let v795 : BitVec 32 := Scalar.addi v0 c25_i32_385
  let v796 : Index := Scalar.indexCast v795
  ![v796.toNat]
def k0_off180 (i : grid0.Coords) (v797 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v798 : BitVec 32 := Scalar.addi v619 v797
  let v799 : Index := Scalar.indexCast v798
  let c0_386 : Index := 0#32
  ![v799.toNat, 0]

def k0_chk90 (i : grid0.Coords) (v797 : BitVec 32) : Prop :=
  (∀ a, (k0_off180 i v797) a + S1x32.size a ≤ S1024x32.size a)
theorem k0_off180_inb : ∀ (i : grid0.Coords) (v797 : BitVec 32) (k0_hw90 : k0_chk90 i v797), ∀ a, (k0_off180 i v797) a + S1x32.size a ≤ S1024x32.size a := fun i v797 k0_hw90 => k0_hw90

def k0_off181 (i : grid0.Coords) : Fin 1 → Nat :=
  let arg0 : BitVec 32 := BitVec.ofNat 32 (i 0).val
  let c64_i32 : BitVec 32 := 64#32
  let v0 : BitVec 32 := Scalar.muli arg0 c64_i32
  let c26_i32_387 : BitVec 32 := 26#32
  let v802 : BitVec 32 := Scalar.addi v0 c26_i32_387
  let v803 : Index := Scalar.indexCast v802
  ![v803.toNat]
def k0_off182 (i : grid0.Coords) (v804 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v805 : BitVec 32 := Scalar.addi v619 v804
  let v806 : Index := Scalar.indexCast v805
  let c0_388 : Index := 0#32
  ![v806.toNat, 0]

def k0_chk91 (i : grid0.Coords) (v804 : BitVec 32) : Prop :=
  (∀ a, (k0_off182 i v804) a + S1x32.size a ≤ S1024x32.size a)
theorem k0_off182_inb : ∀ (i : grid0.Coords) (v804 : BitVec 32) (k0_hw91 : k0_chk91 i v804), ∀ a, (k0_off182 i v804) a + S1x32.size a ≤ S1024x32.size a := fun i v804 k0_hw91 => k0_hw91

def k0_off183 (i : grid0.Coords) : Fin 1 → Nat :=
  let arg0 : BitVec 32 := BitVec.ofNat 32 (i 0).val
  let c64_i32 : BitVec 32 := 64#32
  let v0 : BitVec 32 := Scalar.muli arg0 c64_i32
  let c27_i32_389 : BitVec 32 := 27#32
  let v809 : BitVec 32 := Scalar.addi v0 c27_i32_389
  let v810 : Index := Scalar.indexCast v809
  ![v810.toNat]
def k0_off184 (i : grid0.Coords) (v811 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v812 : BitVec 32 := Scalar.addi v619 v811
  let v813 : Index := Scalar.indexCast v812
  let c0_390 : Index := 0#32
  ![v813.toNat, 0]

def k0_chk92 (i : grid0.Coords) (v811 : BitVec 32) : Prop :=
  (∀ a, (k0_off184 i v811) a + S1x32.size a ≤ S1024x32.size a)
theorem k0_off184_inb : ∀ (i : grid0.Coords) (v811 : BitVec 32) (k0_hw92 : k0_chk92 i v811), ∀ a, (k0_off184 i v811) a + S1x32.size a ≤ S1024x32.size a := fun i v811 k0_hw92 => k0_hw92

def k0_off185 (i : grid0.Coords) : Fin 1 → Nat :=
  let arg0 : BitVec 32 := BitVec.ofNat 32 (i 0).val
  let c64_i32 : BitVec 32 := 64#32
  let v0 : BitVec 32 := Scalar.muli arg0 c64_i32
  let c28_i32_391 : BitVec 32 := 28#32
  let v816 : BitVec 32 := Scalar.addi v0 c28_i32_391
  let v817 : Index := Scalar.indexCast v816
  ![v817.toNat]
def k0_off186 (i : grid0.Coords) (v818 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v819 : BitVec 32 := Scalar.addi v619 v818
  let v820 : Index := Scalar.indexCast v819
  let c0_392 : Index := 0#32
  ![v820.toNat, 0]

def k0_chk93 (i : grid0.Coords) (v818 : BitVec 32) : Prop :=
  (∀ a, (k0_off186 i v818) a + S1x32.size a ≤ S1024x32.size a)
theorem k0_off186_inb : ∀ (i : grid0.Coords) (v818 : BitVec 32) (k0_hw93 : k0_chk93 i v818), ∀ a, (k0_off186 i v818) a + S1x32.size a ≤ S1024x32.size a := fun i v818 k0_hw93 => k0_hw93

def k0_off187 (i : grid0.Coords) : Fin 1 → Nat :=
  let arg0 : BitVec 32 := BitVec.ofNat 32 (i 0).val
  let c64_i32 : BitVec 32 := 64#32
  let v0 : BitVec 32 := Scalar.muli arg0 c64_i32
  let c29_i32_393 : BitVec 32 := 29#32
  let v823 : BitVec 32 := Scalar.addi v0 c29_i32_393
  let v824 : Index := Scalar.indexCast v823
  ![v824.toNat]
def k0_off188 (i : grid0.Coords) (v825 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v826 : BitVec 32 := Scalar.addi v619 v825
  let v827 : Index := Scalar.indexCast v826
  let c0_394 : Index := 0#32
  ![v827.toNat, 0]

def k0_chk94 (i : grid0.Coords) (v825 : BitVec 32) : Prop :=
  (∀ a, (k0_off188 i v825) a + S1x32.size a ≤ S1024x32.size a)
theorem k0_off188_inb : ∀ (i : grid0.Coords) (v825 : BitVec 32) (k0_hw94 : k0_chk94 i v825), ∀ a, (k0_off188 i v825) a + S1x32.size a ≤ S1024x32.size a := fun i v825 k0_hw94 => k0_hw94

def k0_off189 (i : grid0.Coords) : Fin 1 → Nat :=
  let arg0 : BitVec 32 := BitVec.ofNat 32 (i 0).val
  let c64_i32 : BitVec 32 := 64#32
  let v0 : BitVec 32 := Scalar.muli arg0 c64_i32
  let c30_i32_395 : BitVec 32 := 30#32
  let v830 : BitVec 32 := Scalar.addi v0 c30_i32_395
  let v831 : Index := Scalar.indexCast v830
  ![v831.toNat]
def k0_off190 (i : grid0.Coords) (v832 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v833 : BitVec 32 := Scalar.addi v619 v832
  let v834 : Index := Scalar.indexCast v833
  let c0_396 : Index := 0#32
  ![v834.toNat, 0]

def k0_chk95 (i : grid0.Coords) (v832 : BitVec 32) : Prop :=
  (∀ a, (k0_off190 i v832) a + S1x32.size a ≤ S1024x32.size a)
theorem k0_off190_inb : ∀ (i : grid0.Coords) (v832 : BitVec 32) (k0_hw95 : k0_chk95 i v832), ∀ a, (k0_off190 i v832) a + S1x32.size a ≤ S1024x32.size a := fun i v832 k0_hw95 => k0_hw95

def k0_off191 (i : grid0.Coords) : Fin 1 → Nat :=
  let arg0 : BitVec 32 := BitVec.ofNat 32 (i 0).val
  let c64_i32 : BitVec 32 := 64#32
  let v0 : BitVec 32 := Scalar.muli arg0 c64_i32
  let c31_i32_397 : BitVec 32 := 31#32
  let v837 : BitVec 32 := Scalar.addi v0 c31_i32_397
  let v838 : Index := Scalar.indexCast v837
  ![v838.toNat]
def k0_off192 (i : grid0.Coords) (v839 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v840 : BitVec 32 := Scalar.addi v619 v839
  let v841 : Index := Scalar.indexCast v840
  let c0_398 : Index := 0#32
  ![v841.toNat, 0]

def k0_chk96 (i : grid0.Coords) (v839 : BitVec 32) : Prop :=
  (∀ a, (k0_off192 i v839) a + S1x32.size a ≤ S1024x32.size a)
theorem k0_off192_inb : ∀ (i : grid0.Coords) (v839 : BitVec 32) (k0_hw96 : k0_chk96 i v839), ∀ a, (k0_off192 i v839) a + S1x32.size a ≤ S1024x32.size a := fun i v839 k0_hw96 => k0_hw96

def k0_off193 (i : grid0.Coords) : Fin 1 → Nat :=
  let arg0 : BitVec 32 := BitVec.ofNat 32 (i 0).val
  let c64_i32 : BitVec 32 := 64#32
  let v0 : BitVec 32 := Scalar.muli arg0 c64_i32
  let c32_i32_399 : BitVec 32 := 32#32
  let v844 : BitVec 32 := Scalar.addi v0 c32_i32_399
  let v845 : Index := Scalar.indexCast v844
  ![v845.toNat]
def k0_off194 (i : grid0.Coords) (v846 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v847 : BitVec 32 := Scalar.addi v619 v846
  let v848 : Index := Scalar.indexCast v847
  let c0_400 : Index := 0#32
  ![v848.toNat, 0]

def k0_chk97 (i : grid0.Coords) (v846 : BitVec 32) : Prop :=
  (∀ a, (k0_off194 i v846) a + S1x32.size a ≤ S1024x32.size a)
theorem k0_off194_inb : ∀ (i : grid0.Coords) (v846 : BitVec 32) (k0_hw97 : k0_chk97 i v846), ∀ a, (k0_off194 i v846) a + S1x32.size a ≤ S1024x32.size a := fun i v846 k0_hw97 => k0_hw97

def k0_off195 (i : grid0.Coords) : Fin 1 → Nat :=
  let arg0 : BitVec 32 := BitVec.ofNat 32 (i 0).val
  let c64_i32 : BitVec 32 := 64#32
  let v0 : BitVec 32 := Scalar.muli arg0 c64_i32
  let c33_i32_401 : BitVec 32 := 33#32
  let v851 : BitVec 32 := Scalar.addi v0 c33_i32_401
  let v852 : Index := Scalar.indexCast v851
  ![v852.toNat]
def k0_off196 (i : grid0.Coords) (v853 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v854 : BitVec 32 := Scalar.addi v619 v853
  let v855 : Index := Scalar.indexCast v854
  let c0_402 : Index := 0#32
  ![v855.toNat, 0]

def k0_chk98 (i : grid0.Coords) (v853 : BitVec 32) : Prop :=
  (∀ a, (k0_off196 i v853) a + S1x32.size a ≤ S1024x32.size a)
theorem k0_off196_inb : ∀ (i : grid0.Coords) (v853 : BitVec 32) (k0_hw98 : k0_chk98 i v853), ∀ a, (k0_off196 i v853) a + S1x32.size a ≤ S1024x32.size a := fun i v853 k0_hw98 => k0_hw98

def k0_off197 (i : grid0.Coords) : Fin 1 → Nat :=
  let arg0 : BitVec 32 := BitVec.ofNat 32 (i 0).val
  let c64_i32 : BitVec 32 := 64#32
  let v0 : BitVec 32 := Scalar.muli arg0 c64_i32
  let c34_i32_403 : BitVec 32 := 34#32
  let v858 : BitVec 32 := Scalar.addi v0 c34_i32_403
  let v859 : Index := Scalar.indexCast v858
  ![v859.toNat]
def k0_off198 (i : grid0.Coords) (v860 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v861 : BitVec 32 := Scalar.addi v619 v860
  let v862 : Index := Scalar.indexCast v861
  let c0_404 : Index := 0#32
  ![v862.toNat, 0]

def k0_chk99 (i : grid0.Coords) (v860 : BitVec 32) : Prop :=
  (∀ a, (k0_off198 i v860) a + S1x32.size a ≤ S1024x32.size a)
theorem k0_off198_inb : ∀ (i : grid0.Coords) (v860 : BitVec 32) (k0_hw99 : k0_chk99 i v860), ∀ a, (k0_off198 i v860) a + S1x32.size a ≤ S1024x32.size a := fun i v860 k0_hw99 => k0_hw99

def k0_off199 (i : grid0.Coords) : Fin 1 → Nat :=
  let arg0 : BitVec 32 := BitVec.ofNat 32 (i 0).val
  let c64_i32 : BitVec 32 := 64#32
  let v0 : BitVec 32 := Scalar.muli arg0 c64_i32
  let c35_i32_405 : BitVec 32 := 35#32
  let v865 : BitVec 32 := Scalar.addi v0 c35_i32_405
  let v866 : Index := Scalar.indexCast v865
  ![v866.toNat]
def k0_off200 (i : grid0.Coords) (v867 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v868 : BitVec 32 := Scalar.addi v619 v867
  let v869 : Index := Scalar.indexCast v868
  let c0_406 : Index := 0#32
  ![v869.toNat, 0]

def k0_chk100 (i : grid0.Coords) (v867 : BitVec 32) : Prop :=
  (∀ a, (k0_off200 i v867) a + S1x32.size a ≤ S1024x32.size a)
theorem k0_off200_inb : ∀ (i : grid0.Coords) (v867 : BitVec 32) (k0_hw100 : k0_chk100 i v867), ∀ a, (k0_off200 i v867) a + S1x32.size a ≤ S1024x32.size a := fun i v867 k0_hw100 => k0_hw100

def k0_off201 (i : grid0.Coords) : Fin 1 → Nat :=
  let arg0 : BitVec 32 := BitVec.ofNat 32 (i 0).val
  let c64_i32 : BitVec 32 := 64#32
  let v0 : BitVec 32 := Scalar.muli arg0 c64_i32
  let c36_i32_407 : BitVec 32 := 36#32
  let v872 : BitVec 32 := Scalar.addi v0 c36_i32_407
  let v873 : Index := Scalar.indexCast v872
  ![v873.toNat]
def k0_off202 (i : grid0.Coords) (v874 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v875 : BitVec 32 := Scalar.addi v619 v874
  let v876 : Index := Scalar.indexCast v875
  let c0_408 : Index := 0#32
  ![v876.toNat, 0]

def k0_chk101 (i : grid0.Coords) (v874 : BitVec 32) : Prop :=
  (∀ a, (k0_off202 i v874) a + S1x32.size a ≤ S1024x32.size a)
theorem k0_off202_inb : ∀ (i : grid0.Coords) (v874 : BitVec 32) (k0_hw101 : k0_chk101 i v874), ∀ a, (k0_off202 i v874) a + S1x32.size a ≤ S1024x32.size a := fun i v874 k0_hw101 => k0_hw101

def k0_off203 (i : grid0.Coords) : Fin 1 → Nat :=
  let arg0 : BitVec 32 := BitVec.ofNat 32 (i 0).val
  let c64_i32 : BitVec 32 := 64#32
  let v0 : BitVec 32 := Scalar.muli arg0 c64_i32
  let c37_i32_409 : BitVec 32 := 37#32
  let v879 : BitVec 32 := Scalar.addi v0 c37_i32_409
  let v880 : Index := Scalar.indexCast v879
  ![v880.toNat]
def k0_off204 (i : grid0.Coords) (v881 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v882 : BitVec 32 := Scalar.addi v619 v881
  let v883 : Index := Scalar.indexCast v882
  let c0_410 : Index := 0#32
  ![v883.toNat, 0]

def k0_chk102 (i : grid0.Coords) (v881 : BitVec 32) : Prop :=
  (∀ a, (k0_off204 i v881) a + S1x32.size a ≤ S1024x32.size a)
theorem k0_off204_inb : ∀ (i : grid0.Coords) (v881 : BitVec 32) (k0_hw102 : k0_chk102 i v881), ∀ a, (k0_off204 i v881) a + S1x32.size a ≤ S1024x32.size a := fun i v881 k0_hw102 => k0_hw102

def k0_off205 (i : grid0.Coords) : Fin 1 → Nat :=
  let arg0 : BitVec 32 := BitVec.ofNat 32 (i 0).val
  let c64_i32 : BitVec 32 := 64#32
  let v0 : BitVec 32 := Scalar.muli arg0 c64_i32
  let c38_i32_411 : BitVec 32 := 38#32
  let v886 : BitVec 32 := Scalar.addi v0 c38_i32_411
  let v887 : Index := Scalar.indexCast v886
  ![v887.toNat]
def k0_off206 (i : grid0.Coords) (v888 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v889 : BitVec 32 := Scalar.addi v619 v888
  let v890 : Index := Scalar.indexCast v889
  let c0_412 : Index := 0#32
  ![v890.toNat, 0]

def k0_chk103 (i : grid0.Coords) (v888 : BitVec 32) : Prop :=
  (∀ a, (k0_off206 i v888) a + S1x32.size a ≤ S1024x32.size a)
theorem k0_off206_inb : ∀ (i : grid0.Coords) (v888 : BitVec 32) (k0_hw103 : k0_chk103 i v888), ∀ a, (k0_off206 i v888) a + S1x32.size a ≤ S1024x32.size a := fun i v888 k0_hw103 => k0_hw103

def k0_off207 (i : grid0.Coords) : Fin 1 → Nat :=
  let arg0 : BitVec 32 := BitVec.ofNat 32 (i 0).val
  let c64_i32 : BitVec 32 := 64#32
  let v0 : BitVec 32 := Scalar.muli arg0 c64_i32
  let c39_i32_413 : BitVec 32 := 39#32
  let v893 : BitVec 32 := Scalar.addi v0 c39_i32_413
  let v894 : Index := Scalar.indexCast v893
  ![v894.toNat]
def k0_off208 (i : grid0.Coords) (v895 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v896 : BitVec 32 := Scalar.addi v619 v895
  let v897 : Index := Scalar.indexCast v896
  let c0_414 : Index := 0#32
  ![v897.toNat, 0]

def k0_chk104 (i : grid0.Coords) (v895 : BitVec 32) : Prop :=
  (∀ a, (k0_off208 i v895) a + S1x32.size a ≤ S1024x32.size a)
theorem k0_off208_inb : ∀ (i : grid0.Coords) (v895 : BitVec 32) (k0_hw104 : k0_chk104 i v895), ∀ a, (k0_off208 i v895) a + S1x32.size a ≤ S1024x32.size a := fun i v895 k0_hw104 => k0_hw104

def k0_off209 (i : grid0.Coords) : Fin 1 → Nat :=
  let arg0 : BitVec 32 := BitVec.ofNat 32 (i 0).val
  let c64_i32 : BitVec 32 := 64#32
  let v0 : BitVec 32 := Scalar.muli arg0 c64_i32
  let c40_i32_415 : BitVec 32 := 40#32
  let v900 : BitVec 32 := Scalar.addi v0 c40_i32_415
  let v901 : Index := Scalar.indexCast v900
  ![v901.toNat]
def k0_off210 (i : grid0.Coords) (v902 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v903 : BitVec 32 := Scalar.addi v619 v902
  let v904 : Index := Scalar.indexCast v903
  let c0_416 : Index := 0#32
  ![v904.toNat, 0]

def k0_chk105 (i : grid0.Coords) (v902 : BitVec 32) : Prop :=
  (∀ a, (k0_off210 i v902) a + S1x32.size a ≤ S1024x32.size a)
theorem k0_off210_inb : ∀ (i : grid0.Coords) (v902 : BitVec 32) (k0_hw105 : k0_chk105 i v902), ∀ a, (k0_off210 i v902) a + S1x32.size a ≤ S1024x32.size a := fun i v902 k0_hw105 => k0_hw105

def k0_off211 (i : grid0.Coords) : Fin 1 → Nat :=
  let arg0 : BitVec 32 := BitVec.ofNat 32 (i 0).val
  let c64_i32 : BitVec 32 := 64#32
  let v0 : BitVec 32 := Scalar.muli arg0 c64_i32
  let c41_i32_417 : BitVec 32 := 41#32
  let v907 : BitVec 32 := Scalar.addi v0 c41_i32_417
  let v908 : Index := Scalar.indexCast v907
  ![v908.toNat]
def k0_off212 (i : grid0.Coords) (v909 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v910 : BitVec 32 := Scalar.addi v619 v909
  let v911 : Index := Scalar.indexCast v910
  let c0_418 : Index := 0#32
  ![v911.toNat, 0]

def k0_chk106 (i : grid0.Coords) (v909 : BitVec 32) : Prop :=
  (∀ a, (k0_off212 i v909) a + S1x32.size a ≤ S1024x32.size a)
theorem k0_off212_inb : ∀ (i : grid0.Coords) (v909 : BitVec 32) (k0_hw106 : k0_chk106 i v909), ∀ a, (k0_off212 i v909) a + S1x32.size a ≤ S1024x32.size a := fun i v909 k0_hw106 => k0_hw106

def k0_off213 (i : grid0.Coords) : Fin 1 → Nat :=
  let arg0 : BitVec 32 := BitVec.ofNat 32 (i 0).val
  let c64_i32 : BitVec 32 := 64#32
  let v0 : BitVec 32 := Scalar.muli arg0 c64_i32
  let c42_i32_419 : BitVec 32 := 42#32
  let v914 : BitVec 32 := Scalar.addi v0 c42_i32_419
  let v915 : Index := Scalar.indexCast v914
  ![v915.toNat]
def k0_off214 (i : grid0.Coords) (v916 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v917 : BitVec 32 := Scalar.addi v619 v916
  let v918 : Index := Scalar.indexCast v917
  let c0_420 : Index := 0#32
  ![v918.toNat, 0]

def k0_chk107 (i : grid0.Coords) (v916 : BitVec 32) : Prop :=
  (∀ a, (k0_off214 i v916) a + S1x32.size a ≤ S1024x32.size a)
theorem k0_off214_inb : ∀ (i : grid0.Coords) (v916 : BitVec 32) (k0_hw107 : k0_chk107 i v916), ∀ a, (k0_off214 i v916) a + S1x32.size a ≤ S1024x32.size a := fun i v916 k0_hw107 => k0_hw107

def k0_off215 (i : grid0.Coords) : Fin 1 → Nat :=
  let arg0 : BitVec 32 := BitVec.ofNat 32 (i 0).val
  let c64_i32 : BitVec 32 := 64#32
  let v0 : BitVec 32 := Scalar.muli arg0 c64_i32
  let c43_i32_421 : BitVec 32 := 43#32
  let v921 : BitVec 32 := Scalar.addi v0 c43_i32_421
  let v922 : Index := Scalar.indexCast v921
  ![v922.toNat]
def k0_off216 (i : grid0.Coords) (v923 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v924 : BitVec 32 := Scalar.addi v619 v923
  let v925 : Index := Scalar.indexCast v924
  let c0_422 : Index := 0#32
  ![v925.toNat, 0]

def k0_chk108 (i : grid0.Coords) (v923 : BitVec 32) : Prop :=
  (∀ a, (k0_off216 i v923) a + S1x32.size a ≤ S1024x32.size a)
theorem k0_off216_inb : ∀ (i : grid0.Coords) (v923 : BitVec 32) (k0_hw108 : k0_chk108 i v923), ∀ a, (k0_off216 i v923) a + S1x32.size a ≤ S1024x32.size a := fun i v923 k0_hw108 => k0_hw108

def k0_off217 (i : grid0.Coords) : Fin 1 → Nat :=
  let arg0 : BitVec 32 := BitVec.ofNat 32 (i 0).val
  let c64_i32 : BitVec 32 := 64#32
  let v0 : BitVec 32 := Scalar.muli arg0 c64_i32
  let c44_i32_423 : BitVec 32 := 44#32
  let v928 : BitVec 32 := Scalar.addi v0 c44_i32_423
  let v929 : Index := Scalar.indexCast v928
  ![v929.toNat]
def k0_off218 (i : grid0.Coords) (v930 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v931 : BitVec 32 := Scalar.addi v619 v930
  let v932 : Index := Scalar.indexCast v931
  let c0_424 : Index := 0#32
  ![v932.toNat, 0]

def k0_chk109 (i : grid0.Coords) (v930 : BitVec 32) : Prop :=
  (∀ a, (k0_off218 i v930) a + S1x32.size a ≤ S1024x32.size a)
theorem k0_off218_inb : ∀ (i : grid0.Coords) (v930 : BitVec 32) (k0_hw109 : k0_chk109 i v930), ∀ a, (k0_off218 i v930) a + S1x32.size a ≤ S1024x32.size a := fun i v930 k0_hw109 => k0_hw109

def k0_off219 (i : grid0.Coords) : Fin 1 → Nat :=
  let arg0 : BitVec 32 := BitVec.ofNat 32 (i 0).val
  let c64_i32 : BitVec 32 := 64#32
  let v0 : BitVec 32 := Scalar.muli arg0 c64_i32
  let c45_i32_425 : BitVec 32 := 45#32
  let v935 : BitVec 32 := Scalar.addi v0 c45_i32_425
  let v936 : Index := Scalar.indexCast v935
  ![v936.toNat]
def k0_off220 (i : grid0.Coords) (v937 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v938 : BitVec 32 := Scalar.addi v619 v937
  let v939 : Index := Scalar.indexCast v938
  let c0_426 : Index := 0#32
  ![v939.toNat, 0]

def k0_chk110 (i : grid0.Coords) (v937 : BitVec 32) : Prop :=
  (∀ a, (k0_off220 i v937) a + S1x32.size a ≤ S1024x32.size a)
theorem k0_off220_inb : ∀ (i : grid0.Coords) (v937 : BitVec 32) (k0_hw110 : k0_chk110 i v937), ∀ a, (k0_off220 i v937) a + S1x32.size a ≤ S1024x32.size a := fun i v937 k0_hw110 => k0_hw110

def k0_off221 (i : grid0.Coords) : Fin 1 → Nat :=
  let arg0 : BitVec 32 := BitVec.ofNat 32 (i 0).val
  let c64_i32 : BitVec 32 := 64#32
  let v0 : BitVec 32 := Scalar.muli arg0 c64_i32
  let c46_i32_427 : BitVec 32 := 46#32
  let v942 : BitVec 32 := Scalar.addi v0 c46_i32_427
  let v943 : Index := Scalar.indexCast v942
  ![v943.toNat]
def k0_off222 (i : grid0.Coords) (v944 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v945 : BitVec 32 := Scalar.addi v619 v944
  let v946 : Index := Scalar.indexCast v945
  let c0_428 : Index := 0#32
  ![v946.toNat, 0]

def k0_chk111 (i : grid0.Coords) (v944 : BitVec 32) : Prop :=
  (∀ a, (k0_off222 i v944) a + S1x32.size a ≤ S1024x32.size a)
theorem k0_off222_inb : ∀ (i : grid0.Coords) (v944 : BitVec 32) (k0_hw111 : k0_chk111 i v944), ∀ a, (k0_off222 i v944) a + S1x32.size a ≤ S1024x32.size a := fun i v944 k0_hw111 => k0_hw111

def k0_off223 (i : grid0.Coords) : Fin 1 → Nat :=
  let arg0 : BitVec 32 := BitVec.ofNat 32 (i 0).val
  let c64_i32 : BitVec 32 := 64#32
  let v0 : BitVec 32 := Scalar.muli arg0 c64_i32
  let c47_i32_429 : BitVec 32 := 47#32
  let v949 : BitVec 32 := Scalar.addi v0 c47_i32_429
  let v950 : Index := Scalar.indexCast v949
  ![v950.toNat]
def k0_off224 (i : grid0.Coords) (v951 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v952 : BitVec 32 := Scalar.addi v619 v951
  let v953 : Index := Scalar.indexCast v952
  let c0_430 : Index := 0#32
  ![v953.toNat, 0]

def k0_chk112 (i : grid0.Coords) (v951 : BitVec 32) : Prop :=
  (∀ a, (k0_off224 i v951) a + S1x32.size a ≤ S1024x32.size a)
theorem k0_off224_inb : ∀ (i : grid0.Coords) (v951 : BitVec 32) (k0_hw112 : k0_chk112 i v951), ∀ a, (k0_off224 i v951) a + S1x32.size a ≤ S1024x32.size a := fun i v951 k0_hw112 => k0_hw112

def k0_off225 (i : grid0.Coords) : Fin 1 → Nat :=
  let arg0 : BitVec 32 := BitVec.ofNat 32 (i 0).val
  let c64_i32 : BitVec 32 := 64#32
  let v0 : BitVec 32 := Scalar.muli arg0 c64_i32
  let c48_i32_431 : BitVec 32 := 48#32
  let v956 : BitVec 32 := Scalar.addi v0 c48_i32_431
  let v957 : Index := Scalar.indexCast v956
  ![v957.toNat]
def k0_off226 (i : grid0.Coords) (v958 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v959 : BitVec 32 := Scalar.addi v619 v958
  let v960 : Index := Scalar.indexCast v959
  let c0_432 : Index := 0#32
  ![v960.toNat, 0]

def k0_chk113 (i : grid0.Coords) (v958 : BitVec 32) : Prop :=
  (∀ a, (k0_off226 i v958) a + S1x32.size a ≤ S1024x32.size a)
theorem k0_off226_inb : ∀ (i : grid0.Coords) (v958 : BitVec 32) (k0_hw113 : k0_chk113 i v958), ∀ a, (k0_off226 i v958) a + S1x32.size a ≤ S1024x32.size a := fun i v958 k0_hw113 => k0_hw113

def k0_off227 (i : grid0.Coords) : Fin 1 → Nat :=
  let arg0 : BitVec 32 := BitVec.ofNat 32 (i 0).val
  let c64_i32 : BitVec 32 := 64#32
  let v0 : BitVec 32 := Scalar.muli arg0 c64_i32
  let c49_i32_433 : BitVec 32 := 49#32
  let v963 : BitVec 32 := Scalar.addi v0 c49_i32_433
  let v964 : Index := Scalar.indexCast v963
  ![v964.toNat]
def k0_off228 (i : grid0.Coords) (v965 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v966 : BitVec 32 := Scalar.addi v619 v965
  let v967 : Index := Scalar.indexCast v966
  let c0_434 : Index := 0#32
  ![v967.toNat, 0]

def k0_chk114 (i : grid0.Coords) (v965 : BitVec 32) : Prop :=
  (∀ a, (k0_off228 i v965) a + S1x32.size a ≤ S1024x32.size a)
theorem k0_off228_inb : ∀ (i : grid0.Coords) (v965 : BitVec 32) (k0_hw114 : k0_chk114 i v965), ∀ a, (k0_off228 i v965) a + S1x32.size a ≤ S1024x32.size a := fun i v965 k0_hw114 => k0_hw114

def k0_off229 (i : grid0.Coords) : Fin 1 → Nat :=
  let arg0 : BitVec 32 := BitVec.ofNat 32 (i 0).val
  let c64_i32 : BitVec 32 := 64#32
  let v0 : BitVec 32 := Scalar.muli arg0 c64_i32
  let c50_i32_435 : BitVec 32 := 50#32
  let v970 : BitVec 32 := Scalar.addi v0 c50_i32_435
  let v971 : Index := Scalar.indexCast v970
  ![v971.toNat]
def k0_off230 (i : grid0.Coords) (v972 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v973 : BitVec 32 := Scalar.addi v619 v972
  let v974 : Index := Scalar.indexCast v973
  let c0_436 : Index := 0#32
  ![v974.toNat, 0]

def k0_chk115 (i : grid0.Coords) (v972 : BitVec 32) : Prop :=
  (∀ a, (k0_off230 i v972) a + S1x32.size a ≤ S1024x32.size a)
theorem k0_off230_inb : ∀ (i : grid0.Coords) (v972 : BitVec 32) (k0_hw115 : k0_chk115 i v972), ∀ a, (k0_off230 i v972) a + S1x32.size a ≤ S1024x32.size a := fun i v972 k0_hw115 => k0_hw115

def k0_off231 (i : grid0.Coords) : Fin 1 → Nat :=
  let arg0 : BitVec 32 := BitVec.ofNat 32 (i 0).val
  let c64_i32 : BitVec 32 := 64#32
  let v0 : BitVec 32 := Scalar.muli arg0 c64_i32
  let c51_i32_437 : BitVec 32 := 51#32
  let v977 : BitVec 32 := Scalar.addi v0 c51_i32_437
  let v978 : Index := Scalar.indexCast v977
  ![v978.toNat]
def k0_off232 (i : grid0.Coords) (v979 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v980 : BitVec 32 := Scalar.addi v619 v979
  let v981 : Index := Scalar.indexCast v980
  let c0_438 : Index := 0#32
  ![v981.toNat, 0]

def k0_chk116 (i : grid0.Coords) (v979 : BitVec 32) : Prop :=
  (∀ a, (k0_off232 i v979) a + S1x32.size a ≤ S1024x32.size a)
theorem k0_off232_inb : ∀ (i : grid0.Coords) (v979 : BitVec 32) (k0_hw116 : k0_chk116 i v979), ∀ a, (k0_off232 i v979) a + S1x32.size a ≤ S1024x32.size a := fun i v979 k0_hw116 => k0_hw116

def k0_off233 (i : grid0.Coords) : Fin 1 → Nat :=
  let arg0 : BitVec 32 := BitVec.ofNat 32 (i 0).val
  let c64_i32 : BitVec 32 := 64#32
  let v0 : BitVec 32 := Scalar.muli arg0 c64_i32
  let c52_i32_439 : BitVec 32 := 52#32
  let v984 : BitVec 32 := Scalar.addi v0 c52_i32_439
  let v985 : Index := Scalar.indexCast v984
  ![v985.toNat]
def k0_off234 (i : grid0.Coords) (v986 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v987 : BitVec 32 := Scalar.addi v619 v986
  let v988 : Index := Scalar.indexCast v987
  let c0_440 : Index := 0#32
  ![v988.toNat, 0]

def k0_chk117 (i : grid0.Coords) (v986 : BitVec 32) : Prop :=
  (∀ a, (k0_off234 i v986) a + S1x32.size a ≤ S1024x32.size a)
theorem k0_off234_inb : ∀ (i : grid0.Coords) (v986 : BitVec 32) (k0_hw117 : k0_chk117 i v986), ∀ a, (k0_off234 i v986) a + S1x32.size a ≤ S1024x32.size a := fun i v986 k0_hw117 => k0_hw117

def k0_off235 (i : grid0.Coords) : Fin 1 → Nat :=
  let arg0 : BitVec 32 := BitVec.ofNat 32 (i 0).val
  let c64_i32 : BitVec 32 := 64#32
  let v0 : BitVec 32 := Scalar.muli arg0 c64_i32
  let c53_i32_441 : BitVec 32 := 53#32
  let v991 : BitVec 32 := Scalar.addi v0 c53_i32_441
  let v992 : Index := Scalar.indexCast v991
  ![v992.toNat]
def k0_off236 (i : grid0.Coords) (v993 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v994 : BitVec 32 := Scalar.addi v619 v993
  let v995 : Index := Scalar.indexCast v994
  let c0_442 : Index := 0#32
  ![v995.toNat, 0]

def k0_chk118 (i : grid0.Coords) (v993 : BitVec 32) : Prop :=
  (∀ a, (k0_off236 i v993) a + S1x32.size a ≤ S1024x32.size a)
theorem k0_off236_inb : ∀ (i : grid0.Coords) (v993 : BitVec 32) (k0_hw118 : k0_chk118 i v993), ∀ a, (k0_off236 i v993) a + S1x32.size a ≤ S1024x32.size a := fun i v993 k0_hw118 => k0_hw118

def k0_off237 (i : grid0.Coords) : Fin 1 → Nat :=
  let arg0 : BitVec 32 := BitVec.ofNat 32 (i 0).val
  let c64_i32 : BitVec 32 := 64#32
  let v0 : BitVec 32 := Scalar.muli arg0 c64_i32
  let c54_i32_443 : BitVec 32 := 54#32
  let v998 : BitVec 32 := Scalar.addi v0 c54_i32_443
  let v999 : Index := Scalar.indexCast v998
  ![v999.toNat]
def k0_off238 (i : grid0.Coords) (v1000 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1001 : BitVec 32 := Scalar.addi v619 v1000
  let v1002 : Index := Scalar.indexCast v1001
  let c0_444 : Index := 0#32
  ![v1002.toNat, 0]

def k0_chk119 (i : grid0.Coords) (v1000 : BitVec 32) : Prop :=
  (∀ a, (k0_off238 i v1000) a + S1x32.size a ≤ S1024x32.size a)
theorem k0_off238_inb : ∀ (i : grid0.Coords) (v1000 : BitVec 32) (k0_hw119 : k0_chk119 i v1000), ∀ a, (k0_off238 i v1000) a + S1x32.size a ≤ S1024x32.size a := fun i v1000 k0_hw119 => k0_hw119

def k0_off239 (i : grid0.Coords) : Fin 1 → Nat :=
  let arg0 : BitVec 32 := BitVec.ofNat 32 (i 0).val
  let c64_i32 : BitVec 32 := 64#32
  let v0 : BitVec 32 := Scalar.muli arg0 c64_i32
  let c55_i32_445 : BitVec 32 := 55#32
  let v1005 : BitVec 32 := Scalar.addi v0 c55_i32_445
  let v1006 : Index := Scalar.indexCast v1005
  ![v1006.toNat]
def k0_off240 (i : grid0.Coords) (v1007 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1008 : BitVec 32 := Scalar.addi v619 v1007
  let v1009 : Index := Scalar.indexCast v1008
  let c0_446 : Index := 0#32
  ![v1009.toNat, 0]

def k0_chk120 (i : grid0.Coords) (v1007 : BitVec 32) : Prop :=
  (∀ a, (k0_off240 i v1007) a + S1x32.size a ≤ S1024x32.size a)
theorem k0_off240_inb : ∀ (i : grid0.Coords) (v1007 : BitVec 32) (k0_hw120 : k0_chk120 i v1007), ∀ a, (k0_off240 i v1007) a + S1x32.size a ≤ S1024x32.size a := fun i v1007 k0_hw120 => k0_hw120

def k0_off241 (i : grid0.Coords) : Fin 1 → Nat :=
  let arg0 : BitVec 32 := BitVec.ofNat 32 (i 0).val
  let c64_i32 : BitVec 32 := 64#32
  let v0 : BitVec 32 := Scalar.muli arg0 c64_i32
  let c56_i32_447 : BitVec 32 := 56#32
  let v1012 : BitVec 32 := Scalar.addi v0 c56_i32_447
  let v1013 : Index := Scalar.indexCast v1012
  ![v1013.toNat]
def k0_off242 (i : grid0.Coords) (v1014 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1015 : BitVec 32 := Scalar.addi v619 v1014
  let v1016 : Index := Scalar.indexCast v1015
  let c0_448 : Index := 0#32
  ![v1016.toNat, 0]

def k0_chk121 (i : grid0.Coords) (v1014 : BitVec 32) : Prop :=
  (∀ a, (k0_off242 i v1014) a + S1x32.size a ≤ S1024x32.size a)
theorem k0_off242_inb : ∀ (i : grid0.Coords) (v1014 : BitVec 32) (k0_hw121 : k0_chk121 i v1014), ∀ a, (k0_off242 i v1014) a + S1x32.size a ≤ S1024x32.size a := fun i v1014 k0_hw121 => k0_hw121

def k0_off243 (i : grid0.Coords) : Fin 1 → Nat :=
  let arg0 : BitVec 32 := BitVec.ofNat 32 (i 0).val
  let c64_i32 : BitVec 32 := 64#32
  let v0 : BitVec 32 := Scalar.muli arg0 c64_i32
  let c57_i32_449 : BitVec 32 := 57#32
  let v1019 : BitVec 32 := Scalar.addi v0 c57_i32_449
  let v1020 : Index := Scalar.indexCast v1019
  ![v1020.toNat]
def k0_off244 (i : grid0.Coords) (v1021 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1022 : BitVec 32 := Scalar.addi v619 v1021
  let v1023 : Index := Scalar.indexCast v1022
  let c0_450 : Index := 0#32
  ![v1023.toNat, 0]

def k0_chk122 (i : grid0.Coords) (v1021 : BitVec 32) : Prop :=
  (∀ a, (k0_off244 i v1021) a + S1x32.size a ≤ S1024x32.size a)
theorem k0_off244_inb : ∀ (i : grid0.Coords) (v1021 : BitVec 32) (k0_hw122 : k0_chk122 i v1021), ∀ a, (k0_off244 i v1021) a + S1x32.size a ≤ S1024x32.size a := fun i v1021 k0_hw122 => k0_hw122

def k0_off245 (i : grid0.Coords) : Fin 1 → Nat :=
  let arg0 : BitVec 32 := BitVec.ofNat 32 (i 0).val
  let c64_i32 : BitVec 32 := 64#32
  let v0 : BitVec 32 := Scalar.muli arg0 c64_i32
  let c58_i32_451 : BitVec 32 := 58#32
  let v1026 : BitVec 32 := Scalar.addi v0 c58_i32_451
  let v1027 : Index := Scalar.indexCast v1026
  ![v1027.toNat]
def k0_off246 (i : grid0.Coords) (v1028 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1029 : BitVec 32 := Scalar.addi v619 v1028
  let v1030 : Index := Scalar.indexCast v1029
  let c0_452 : Index := 0#32
  ![v1030.toNat, 0]

def k0_chk123 (i : grid0.Coords) (v1028 : BitVec 32) : Prop :=
  (∀ a, (k0_off246 i v1028) a + S1x32.size a ≤ S1024x32.size a)
theorem k0_off246_inb : ∀ (i : grid0.Coords) (v1028 : BitVec 32) (k0_hw123 : k0_chk123 i v1028), ∀ a, (k0_off246 i v1028) a + S1x32.size a ≤ S1024x32.size a := fun i v1028 k0_hw123 => k0_hw123

def k0_off247 (i : grid0.Coords) : Fin 1 → Nat :=
  let arg0 : BitVec 32 := BitVec.ofNat 32 (i 0).val
  let c64_i32 : BitVec 32 := 64#32
  let v0 : BitVec 32 := Scalar.muli arg0 c64_i32
  let c59_i32_453 : BitVec 32 := 59#32
  let v1033 : BitVec 32 := Scalar.addi v0 c59_i32_453
  let v1034 : Index := Scalar.indexCast v1033
  ![v1034.toNat]
def k0_off248 (i : grid0.Coords) (v1035 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1036 : BitVec 32 := Scalar.addi v619 v1035
  let v1037 : Index := Scalar.indexCast v1036
  let c0_454 : Index := 0#32
  ![v1037.toNat, 0]

def k0_chk124 (i : grid0.Coords) (v1035 : BitVec 32) : Prop :=
  (∀ a, (k0_off248 i v1035) a + S1x32.size a ≤ S1024x32.size a)
theorem k0_off248_inb : ∀ (i : grid0.Coords) (v1035 : BitVec 32) (k0_hw124 : k0_chk124 i v1035), ∀ a, (k0_off248 i v1035) a + S1x32.size a ≤ S1024x32.size a := fun i v1035 k0_hw124 => k0_hw124

def k0_off249 (i : grid0.Coords) : Fin 1 → Nat :=
  let arg0 : BitVec 32 := BitVec.ofNat 32 (i 0).val
  let c64_i32 : BitVec 32 := 64#32
  let v0 : BitVec 32 := Scalar.muli arg0 c64_i32
  let c60_i32_455 : BitVec 32 := 60#32
  let v1040 : BitVec 32 := Scalar.addi v0 c60_i32_455
  let v1041 : Index := Scalar.indexCast v1040
  ![v1041.toNat]
def k0_off250 (i : grid0.Coords) (v1042 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1043 : BitVec 32 := Scalar.addi v619 v1042
  let v1044 : Index := Scalar.indexCast v1043
  let c0_456 : Index := 0#32
  ![v1044.toNat, 0]

def k0_chk125 (i : grid0.Coords) (v1042 : BitVec 32) : Prop :=
  (∀ a, (k0_off250 i v1042) a + S1x32.size a ≤ S1024x32.size a)
theorem k0_off250_inb : ∀ (i : grid0.Coords) (v1042 : BitVec 32) (k0_hw125 : k0_chk125 i v1042), ∀ a, (k0_off250 i v1042) a + S1x32.size a ≤ S1024x32.size a := fun i v1042 k0_hw125 => k0_hw125

def k0_off251 (i : grid0.Coords) : Fin 1 → Nat :=
  let arg0 : BitVec 32 := BitVec.ofNat 32 (i 0).val
  let c64_i32 : BitVec 32 := 64#32
  let v0 : BitVec 32 := Scalar.muli arg0 c64_i32
  let c61_i32_457 : BitVec 32 := 61#32
  let v1047 : BitVec 32 := Scalar.addi v0 c61_i32_457
  let v1048 : Index := Scalar.indexCast v1047
  ![v1048.toNat]
def k0_off252 (i : grid0.Coords) (v1049 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1050 : BitVec 32 := Scalar.addi v619 v1049
  let v1051 : Index := Scalar.indexCast v1050
  let c0_458 : Index := 0#32
  ![v1051.toNat, 0]

def k0_chk126 (i : grid0.Coords) (v1049 : BitVec 32) : Prop :=
  (∀ a, (k0_off252 i v1049) a + S1x32.size a ≤ S1024x32.size a)
theorem k0_off252_inb : ∀ (i : grid0.Coords) (v1049 : BitVec 32) (k0_hw126 : k0_chk126 i v1049), ∀ a, (k0_off252 i v1049) a + S1x32.size a ≤ S1024x32.size a := fun i v1049 k0_hw126 => k0_hw126

def k0_off253 (i : grid0.Coords) : Fin 1 → Nat :=
  let arg0 : BitVec 32 := BitVec.ofNat 32 (i 0).val
  let c64_i32 : BitVec 32 := 64#32
  let v0 : BitVec 32 := Scalar.muli arg0 c64_i32
  let c62_i32_459 : BitVec 32 := 62#32
  let v1054 : BitVec 32 := Scalar.addi v0 c62_i32_459
  let v1055 : Index := Scalar.indexCast v1054
  ![v1055.toNat]
def k0_off254 (i : grid0.Coords) (v1056 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1057 : BitVec 32 := Scalar.addi v619 v1056
  let v1058 : Index := Scalar.indexCast v1057
  let c0_460 : Index := 0#32
  ![v1058.toNat, 0]

def k0_chk127 (i : grid0.Coords) (v1056 : BitVec 32) : Prop :=
  (∀ a, (k0_off254 i v1056) a + S1x32.size a ≤ S1024x32.size a)
theorem k0_off254_inb : ∀ (i : grid0.Coords) (v1056 : BitVec 32) (k0_hw127 : k0_chk127 i v1056), ∀ a, (k0_off254 i v1056) a + S1x32.size a ≤ S1024x32.size a := fun i v1056 k0_hw127 => k0_hw127

def k0_off255 (i : grid0.Coords) : Fin 1 → Nat :=
  let arg0 : BitVec 32 := BitVec.ofNat 32 (i 0).val
  let c64_i32 : BitVec 32 := 64#32
  let v0 : BitVec 32 := Scalar.muli arg0 c64_i32
  let c63_i32_461 : BitVec 32 := 63#32
  let v1061 : BitVec 32 := Scalar.addi v0 c63_i32_461
  let v1062 : Index := Scalar.indexCast v1061
  ![v1062.toNat]
def k0_off256 (i : grid0.Coords) (v1063 : BitVec 32) : Fin 2 → Nat :=
  let arg0 : BitVec 32 := BitVec.ofNat 32 (i 0).val
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c32_i32 : BitVec 32 := 32#32
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let v1 : BitVec 32 := Scalar.divsi arg0 c32_i32
  let c1_i32 : BitVec 32 := 1#32
  let v16 : BitVec 32 := Scalar.subi v1 c1_i32
  let v17 : BitVec 32 := Scalar.select v15 v16 v1
  let c512_i32 : BitVec 32 := 512#32
  let v619 : BitVec 32 := Scalar.muli v17 c512_i32
  let v1064 : BitVec 32 := Scalar.addi v619 v1063
  let v1065 : Index := Scalar.indexCast v1064
  let c0_462 : Index := 0#32
  ![v1065.toNat, 0]

def k0_chk128 (i : grid0.Coords) (v1063 : BitVec 32) : Prop :=
  (∀ a, (k0_off256 i v1063) a + S1x32.size a ≤ S1024x32.size a)
theorem k0_off256_inb : ∀ (i : grid0.Coords) (v1063 : BitVec 32) (k0_hw128 : k0_chk128 i v1063), ∀ a, (k0_off256 i v1063) a + S1x32.size a ≤ S1024x32.size a := fun i v1063 k0_hw128 => k0_hw128

def cc0_transform_0 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_2 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c0_i32_4 : BitVec 32 := 0#32
  let v18 : BitVec 32 := Scalar.addi v17 c0_i32_4
  let v19 : Index := Scalar.indexCast v18
  let v20 : BitVec 32 := pf.at 0 (Rect.unit (s := S4096) ![v19.toNat] S1.size (k0_off1_inb i 0)) numel1_S1
  let c0_i32_5 : BitVec 32 := 0#32
  let c0_i32_6 : BitVec 32 := 0#32
  ![v16.toNat, v20.toNat, c0_i32_5.toNat]

def cc0_transform_3 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c1_i32_4 : BitVec 32 := 1#32
  let v18 : BitVec 32 := Scalar.addi v17 c1_i32_4
  let v19 : Index := Scalar.indexCast v18
  let v20 : BitVec 32 := pf.at 0 (Rect.unit (s := S4096) ![v19.toNat] S1.size (k0_off1_inb i 1)) numel1_S1
  let c0_i32_5 : BitVec 32 := 0#32
  let c0_i32_6 : BitVec 32 := 0#32
  ![v16.toNat, v20.toNat, c0_i32_5.toNat]

def cc0_transform_4 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c2_i32 : BitVec 32 := 2#32
  let v18 : BitVec 32 := Scalar.addi v17 c2_i32
  let v19 : Index := Scalar.indexCast v18
  let v20 : BitVec 32 := pf.at 0 (Rect.unit (s := S4096) ![v19.toNat] S1.size (k0_off1_inb i 2)) numel1_S1
  let c0_i32_4 : BitVec 32 := 0#32
  let c0_i32_5 : BitVec 32 := 0#32
  ![v16.toNat, v20.toNat, c0_i32_4.toNat]

def cc0_transform_5 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c3_i32 : BitVec 32 := 3#32
  let v18 : BitVec 32 := Scalar.addi v17 c3_i32
  let v19 : Index := Scalar.indexCast v18
  let v20 : BitVec 32 := pf.at 0 (Rect.unit (s := S4096) ![v19.toNat] S1.size (k0_off1_inb i 3)) numel1_S1
  let c0_i32_4 : BitVec 32 := 0#32
  let c0_i32_5 : BitVec 32 := 0#32
  ![v16.toNat, v20.toNat, c0_i32_4.toNat]

def cc0_transform_6 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c4_i32 : BitVec 32 := 4#32
  let v18 : BitVec 32 := Scalar.addi v17 c4_i32
  let v19 : Index := Scalar.indexCast v18
  let v20 : BitVec 32 := pf.at 0 (Rect.unit (s := S4096) ![v19.toNat] S1.size (k0_off1_inb i 4)) numel1_S1
  let c0_i32_4 : BitVec 32 := 0#32
  let c0_i32_5 : BitVec 32 := 0#32
  ![v16.toNat, v20.toNat, c0_i32_4.toNat]

def cc0_transform_7 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c5_i32 : BitVec 32 := 5#32
  let v18 : BitVec 32 := Scalar.addi v17 c5_i32
  let v19 : Index := Scalar.indexCast v18
  let v20 : BitVec 32 := pf.at 0 (Rect.unit (s := S4096) ![v19.toNat] S1.size (k0_off1_inb i 5)) numel1_S1
  let c0_i32_4 : BitVec 32 := 0#32
  let c0_i32_5 : BitVec 32 := 0#32
  ![v16.toNat, v20.toNat, c0_i32_4.toNat]

def cc0_transform_8 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c6_i32 : BitVec 32 := 6#32
  let v18 : BitVec 32 := Scalar.addi v17 c6_i32
  let v19 : Index := Scalar.indexCast v18
  let v20 : BitVec 32 := pf.at 0 (Rect.unit (s := S4096) ![v19.toNat] S1.size (k0_off1_inb i 6)) numel1_S1
  let c0_i32_4 : BitVec 32 := 0#32
  let c0_i32_5 : BitVec 32 := 0#32
  ![v16.toNat, v20.toNat, c0_i32_4.toNat]

def cc0_transform_9 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c7_i32 : BitVec 32 := 7#32
  let v18 : BitVec 32 := Scalar.addi v17 c7_i32
  let v19 : Index := Scalar.indexCast v18
  let v20 : BitVec 32 := pf.at 0 (Rect.unit (s := S4096) ![v19.toNat] S1.size (k0_off1_inb i 7)) numel1_S1
  let c0_i32_4 : BitVec 32 := 0#32
  let c0_i32_5 : BitVec 32 := 0#32
  ![v16.toNat, v20.toNat, c0_i32_4.toNat]

def cc0_transform_10 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c8_i32 : BitVec 32 := 8#32
  let v18 : BitVec 32 := Scalar.addi v17 c8_i32
  let v19 : Index := Scalar.indexCast v18
  let v20 : BitVec 32 := pf.at 0 (Rect.unit (s := S4096) ![v19.toNat] S1.size (k0_off1_inb i 8)) numel1_S1
  let c0_i32_4 : BitVec 32 := 0#32
  let c0_i32_5 : BitVec 32 := 0#32
  ![v16.toNat, v20.toNat, c0_i32_4.toNat]

def cc0_transform_11 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c9_i32 : BitVec 32 := 9#32
  let v18 : BitVec 32 := Scalar.addi v17 c9_i32
  let v19 : Index := Scalar.indexCast v18
  let v20 : BitVec 32 := pf.at 0 (Rect.unit (s := S4096) ![v19.toNat] S1.size (k0_off1_inb i 9)) numel1_S1
  let c0_i32_4 : BitVec 32 := 0#32
  let c0_i32_5 : BitVec 32 := 0#32
  ![v16.toNat, v20.toNat, c0_i32_4.toNat]

def cc0_transform_12 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c10_i32 : BitVec 32 := 10#32
  let v18 : BitVec 32 := Scalar.addi v17 c10_i32
  let v19 : Index := Scalar.indexCast v18
  let v20 : BitVec 32 := pf.at 0 (Rect.unit (s := S4096) ![v19.toNat] S1.size (k0_off1_inb i 10)) numel1_S1
  let c0_i32_4 : BitVec 32 := 0#32
  let c0_i32_5 : BitVec 32 := 0#32
  ![v16.toNat, v20.toNat, c0_i32_4.toNat]

def cc0_transform_13 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c11_i32 : BitVec 32 := 11#32
  let v18 : BitVec 32 := Scalar.addi v17 c11_i32
  let v19 : Index := Scalar.indexCast v18
  let v20 : BitVec 32 := pf.at 0 (Rect.unit (s := S4096) ![v19.toNat] S1.size (k0_off1_inb i 11)) numel1_S1
  let c0_i32_4 : BitVec 32 := 0#32
  let c0_i32_5 : BitVec 32 := 0#32
  ![v16.toNat, v20.toNat, c0_i32_4.toNat]

def cc0_transform_14 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c12_i32 : BitVec 32 := 12#32
  let v18 : BitVec 32 := Scalar.addi v17 c12_i32
  let v19 : Index := Scalar.indexCast v18
  let v20 : BitVec 32 := pf.at 0 (Rect.unit (s := S4096) ![v19.toNat] S1.size (k0_off1_inb i 12)) numel1_S1
  let c0_i32_4 : BitVec 32 := 0#32
  let c0_i32_5 : BitVec 32 := 0#32
  ![v16.toNat, v20.toNat, c0_i32_4.toNat]

def cc0_transform_15 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c13_i32 : BitVec 32 := 13#32
  let v18 : BitVec 32 := Scalar.addi v17 c13_i32
  let v19 : Index := Scalar.indexCast v18
  let v20 : BitVec 32 := pf.at 0 (Rect.unit (s := S4096) ![v19.toNat] S1.size (k0_off1_inb i 13)) numel1_S1
  let c0_i32_4 : BitVec 32 := 0#32
  let c0_i32_5 : BitVec 32 := 0#32
  ![v16.toNat, v20.toNat, c0_i32_4.toNat]

def cc0_transform_16 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c14_i32 : BitVec 32 := 14#32
  let v18 : BitVec 32 := Scalar.addi v17 c14_i32
  let v19 : Index := Scalar.indexCast v18
  let v20 : BitVec 32 := pf.at 0 (Rect.unit (s := S4096) ![v19.toNat] S1.size (k0_off1_inb i 14)) numel1_S1
  let c0_i32_4 : BitVec 32 := 0#32
  let c0_i32_5 : BitVec 32 := 0#32
  ![v16.toNat, v20.toNat, c0_i32_4.toNat]

def cc0_transform_17 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c15_i32 : BitVec 32 := 15#32
  let v18 : BitVec 32 := Scalar.addi v17 c15_i32
  let v19 : Index := Scalar.indexCast v18
  let v20 : BitVec 32 := pf.at 0 (Rect.unit (s := S4096) ![v19.toNat] S1.size (k0_off1_inb i 15)) numel1_S1
  let c0_i32_4 : BitVec 32 := 0#32
  let c0_i32_5 : BitVec 32 := 0#32
  ![v16.toNat, v20.toNat, c0_i32_4.toNat]

def cc0_transform_18 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c16_i32 : BitVec 32 := 16#32
  let v18 : BitVec 32 := Scalar.addi v17 c16_i32
  let v19 : Index := Scalar.indexCast v18
  let v20 : BitVec 32 := pf.at 0 (Rect.unit (s := S4096) ![v19.toNat] S1.size (k0_off1_inb i 16)) numel1_S1
  let c0_i32_4 : BitVec 32 := 0#32
  let c0_i32_5 : BitVec 32 := 0#32
  ![v16.toNat, v20.toNat, c0_i32_4.toNat]

def cc0_transform_19 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c17_i32 : BitVec 32 := 17#32
  let v18 : BitVec 32 := Scalar.addi v17 c17_i32
  let v19 : Index := Scalar.indexCast v18
  let v20 : BitVec 32 := pf.at 0 (Rect.unit (s := S4096) ![v19.toNat] S1.size (k0_off1_inb i 17)) numel1_S1
  let c0_i32_4 : BitVec 32 := 0#32
  let c0_i32_5 : BitVec 32 := 0#32
  ![v16.toNat, v20.toNat, c0_i32_4.toNat]

def cc0_transform_20 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c18_i32 : BitVec 32 := 18#32
  let v18 : BitVec 32 := Scalar.addi v17 c18_i32
  let v19 : Index := Scalar.indexCast v18
  let v20 : BitVec 32 := pf.at 0 (Rect.unit (s := S4096) ![v19.toNat] S1.size (k0_off1_inb i 18)) numel1_S1
  let c0_i32_4 : BitVec 32 := 0#32
  let c0_i32_5 : BitVec 32 := 0#32
  ![v16.toNat, v20.toNat, c0_i32_4.toNat]

def cc0_transform_21 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c19_i32 : BitVec 32 := 19#32
  let v18 : BitVec 32 := Scalar.addi v17 c19_i32
  let v19 : Index := Scalar.indexCast v18
  let v20 : BitVec 32 := pf.at 0 (Rect.unit (s := S4096) ![v19.toNat] S1.size (k0_off1_inb i 19)) numel1_S1
  let c0_i32_4 : BitVec 32 := 0#32
  let c0_i32_5 : BitVec 32 := 0#32
  ![v16.toNat, v20.toNat, c0_i32_4.toNat]

def cc0_transform_22 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c20_i32 : BitVec 32 := 20#32
  let v18 : BitVec 32 := Scalar.addi v17 c20_i32
  let v19 : Index := Scalar.indexCast v18
  let v20 : BitVec 32 := pf.at 0 (Rect.unit (s := S4096) ![v19.toNat] S1.size (k0_off1_inb i 20)) numel1_S1
  let c0_i32_4 : BitVec 32 := 0#32
  let c0_i32_5 : BitVec 32 := 0#32
  ![v16.toNat, v20.toNat, c0_i32_4.toNat]

def cc0_transform_23 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c21_i32 : BitVec 32 := 21#32
  let v18 : BitVec 32 := Scalar.addi v17 c21_i32
  let v19 : Index := Scalar.indexCast v18
  let v20 : BitVec 32 := pf.at 0 (Rect.unit (s := S4096) ![v19.toNat] S1.size (k0_off1_inb i 21)) numel1_S1
  let c0_i32_4 : BitVec 32 := 0#32
  let c0_i32_5 : BitVec 32 := 0#32
  ![v16.toNat, v20.toNat, c0_i32_4.toNat]

def cc0_transform_24 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c22_i32 : BitVec 32 := 22#32
  let v18 : BitVec 32 := Scalar.addi v17 c22_i32
  let v19 : Index := Scalar.indexCast v18
  let v20 : BitVec 32 := pf.at 0 (Rect.unit (s := S4096) ![v19.toNat] S1.size (k0_off1_inb i 22)) numel1_S1
  let c0_i32_4 : BitVec 32 := 0#32
  let c0_i32_5 : BitVec 32 := 0#32
  ![v16.toNat, v20.toNat, c0_i32_4.toNat]

def cc0_transform_25 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c23_i32 : BitVec 32 := 23#32
  let v18 : BitVec 32 := Scalar.addi v17 c23_i32
  let v19 : Index := Scalar.indexCast v18
  let v20 : BitVec 32 := pf.at 0 (Rect.unit (s := S4096) ![v19.toNat] S1.size (k0_off1_inb i 23)) numel1_S1
  let c0_i32_4 : BitVec 32 := 0#32
  let c0_i32_5 : BitVec 32 := 0#32
  ![v16.toNat, v20.toNat, c0_i32_4.toNat]

def cc0_transform_26 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c24_i32 : BitVec 32 := 24#32
  let v18 : BitVec 32 := Scalar.addi v17 c24_i32
  let v19 : Index := Scalar.indexCast v18
  let v20 : BitVec 32 := pf.at 0 (Rect.unit (s := S4096) ![v19.toNat] S1.size (k0_off1_inb i 24)) numel1_S1
  let c0_i32_4 : BitVec 32 := 0#32
  let c0_i32_5 : BitVec 32 := 0#32
  ![v16.toNat, v20.toNat, c0_i32_4.toNat]

def cc0_transform_27 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c25_i32 : BitVec 32 := 25#32
  let v18 : BitVec 32 := Scalar.addi v17 c25_i32
  let v19 : Index := Scalar.indexCast v18
  let v20 : BitVec 32 := pf.at 0 (Rect.unit (s := S4096) ![v19.toNat] S1.size (k0_off1_inb i 25)) numel1_S1
  let c0_i32_4 : BitVec 32 := 0#32
  let c0_i32_5 : BitVec 32 := 0#32
  ![v16.toNat, v20.toNat, c0_i32_4.toNat]

def cc0_transform_28 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c26_i32 : BitVec 32 := 26#32
  let v18 : BitVec 32 := Scalar.addi v17 c26_i32
  let v19 : Index := Scalar.indexCast v18
  let v20 : BitVec 32 := pf.at 0 (Rect.unit (s := S4096) ![v19.toNat] S1.size (k0_off1_inb i 26)) numel1_S1
  let c0_i32_4 : BitVec 32 := 0#32
  let c0_i32_5 : BitVec 32 := 0#32
  ![v16.toNat, v20.toNat, c0_i32_4.toNat]

def cc0_transform_29 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c27_i32 : BitVec 32 := 27#32
  let v18 : BitVec 32 := Scalar.addi v17 c27_i32
  let v19 : Index := Scalar.indexCast v18
  let v20 : BitVec 32 := pf.at 0 (Rect.unit (s := S4096) ![v19.toNat] S1.size (k0_off1_inb i 27)) numel1_S1
  let c0_i32_4 : BitVec 32 := 0#32
  let c0_i32_5 : BitVec 32 := 0#32
  ![v16.toNat, v20.toNat, c0_i32_4.toNat]

def cc0_transform_30 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c28_i32 : BitVec 32 := 28#32
  let v18 : BitVec 32 := Scalar.addi v17 c28_i32
  let v19 : Index := Scalar.indexCast v18
  let v20 : BitVec 32 := pf.at 0 (Rect.unit (s := S4096) ![v19.toNat] S1.size (k0_off1_inb i 28)) numel1_S1
  let c0_i32_4 : BitVec 32 := 0#32
  let c0_i32_5 : BitVec 32 := 0#32
  ![v16.toNat, v20.toNat, c0_i32_4.toNat]

def cc0_transform_31 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c29_i32 : BitVec 32 := 29#32
  let v18 : BitVec 32 := Scalar.addi v17 c29_i32
  let v19 : Index := Scalar.indexCast v18
  let v20 : BitVec 32 := pf.at 0 (Rect.unit (s := S4096) ![v19.toNat] S1.size (k0_off1_inb i 29)) numel1_S1
  let c0_i32_4 : BitVec 32 := 0#32
  let c0_i32_5 : BitVec 32 := 0#32
  ![v16.toNat, v20.toNat, c0_i32_4.toNat]

def cc0_transform_32 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c30_i32 : BitVec 32 := 30#32
  let v18 : BitVec 32 := Scalar.addi v17 c30_i32
  let v19 : Index := Scalar.indexCast v18
  let v20 : BitVec 32 := pf.at 0 (Rect.unit (s := S4096) ![v19.toNat] S1.size (k0_off1_inb i 30)) numel1_S1
  let c0_i32_4 : BitVec 32 := 0#32
  let c0_i32_5 : BitVec 32 := 0#32
  ![v16.toNat, v20.toNat, c0_i32_4.toNat]

def cc0_transform_33 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c31_i32 : BitVec 32 := 31#32
  let v18 : BitVec 32 := Scalar.addi v17 c31_i32
  let v19 : Index := Scalar.indexCast v18
  let v20 : BitVec 32 := pf.at 0 (Rect.unit (s := S4096) ![v19.toNat] S1.size (k0_off1_inb i 31)) numel1_S1
  let c0_i32_4 : BitVec 32 := 0#32
  let c0_i32_5 : BitVec 32 := 0#32
  ![v16.toNat, v20.toNat, c0_i32_4.toNat]

def cc0_transform_34 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c32_i32_4 : BitVec 32 := 32#32
  let v18 : BitVec 32 := Scalar.addi v17 c32_i32_4
  let v19 : Index := Scalar.indexCast v18
  let v20 : BitVec 32 := pf.at 0 (Rect.unit (s := S4096) ![v19.toNat] S1.size (k0_off1_inb i 32)) numel1_S1
  let c0_i32_5 : BitVec 32 := 0#32
  let c0_i32_6 : BitVec 32 := 0#32
  ![v16.toNat, v20.toNat, c0_i32_5.toNat]

def cc0_transform_35 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c33_i32 : BitVec 32 := 33#32
  let v18 : BitVec 32 := Scalar.addi v17 c33_i32
  let v19 : Index := Scalar.indexCast v18
  let v20 : BitVec 32 := pf.at 0 (Rect.unit (s := S4096) ![v19.toNat] S1.size (k0_off1_inb i 33)) numel1_S1
  let c0_i32_4 : BitVec 32 := 0#32
  let c0_i32_5 : BitVec 32 := 0#32
  ![v16.toNat, v20.toNat, c0_i32_4.toNat]

def cc0_transform_36 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c34_i32 : BitVec 32 := 34#32
  let v18 : BitVec 32 := Scalar.addi v17 c34_i32
  let v19 : Index := Scalar.indexCast v18
  let v20 : BitVec 32 := pf.at 0 (Rect.unit (s := S4096) ![v19.toNat] S1.size (k0_off1_inb i 34)) numel1_S1
  let c0_i32_4 : BitVec 32 := 0#32
  let c0_i32_5 : BitVec 32 := 0#32
  ![v16.toNat, v20.toNat, c0_i32_4.toNat]

def cc0_transform_37 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c35_i32 : BitVec 32 := 35#32
  let v18 : BitVec 32 := Scalar.addi v17 c35_i32
  let v19 : Index := Scalar.indexCast v18
  let v20 : BitVec 32 := pf.at 0 (Rect.unit (s := S4096) ![v19.toNat] S1.size (k0_off1_inb i 35)) numel1_S1
  let c0_i32_4 : BitVec 32 := 0#32
  let c0_i32_5 : BitVec 32 := 0#32
  ![v16.toNat, v20.toNat, c0_i32_4.toNat]

def cc0_transform_38 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c36_i32 : BitVec 32 := 36#32
  let v18 : BitVec 32 := Scalar.addi v17 c36_i32
  let v19 : Index := Scalar.indexCast v18
  let v20 : BitVec 32 := pf.at 0 (Rect.unit (s := S4096) ![v19.toNat] S1.size (k0_off1_inb i 36)) numel1_S1
  let c0_i32_4 : BitVec 32 := 0#32
  let c0_i32_5 : BitVec 32 := 0#32
  ![v16.toNat, v20.toNat, c0_i32_4.toNat]

def cc0_transform_39 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c37_i32 : BitVec 32 := 37#32
  let v18 : BitVec 32 := Scalar.addi v17 c37_i32
  let v19 : Index := Scalar.indexCast v18
  let v20 : BitVec 32 := pf.at 0 (Rect.unit (s := S4096) ![v19.toNat] S1.size (k0_off1_inb i 37)) numel1_S1
  let c0_i32_4 : BitVec 32 := 0#32
  let c0_i32_5 : BitVec 32 := 0#32
  ![v16.toNat, v20.toNat, c0_i32_4.toNat]

def cc0_transform_40 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c38_i32 : BitVec 32 := 38#32
  let v18 : BitVec 32 := Scalar.addi v17 c38_i32
  let v19 : Index := Scalar.indexCast v18
  let v20 : BitVec 32 := pf.at 0 (Rect.unit (s := S4096) ![v19.toNat] S1.size (k0_off1_inb i 38)) numel1_S1
  let c0_i32_4 : BitVec 32 := 0#32
  let c0_i32_5 : BitVec 32 := 0#32
  ![v16.toNat, v20.toNat, c0_i32_4.toNat]

def cc0_transform_41 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c39_i32 : BitVec 32 := 39#32
  let v18 : BitVec 32 := Scalar.addi v17 c39_i32
  let v19 : Index := Scalar.indexCast v18
  let v20 : BitVec 32 := pf.at 0 (Rect.unit (s := S4096) ![v19.toNat] S1.size (k0_off1_inb i 39)) numel1_S1
  let c0_i32_4 : BitVec 32 := 0#32
  let c0_i32_5 : BitVec 32 := 0#32
  ![v16.toNat, v20.toNat, c0_i32_4.toNat]

def cc0_transform_42 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c40_i32 : BitVec 32 := 40#32
  let v18 : BitVec 32 := Scalar.addi v17 c40_i32
  let v19 : Index := Scalar.indexCast v18
  let v20 : BitVec 32 := pf.at 0 (Rect.unit (s := S4096) ![v19.toNat] S1.size (k0_off1_inb i 40)) numel1_S1
  let c0_i32_4 : BitVec 32 := 0#32
  let c0_i32_5 : BitVec 32 := 0#32
  ![v16.toNat, v20.toNat, c0_i32_4.toNat]

def cc0_transform_43 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c41_i32 : BitVec 32 := 41#32
  let v18 : BitVec 32 := Scalar.addi v17 c41_i32
  let v19 : Index := Scalar.indexCast v18
  let v20 : BitVec 32 := pf.at 0 (Rect.unit (s := S4096) ![v19.toNat] S1.size (k0_off1_inb i 41)) numel1_S1
  let c0_i32_4 : BitVec 32 := 0#32
  let c0_i32_5 : BitVec 32 := 0#32
  ![v16.toNat, v20.toNat, c0_i32_4.toNat]

def cc0_transform_44 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c42_i32 : BitVec 32 := 42#32
  let v18 : BitVec 32 := Scalar.addi v17 c42_i32
  let v19 : Index := Scalar.indexCast v18
  let v20 : BitVec 32 := pf.at 0 (Rect.unit (s := S4096) ![v19.toNat] S1.size (k0_off1_inb i 42)) numel1_S1
  let c0_i32_4 : BitVec 32 := 0#32
  let c0_i32_5 : BitVec 32 := 0#32
  ![v16.toNat, v20.toNat, c0_i32_4.toNat]

def cc0_transform_45 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c43_i32 : BitVec 32 := 43#32
  let v18 : BitVec 32 := Scalar.addi v17 c43_i32
  let v19 : Index := Scalar.indexCast v18
  let v20 : BitVec 32 := pf.at 0 (Rect.unit (s := S4096) ![v19.toNat] S1.size (k0_off1_inb i 43)) numel1_S1
  let c0_i32_4 : BitVec 32 := 0#32
  let c0_i32_5 : BitVec 32 := 0#32
  ![v16.toNat, v20.toNat, c0_i32_4.toNat]

def cc0_transform_46 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c44_i32 : BitVec 32 := 44#32
  let v18 : BitVec 32 := Scalar.addi v17 c44_i32
  let v19 : Index := Scalar.indexCast v18
  let v20 : BitVec 32 := pf.at 0 (Rect.unit (s := S4096) ![v19.toNat] S1.size (k0_off1_inb i 44)) numel1_S1
  let c0_i32_4 : BitVec 32 := 0#32
  let c0_i32_5 : BitVec 32 := 0#32
  ![v16.toNat, v20.toNat, c0_i32_4.toNat]

def cc0_transform_47 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c45_i32 : BitVec 32 := 45#32
  let v18 : BitVec 32 := Scalar.addi v17 c45_i32
  let v19 : Index := Scalar.indexCast v18
  let v20 : BitVec 32 := pf.at 0 (Rect.unit (s := S4096) ![v19.toNat] S1.size (k0_off1_inb i 45)) numel1_S1
  let c0_i32_4 : BitVec 32 := 0#32
  let c0_i32_5 : BitVec 32 := 0#32
  ![v16.toNat, v20.toNat, c0_i32_4.toNat]

def cc0_transform_48 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c46_i32 : BitVec 32 := 46#32
  let v18 : BitVec 32 := Scalar.addi v17 c46_i32
  let v19 : Index := Scalar.indexCast v18
  let v20 : BitVec 32 := pf.at 0 (Rect.unit (s := S4096) ![v19.toNat] S1.size (k0_off1_inb i 46)) numel1_S1
  let c0_i32_4 : BitVec 32 := 0#32
  let c0_i32_5 : BitVec 32 := 0#32
  ![v16.toNat, v20.toNat, c0_i32_4.toNat]

def cc0_transform_49 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c47_i32 : BitVec 32 := 47#32
  let v18 : BitVec 32 := Scalar.addi v17 c47_i32
  let v19 : Index := Scalar.indexCast v18
  let v20 : BitVec 32 := pf.at 0 (Rect.unit (s := S4096) ![v19.toNat] S1.size (k0_off1_inb i 47)) numel1_S1
  let c0_i32_4 : BitVec 32 := 0#32
  let c0_i32_5 : BitVec 32 := 0#32
  ![v16.toNat, v20.toNat, c0_i32_4.toNat]

def cc0_transform_50 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c48_i32 : BitVec 32 := 48#32
  let v18 : BitVec 32 := Scalar.addi v17 c48_i32
  let v19 : Index := Scalar.indexCast v18
  let v20 : BitVec 32 := pf.at 0 (Rect.unit (s := S4096) ![v19.toNat] S1.size (k0_off1_inb i 48)) numel1_S1
  let c0_i32_4 : BitVec 32 := 0#32
  let c0_i32_5 : BitVec 32 := 0#32
  ![v16.toNat, v20.toNat, c0_i32_4.toNat]

def cc0_transform_51 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c49_i32 : BitVec 32 := 49#32
  let v18 : BitVec 32 := Scalar.addi v17 c49_i32
  let v19 : Index := Scalar.indexCast v18
  let v20 : BitVec 32 := pf.at 0 (Rect.unit (s := S4096) ![v19.toNat] S1.size (k0_off1_inb i 49)) numel1_S1
  let c0_i32_4 : BitVec 32 := 0#32
  let c0_i32_5 : BitVec 32 := 0#32
  ![v16.toNat, v20.toNat, c0_i32_4.toNat]

def cc0_transform_52 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c50_i32 : BitVec 32 := 50#32
  let v18 : BitVec 32 := Scalar.addi v17 c50_i32
  let v19 : Index := Scalar.indexCast v18
  let v20 : BitVec 32 := pf.at 0 (Rect.unit (s := S4096) ![v19.toNat] S1.size (k0_off1_inb i 50)) numel1_S1
  let c0_i32_4 : BitVec 32 := 0#32
  let c0_i32_5 : BitVec 32 := 0#32
  ![v16.toNat, v20.toNat, c0_i32_4.toNat]

def cc0_transform_53 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c51_i32 : BitVec 32 := 51#32
  let v18 : BitVec 32 := Scalar.addi v17 c51_i32
  let v19 : Index := Scalar.indexCast v18
  let v20 : BitVec 32 := pf.at 0 (Rect.unit (s := S4096) ![v19.toNat] S1.size (k0_off1_inb i 51)) numel1_S1
  let c0_i32_4 : BitVec 32 := 0#32
  let c0_i32_5 : BitVec 32 := 0#32
  ![v16.toNat, v20.toNat, c0_i32_4.toNat]

def cc0_transform_54 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c52_i32 : BitVec 32 := 52#32
  let v18 : BitVec 32 := Scalar.addi v17 c52_i32
  let v19 : Index := Scalar.indexCast v18
  let v20 : BitVec 32 := pf.at 0 (Rect.unit (s := S4096) ![v19.toNat] S1.size (k0_off1_inb i 52)) numel1_S1
  let c0_i32_4 : BitVec 32 := 0#32
  let c0_i32_5 : BitVec 32 := 0#32
  ![v16.toNat, v20.toNat, c0_i32_4.toNat]

def cc0_transform_55 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c53_i32 : BitVec 32 := 53#32
  let v18 : BitVec 32 := Scalar.addi v17 c53_i32
  let v19 : Index := Scalar.indexCast v18
  let v20 : BitVec 32 := pf.at 0 (Rect.unit (s := S4096) ![v19.toNat] S1.size (k0_off1_inb i 53)) numel1_S1
  let c0_i32_4 : BitVec 32 := 0#32
  let c0_i32_5 : BitVec 32 := 0#32
  ![v16.toNat, v20.toNat, c0_i32_4.toNat]

def cc0_transform_56 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c54_i32 : BitVec 32 := 54#32
  let v18 : BitVec 32 := Scalar.addi v17 c54_i32
  let v19 : Index := Scalar.indexCast v18
  let v20 : BitVec 32 := pf.at 0 (Rect.unit (s := S4096) ![v19.toNat] S1.size (k0_off1_inb i 54)) numel1_S1
  let c0_i32_4 : BitVec 32 := 0#32
  let c0_i32_5 : BitVec 32 := 0#32
  ![v16.toNat, v20.toNat, c0_i32_4.toNat]

def cc0_transform_57 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c55_i32 : BitVec 32 := 55#32
  let v18 : BitVec 32 := Scalar.addi v17 c55_i32
  let v19 : Index := Scalar.indexCast v18
  let v20 : BitVec 32 := pf.at 0 (Rect.unit (s := S4096) ![v19.toNat] S1.size (k0_off1_inb i 55)) numel1_S1
  let c0_i32_4 : BitVec 32 := 0#32
  let c0_i32_5 : BitVec 32 := 0#32
  ![v16.toNat, v20.toNat, c0_i32_4.toNat]

def cc0_transform_58 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c56_i32 : BitVec 32 := 56#32
  let v18 : BitVec 32 := Scalar.addi v17 c56_i32
  let v19 : Index := Scalar.indexCast v18
  let v20 : BitVec 32 := pf.at 0 (Rect.unit (s := S4096) ![v19.toNat] S1.size (k0_off1_inb i 56)) numel1_S1
  let c0_i32_4 : BitVec 32 := 0#32
  let c0_i32_5 : BitVec 32 := 0#32
  ![v16.toNat, v20.toNat, c0_i32_4.toNat]

def cc0_transform_59 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c57_i32 : BitVec 32 := 57#32
  let v18 : BitVec 32 := Scalar.addi v17 c57_i32
  let v19 : Index := Scalar.indexCast v18
  let v20 : BitVec 32 := pf.at 0 (Rect.unit (s := S4096) ![v19.toNat] S1.size (k0_off1_inb i 57)) numel1_S1
  let c0_i32_4 : BitVec 32 := 0#32
  let c0_i32_5 : BitVec 32 := 0#32
  ![v16.toNat, v20.toNat, c0_i32_4.toNat]

def cc0_transform_60 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c58_i32 : BitVec 32 := 58#32
  let v18 : BitVec 32 := Scalar.addi v17 c58_i32
  let v19 : Index := Scalar.indexCast v18
  let v20 : BitVec 32 := pf.at 0 (Rect.unit (s := S4096) ![v19.toNat] S1.size (k0_off1_inb i 58)) numel1_S1
  let c0_i32_4 : BitVec 32 := 0#32
  let c0_i32_5 : BitVec 32 := 0#32
  ![v16.toNat, v20.toNat, c0_i32_4.toNat]

def cc0_transform_61 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c59_i32 : BitVec 32 := 59#32
  let v18 : BitVec 32 := Scalar.addi v17 c59_i32
  let v19 : Index := Scalar.indexCast v18
  let v20 : BitVec 32 := pf.at 0 (Rect.unit (s := S4096) ![v19.toNat] S1.size (k0_off1_inb i 59)) numel1_S1
  let c0_i32_4 : BitVec 32 := 0#32
  let c0_i32_5 : BitVec 32 := 0#32
  ![v16.toNat, v20.toNat, c0_i32_4.toNat]

def cc0_transform_62 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c60_i32 : BitVec 32 := 60#32
  let v18 : BitVec 32 := Scalar.addi v17 c60_i32
  let v19 : Index := Scalar.indexCast v18
  let v20 : BitVec 32 := pf.at 0 (Rect.unit (s := S4096) ![v19.toNat] S1.size (k0_off1_inb i 60)) numel1_S1
  let c0_i32_4 : BitVec 32 := 0#32
  let c0_i32_5 : BitVec 32 := 0#32
  ![v16.toNat, v20.toNat, c0_i32_4.toNat]

def cc0_transform_63 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c61_i32 : BitVec 32 := 61#32
  let v18 : BitVec 32 := Scalar.addi v17 c61_i32
  let v19 : Index := Scalar.indexCast v18
  let v20 : BitVec 32 := pf.at 0 (Rect.unit (s := S4096) ![v19.toNat] S1.size (k0_off1_inb i 61)) numel1_S1
  let c0_i32_4 : BitVec 32 := 0#32
  let c0_i32_5 : BitVec 32 := 0#32
  ![v16.toNat, v20.toNat, c0_i32_4.toNat]

def cc0_transform_64 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c62_i32 : BitVec 32 := 62#32
  let v18 : BitVec 32 := Scalar.addi v17 c62_i32
  let v19 : Index := Scalar.indexCast v18
  let v20 : BitVec 32 := pf.at 0 (Rect.unit (s := S4096) ![v19.toNat] S1.size (k0_off1_inb i 62)) numel1_S1
  let c0_i32_4 : BitVec 32 := 0#32
  let c0_i32_5 : BitVec 32 := 0#32
  ![v16.toNat, v20.toNat, c0_i32_4.toNat]

def cc0_transform_65 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c63_i32 : BitVec 32 := 63#32
  let v18 : BitVec 32 := Scalar.addi v17 c63_i32
  let v19 : Index := Scalar.indexCast v18
  let v20 : BitVec 32 := pf.at 0 (Rect.unit (s := S4096) ![v19.toNat] S1.size (k0_off1_inb i 63)) numel1_S1
  let c0_i32_4 : BitVec 32 := 0#32
  let c0_i32_5 : BitVec 32 := 0#32
  ![v16.toNat, v20.toNat, c0_i32_4.toNat]

def cc0_transform_66 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c0_i32_4 : BitVec 32 := 0#32
  let v18 : BitVec 32 := Scalar.addi v17 c0_i32_4
  let v19 : Index := Scalar.indexCast v18
  let v20 : BitVec 32 := pf.at 0 (Rect.unit (s := S4096) ![v19.toNat] S1.size (k0_off1_inb i 0)) numel1_S1
  let c0_i32_5 : BitVec 32 := 0#32
  let c0_i32_6 : BitVec 32 := 0#32
  ![v16.toNat, v20.toNat, c0_i32_5.toNat]

def cc0_transform_67 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c1_i32_4 : BitVec 32 := 1#32
  let v18 : BitVec 32 := Scalar.addi v17 c1_i32_4
  let v19 : Index := Scalar.indexCast v18
  let v20 : BitVec 32 := pf.at 0 (Rect.unit (s := S4096) ![v19.toNat] S1.size (k0_off1_inb i 1)) numel1_S1
  let c0_i32_5 : BitVec 32 := 0#32
  let c0_i32_6 : BitVec 32 := 0#32
  ![v16.toNat, v20.toNat, c0_i32_5.toNat]

def cc0_transform_68 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c2_i32 : BitVec 32 := 2#32
  let v18 : BitVec 32 := Scalar.addi v17 c2_i32
  let v19 : Index := Scalar.indexCast v18
  let v20 : BitVec 32 := pf.at 0 (Rect.unit (s := S4096) ![v19.toNat] S1.size (k0_off1_inb i 2)) numel1_S1
  let c0_i32_4 : BitVec 32 := 0#32
  let c0_i32_5 : BitVec 32 := 0#32
  ![v16.toNat, v20.toNat, c0_i32_4.toNat]

def cc0_transform_69 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c3_i32 : BitVec 32 := 3#32
  let v18 : BitVec 32 := Scalar.addi v17 c3_i32
  let v19 : Index := Scalar.indexCast v18
  let v20 : BitVec 32 := pf.at 0 (Rect.unit (s := S4096) ![v19.toNat] S1.size (k0_off1_inb i 3)) numel1_S1
  let c0_i32_4 : BitVec 32 := 0#32
  let c0_i32_5 : BitVec 32 := 0#32
  ![v16.toNat, v20.toNat, c0_i32_4.toNat]

def cc0_transform_70 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c4_i32 : BitVec 32 := 4#32
  let v18 : BitVec 32 := Scalar.addi v17 c4_i32
  let v19 : Index := Scalar.indexCast v18
  let v20 : BitVec 32 := pf.at 0 (Rect.unit (s := S4096) ![v19.toNat] S1.size (k0_off1_inb i 4)) numel1_S1
  let c0_i32_4 : BitVec 32 := 0#32
  let c0_i32_5 : BitVec 32 := 0#32
  ![v16.toNat, v20.toNat, c0_i32_4.toNat]

def cc0_transform_71 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c5_i32 : BitVec 32 := 5#32
  let v18 : BitVec 32 := Scalar.addi v17 c5_i32
  let v19 : Index := Scalar.indexCast v18
  let v20 : BitVec 32 := pf.at 0 (Rect.unit (s := S4096) ![v19.toNat] S1.size (k0_off1_inb i 5)) numel1_S1
  let c0_i32_4 : BitVec 32 := 0#32
  let c0_i32_5 : BitVec 32 := 0#32
  ![v16.toNat, v20.toNat, c0_i32_4.toNat]

def cc0_transform_72 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c6_i32 : BitVec 32 := 6#32
  let v18 : BitVec 32 := Scalar.addi v17 c6_i32
  let v19 : Index := Scalar.indexCast v18
  let v20 : BitVec 32 := pf.at 0 (Rect.unit (s := S4096) ![v19.toNat] S1.size (k0_off1_inb i 6)) numel1_S1
  let c0_i32_4 : BitVec 32 := 0#32
  let c0_i32_5 : BitVec 32 := 0#32
  ![v16.toNat, v20.toNat, c0_i32_4.toNat]

def cc0_transform_73 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c7_i32 : BitVec 32 := 7#32
  let v18 : BitVec 32 := Scalar.addi v17 c7_i32
  let v19 : Index := Scalar.indexCast v18
  let v20 : BitVec 32 := pf.at 0 (Rect.unit (s := S4096) ![v19.toNat] S1.size (k0_off1_inb i 7)) numel1_S1
  let c0_i32_4 : BitVec 32 := 0#32
  let c0_i32_5 : BitVec 32 := 0#32
  ![v16.toNat, v20.toNat, c0_i32_4.toNat]

def cc0_transform_74 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c8_i32 : BitVec 32 := 8#32
  let v18 : BitVec 32 := Scalar.addi v17 c8_i32
  let v19 : Index := Scalar.indexCast v18
  let v20 : BitVec 32 := pf.at 0 (Rect.unit (s := S4096) ![v19.toNat] S1.size (k0_off1_inb i 8)) numel1_S1
  let c0_i32_4 : BitVec 32 := 0#32
  let c0_i32_5 : BitVec 32 := 0#32
  ![v16.toNat, v20.toNat, c0_i32_4.toNat]

def cc0_transform_75 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c9_i32 : BitVec 32 := 9#32
  let v18 : BitVec 32 := Scalar.addi v17 c9_i32
  let v19 : Index := Scalar.indexCast v18
  let v20 : BitVec 32 := pf.at 0 (Rect.unit (s := S4096) ![v19.toNat] S1.size (k0_off1_inb i 9)) numel1_S1
  let c0_i32_4 : BitVec 32 := 0#32
  let c0_i32_5 : BitVec 32 := 0#32
  ![v16.toNat, v20.toNat, c0_i32_4.toNat]

def cc0_transform_76 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c10_i32 : BitVec 32 := 10#32
  let v18 : BitVec 32 := Scalar.addi v17 c10_i32
  let v19 : Index := Scalar.indexCast v18
  let v20 : BitVec 32 := pf.at 0 (Rect.unit (s := S4096) ![v19.toNat] S1.size (k0_off1_inb i 10)) numel1_S1
  let c0_i32_4 : BitVec 32 := 0#32
  let c0_i32_5 : BitVec 32 := 0#32
  ![v16.toNat, v20.toNat, c0_i32_4.toNat]

def cc0_transform_77 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c11_i32 : BitVec 32 := 11#32
  let v18 : BitVec 32 := Scalar.addi v17 c11_i32
  let v19 : Index := Scalar.indexCast v18
  let v20 : BitVec 32 := pf.at 0 (Rect.unit (s := S4096) ![v19.toNat] S1.size (k0_off1_inb i 11)) numel1_S1
  let c0_i32_4 : BitVec 32 := 0#32
  let c0_i32_5 : BitVec 32 := 0#32
  ![v16.toNat, v20.toNat, c0_i32_4.toNat]

def cc0_transform_78 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c12_i32 : BitVec 32 := 12#32
  let v18 : BitVec 32 := Scalar.addi v17 c12_i32
  let v19 : Index := Scalar.indexCast v18
  let v20 : BitVec 32 := pf.at 0 (Rect.unit (s := S4096) ![v19.toNat] S1.size (k0_off1_inb i 12)) numel1_S1
  let c0_i32_4 : BitVec 32 := 0#32
  let c0_i32_5 : BitVec 32 := 0#32
  ![v16.toNat, v20.toNat, c0_i32_4.toNat]

def cc0_transform_79 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c13_i32 : BitVec 32 := 13#32
  let v18 : BitVec 32 := Scalar.addi v17 c13_i32
  let v19 : Index := Scalar.indexCast v18
  let v20 : BitVec 32 := pf.at 0 (Rect.unit (s := S4096) ![v19.toNat] S1.size (k0_off1_inb i 13)) numel1_S1
  let c0_i32_4 : BitVec 32 := 0#32
  let c0_i32_5 : BitVec 32 := 0#32
  ![v16.toNat, v20.toNat, c0_i32_4.toNat]

def cc0_transform_80 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c14_i32 : BitVec 32 := 14#32
  let v18 : BitVec 32 := Scalar.addi v17 c14_i32
  let v19 : Index := Scalar.indexCast v18
  let v20 : BitVec 32 := pf.at 0 (Rect.unit (s := S4096) ![v19.toNat] S1.size (k0_off1_inb i 14)) numel1_S1
  let c0_i32_4 : BitVec 32 := 0#32
  let c0_i32_5 : BitVec 32 := 0#32
  ![v16.toNat, v20.toNat, c0_i32_4.toNat]

def cc0_transform_81 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c15_i32 : BitVec 32 := 15#32
  let v18 : BitVec 32 := Scalar.addi v17 c15_i32
  let v19 : Index := Scalar.indexCast v18
  let v20 : BitVec 32 := pf.at 0 (Rect.unit (s := S4096) ![v19.toNat] S1.size (k0_off1_inb i 15)) numel1_S1
  let c0_i32_4 : BitVec 32 := 0#32
  let c0_i32_5 : BitVec 32 := 0#32
  ![v16.toNat, v20.toNat, c0_i32_4.toNat]

def cc0_transform_82 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c16_i32 : BitVec 32 := 16#32
  let v18 : BitVec 32 := Scalar.addi v17 c16_i32
  let v19 : Index := Scalar.indexCast v18
  let v20 : BitVec 32 := pf.at 0 (Rect.unit (s := S4096) ![v19.toNat] S1.size (k0_off1_inb i 16)) numel1_S1
  let c0_i32_4 : BitVec 32 := 0#32
  let c0_i32_5 : BitVec 32 := 0#32
  ![v16.toNat, v20.toNat, c0_i32_4.toNat]

def cc0_transform_83 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c17_i32 : BitVec 32 := 17#32
  let v18 : BitVec 32 := Scalar.addi v17 c17_i32
  let v19 : Index := Scalar.indexCast v18
  let v20 : BitVec 32 := pf.at 0 (Rect.unit (s := S4096) ![v19.toNat] S1.size (k0_off1_inb i 17)) numel1_S1
  let c0_i32_4 : BitVec 32 := 0#32
  let c0_i32_5 : BitVec 32 := 0#32
  ![v16.toNat, v20.toNat, c0_i32_4.toNat]

def cc0_transform_84 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c18_i32 : BitVec 32 := 18#32
  let v18 : BitVec 32 := Scalar.addi v17 c18_i32
  let v19 : Index := Scalar.indexCast v18
  let v20 : BitVec 32 := pf.at 0 (Rect.unit (s := S4096) ![v19.toNat] S1.size (k0_off1_inb i 18)) numel1_S1
  let c0_i32_4 : BitVec 32 := 0#32
  let c0_i32_5 : BitVec 32 := 0#32
  ![v16.toNat, v20.toNat, c0_i32_4.toNat]

def cc0_transform_85 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c19_i32 : BitVec 32 := 19#32
  let v18 : BitVec 32 := Scalar.addi v17 c19_i32
  let v19 : Index := Scalar.indexCast v18
  let v20 : BitVec 32 := pf.at 0 (Rect.unit (s := S4096) ![v19.toNat] S1.size (k0_off1_inb i 19)) numel1_S1
  let c0_i32_4 : BitVec 32 := 0#32
  let c0_i32_5 : BitVec 32 := 0#32
  ![v16.toNat, v20.toNat, c0_i32_4.toNat]

def cc0_transform_86 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c20_i32 : BitVec 32 := 20#32
  let v18 : BitVec 32 := Scalar.addi v17 c20_i32
  let v19 : Index := Scalar.indexCast v18
  let v20 : BitVec 32 := pf.at 0 (Rect.unit (s := S4096) ![v19.toNat] S1.size (k0_off1_inb i 20)) numel1_S1
  let c0_i32_4 : BitVec 32 := 0#32
  let c0_i32_5 : BitVec 32 := 0#32
  ![v16.toNat, v20.toNat, c0_i32_4.toNat]

def cc0_transform_87 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c21_i32 : BitVec 32 := 21#32
  let v18 : BitVec 32 := Scalar.addi v17 c21_i32
  let v19 : Index := Scalar.indexCast v18
  let v20 : BitVec 32 := pf.at 0 (Rect.unit (s := S4096) ![v19.toNat] S1.size (k0_off1_inb i 21)) numel1_S1
  let c0_i32_4 : BitVec 32 := 0#32
  let c0_i32_5 : BitVec 32 := 0#32
  ![v16.toNat, v20.toNat, c0_i32_4.toNat]

def cc0_transform_88 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c22_i32 : BitVec 32 := 22#32
  let v18 : BitVec 32 := Scalar.addi v17 c22_i32
  let v19 : Index := Scalar.indexCast v18
  let v20 : BitVec 32 := pf.at 0 (Rect.unit (s := S4096) ![v19.toNat] S1.size (k0_off1_inb i 22)) numel1_S1
  let c0_i32_4 : BitVec 32 := 0#32
  let c0_i32_5 : BitVec 32 := 0#32
  ![v16.toNat, v20.toNat, c0_i32_4.toNat]

def cc0_transform_89 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c23_i32 : BitVec 32 := 23#32
  let v18 : BitVec 32 := Scalar.addi v17 c23_i32
  let v19 : Index := Scalar.indexCast v18
  let v20 : BitVec 32 := pf.at 0 (Rect.unit (s := S4096) ![v19.toNat] S1.size (k0_off1_inb i 23)) numel1_S1
  let c0_i32_4 : BitVec 32 := 0#32
  let c0_i32_5 : BitVec 32 := 0#32
  ![v16.toNat, v20.toNat, c0_i32_4.toNat]

def cc0_transform_90 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c24_i32 : BitVec 32 := 24#32
  let v18 : BitVec 32 := Scalar.addi v17 c24_i32
  let v19 : Index := Scalar.indexCast v18
  let v20 : BitVec 32 := pf.at 0 (Rect.unit (s := S4096) ![v19.toNat] S1.size (k0_off1_inb i 24)) numel1_S1
  let c0_i32_4 : BitVec 32 := 0#32
  let c0_i32_5 : BitVec 32 := 0#32
  ![v16.toNat, v20.toNat, c0_i32_4.toNat]

def cc0_transform_91 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c25_i32 : BitVec 32 := 25#32
  let v18 : BitVec 32 := Scalar.addi v17 c25_i32
  let v19 : Index := Scalar.indexCast v18
  let v20 : BitVec 32 := pf.at 0 (Rect.unit (s := S4096) ![v19.toNat] S1.size (k0_off1_inb i 25)) numel1_S1
  let c0_i32_4 : BitVec 32 := 0#32
  let c0_i32_5 : BitVec 32 := 0#32
  ![v16.toNat, v20.toNat, c0_i32_4.toNat]

def cc0_transform_92 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c26_i32 : BitVec 32 := 26#32
  let v18 : BitVec 32 := Scalar.addi v17 c26_i32
  let v19 : Index := Scalar.indexCast v18
  let v20 : BitVec 32 := pf.at 0 (Rect.unit (s := S4096) ![v19.toNat] S1.size (k0_off1_inb i 26)) numel1_S1
  let c0_i32_4 : BitVec 32 := 0#32
  let c0_i32_5 : BitVec 32 := 0#32
  ![v16.toNat, v20.toNat, c0_i32_4.toNat]

def cc0_transform_93 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c27_i32 : BitVec 32 := 27#32
  let v18 : BitVec 32 := Scalar.addi v17 c27_i32
  let v19 : Index := Scalar.indexCast v18
  let v20 : BitVec 32 := pf.at 0 (Rect.unit (s := S4096) ![v19.toNat] S1.size (k0_off1_inb i 27)) numel1_S1
  let c0_i32_4 : BitVec 32 := 0#32
  let c0_i32_5 : BitVec 32 := 0#32
  ![v16.toNat, v20.toNat, c0_i32_4.toNat]

def cc0_transform_94 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c28_i32 : BitVec 32 := 28#32
  let v18 : BitVec 32 := Scalar.addi v17 c28_i32
  let v19 : Index := Scalar.indexCast v18
  let v20 : BitVec 32 := pf.at 0 (Rect.unit (s := S4096) ![v19.toNat] S1.size (k0_off1_inb i 28)) numel1_S1
  let c0_i32_4 : BitVec 32 := 0#32
  let c0_i32_5 : BitVec 32 := 0#32
  ![v16.toNat, v20.toNat, c0_i32_4.toNat]

def cc0_transform_95 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c29_i32 : BitVec 32 := 29#32
  let v18 : BitVec 32 := Scalar.addi v17 c29_i32
  let v19 : Index := Scalar.indexCast v18
  let v20 : BitVec 32 := pf.at 0 (Rect.unit (s := S4096) ![v19.toNat] S1.size (k0_off1_inb i 29)) numel1_S1
  let c0_i32_4 : BitVec 32 := 0#32
  let c0_i32_5 : BitVec 32 := 0#32
  ![v16.toNat, v20.toNat, c0_i32_4.toNat]

def cc0_transform_96 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c30_i32 : BitVec 32 := 30#32
  let v18 : BitVec 32 := Scalar.addi v17 c30_i32
  let v19 : Index := Scalar.indexCast v18
  let v20 : BitVec 32 := pf.at 0 (Rect.unit (s := S4096) ![v19.toNat] S1.size (k0_off1_inb i 30)) numel1_S1
  let c0_i32_4 : BitVec 32 := 0#32
  let c0_i32_5 : BitVec 32 := 0#32
  ![v16.toNat, v20.toNat, c0_i32_4.toNat]

def cc0_transform_97 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c31_i32 : BitVec 32 := 31#32
  let v18 : BitVec 32 := Scalar.addi v17 c31_i32
  let v19 : Index := Scalar.indexCast v18
  let v20 : BitVec 32 := pf.at 0 (Rect.unit (s := S4096) ![v19.toNat] S1.size (k0_off1_inb i 31)) numel1_S1
  let c0_i32_4 : BitVec 32 := 0#32
  let c0_i32_5 : BitVec 32 := 0#32
  ![v16.toNat, v20.toNat, c0_i32_4.toNat]

def cc0_transform_98 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c32_i32_4 : BitVec 32 := 32#32
  let v18 : BitVec 32 := Scalar.addi v17 c32_i32_4
  let v19 : Index := Scalar.indexCast v18
  let v20 : BitVec 32 := pf.at 0 (Rect.unit (s := S4096) ![v19.toNat] S1.size (k0_off1_inb i 32)) numel1_S1
  let c0_i32_5 : BitVec 32 := 0#32
  let c0_i32_6 : BitVec 32 := 0#32
  ![v16.toNat, v20.toNat, c0_i32_5.toNat]

def cc0_transform_99 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c33_i32 : BitVec 32 := 33#32
  let v18 : BitVec 32 := Scalar.addi v17 c33_i32
  let v19 : Index := Scalar.indexCast v18
  let v20 : BitVec 32 := pf.at 0 (Rect.unit (s := S4096) ![v19.toNat] S1.size (k0_off1_inb i 33)) numel1_S1
  let c0_i32_4 : BitVec 32 := 0#32
  let c0_i32_5 : BitVec 32 := 0#32
  ![v16.toNat, v20.toNat, c0_i32_4.toNat]

def cc0_transform_100 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c34_i32 : BitVec 32 := 34#32
  let v18 : BitVec 32 := Scalar.addi v17 c34_i32
  let v19 : Index := Scalar.indexCast v18
  let v20 : BitVec 32 := pf.at 0 (Rect.unit (s := S4096) ![v19.toNat] S1.size (k0_off1_inb i 34)) numel1_S1
  let c0_i32_4 : BitVec 32 := 0#32
  let c0_i32_5 : BitVec 32 := 0#32
  ![v16.toNat, v20.toNat, c0_i32_4.toNat]

def cc0_transform_101 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c35_i32 : BitVec 32 := 35#32
  let v18 : BitVec 32 := Scalar.addi v17 c35_i32
  let v19 : Index := Scalar.indexCast v18
  let v20 : BitVec 32 := pf.at 0 (Rect.unit (s := S4096) ![v19.toNat] S1.size (k0_off1_inb i 35)) numel1_S1
  let c0_i32_4 : BitVec 32 := 0#32
  let c0_i32_5 : BitVec 32 := 0#32
  ![v16.toNat, v20.toNat, c0_i32_4.toNat]

def cc0_transform_102 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c36_i32 : BitVec 32 := 36#32
  let v18 : BitVec 32 := Scalar.addi v17 c36_i32
  let v19 : Index := Scalar.indexCast v18
  let v20 : BitVec 32 := pf.at 0 (Rect.unit (s := S4096) ![v19.toNat] S1.size (k0_off1_inb i 36)) numel1_S1
  let c0_i32_4 : BitVec 32 := 0#32
  let c0_i32_5 : BitVec 32 := 0#32
  ![v16.toNat, v20.toNat, c0_i32_4.toNat]

def cc0_transform_103 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c37_i32 : BitVec 32 := 37#32
  let v18 : BitVec 32 := Scalar.addi v17 c37_i32
  let v19 : Index := Scalar.indexCast v18
  let v20 : BitVec 32 := pf.at 0 (Rect.unit (s := S4096) ![v19.toNat] S1.size (k0_off1_inb i 37)) numel1_S1
  let c0_i32_4 : BitVec 32 := 0#32
  let c0_i32_5 : BitVec 32 := 0#32
  ![v16.toNat, v20.toNat, c0_i32_4.toNat]

def cc0_transform_104 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c38_i32 : BitVec 32 := 38#32
  let v18 : BitVec 32 := Scalar.addi v17 c38_i32
  let v19 : Index := Scalar.indexCast v18
  let v20 : BitVec 32 := pf.at 0 (Rect.unit (s := S4096) ![v19.toNat] S1.size (k0_off1_inb i 38)) numel1_S1
  let c0_i32_4 : BitVec 32 := 0#32
  let c0_i32_5 : BitVec 32 := 0#32
  ![v16.toNat, v20.toNat, c0_i32_4.toNat]

def cc0_transform_105 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c39_i32 : BitVec 32 := 39#32
  let v18 : BitVec 32 := Scalar.addi v17 c39_i32
  let v19 : Index := Scalar.indexCast v18
  let v20 : BitVec 32 := pf.at 0 (Rect.unit (s := S4096) ![v19.toNat] S1.size (k0_off1_inb i 39)) numel1_S1
  let c0_i32_4 : BitVec 32 := 0#32
  let c0_i32_5 : BitVec 32 := 0#32
  ![v16.toNat, v20.toNat, c0_i32_4.toNat]

def cc0_transform_106 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c40_i32 : BitVec 32 := 40#32
  let v18 : BitVec 32 := Scalar.addi v17 c40_i32
  let v19 : Index := Scalar.indexCast v18
  let v20 : BitVec 32 := pf.at 0 (Rect.unit (s := S4096) ![v19.toNat] S1.size (k0_off1_inb i 40)) numel1_S1
  let c0_i32_4 : BitVec 32 := 0#32
  let c0_i32_5 : BitVec 32 := 0#32
  ![v16.toNat, v20.toNat, c0_i32_4.toNat]

def cc0_transform_107 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c41_i32 : BitVec 32 := 41#32
  let v18 : BitVec 32 := Scalar.addi v17 c41_i32
  let v19 : Index := Scalar.indexCast v18
  let v20 : BitVec 32 := pf.at 0 (Rect.unit (s := S4096) ![v19.toNat] S1.size (k0_off1_inb i 41)) numel1_S1
  let c0_i32_4 : BitVec 32 := 0#32
  let c0_i32_5 : BitVec 32 := 0#32
  ![v16.toNat, v20.toNat, c0_i32_4.toNat]

def cc0_transform_108 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c42_i32 : BitVec 32 := 42#32
  let v18 : BitVec 32 := Scalar.addi v17 c42_i32
  let v19 : Index := Scalar.indexCast v18
  let v20 : BitVec 32 := pf.at 0 (Rect.unit (s := S4096) ![v19.toNat] S1.size (k0_off1_inb i 42)) numel1_S1
  let c0_i32_4 : BitVec 32 := 0#32
  let c0_i32_5 : BitVec 32 := 0#32
  ![v16.toNat, v20.toNat, c0_i32_4.toNat]

def cc0_transform_109 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c43_i32 : BitVec 32 := 43#32
  let v18 : BitVec 32 := Scalar.addi v17 c43_i32
  let v19 : Index := Scalar.indexCast v18
  let v20 : BitVec 32 := pf.at 0 (Rect.unit (s := S4096) ![v19.toNat] S1.size (k0_off1_inb i 43)) numel1_S1
  let c0_i32_4 : BitVec 32 := 0#32
  let c0_i32_5 : BitVec 32 := 0#32
  ![v16.toNat, v20.toNat, c0_i32_4.toNat]

def cc0_transform_110 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c44_i32 : BitVec 32 := 44#32
  let v18 : BitVec 32 := Scalar.addi v17 c44_i32
  let v19 : Index := Scalar.indexCast v18
  let v20 : BitVec 32 := pf.at 0 (Rect.unit (s := S4096) ![v19.toNat] S1.size (k0_off1_inb i 44)) numel1_S1
  let c0_i32_4 : BitVec 32 := 0#32
  let c0_i32_5 : BitVec 32 := 0#32
  ![v16.toNat, v20.toNat, c0_i32_4.toNat]

def cc0_transform_111 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c45_i32 : BitVec 32 := 45#32
  let v18 : BitVec 32 := Scalar.addi v17 c45_i32
  let v19 : Index := Scalar.indexCast v18
  let v20 : BitVec 32 := pf.at 0 (Rect.unit (s := S4096) ![v19.toNat] S1.size (k0_off1_inb i 45)) numel1_S1
  let c0_i32_4 : BitVec 32 := 0#32
  let c0_i32_5 : BitVec 32 := 0#32
  ![v16.toNat, v20.toNat, c0_i32_4.toNat]

def cc0_transform_112 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c46_i32 : BitVec 32 := 46#32
  let v18 : BitVec 32 := Scalar.addi v17 c46_i32
  let v19 : Index := Scalar.indexCast v18
  let v20 : BitVec 32 := pf.at 0 (Rect.unit (s := S4096) ![v19.toNat] S1.size (k0_off1_inb i 46)) numel1_S1
  let c0_i32_4 : BitVec 32 := 0#32
  let c0_i32_5 : BitVec 32 := 0#32
  ![v16.toNat, v20.toNat, c0_i32_4.toNat]

def cc0_transform_113 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c47_i32 : BitVec 32 := 47#32
  let v18 : BitVec 32 := Scalar.addi v17 c47_i32
  let v19 : Index := Scalar.indexCast v18
  let v20 : BitVec 32 := pf.at 0 (Rect.unit (s := S4096) ![v19.toNat] S1.size (k0_off1_inb i 47)) numel1_S1
  let c0_i32_4 : BitVec 32 := 0#32
  let c0_i32_5 : BitVec 32 := 0#32
  ![v16.toNat, v20.toNat, c0_i32_4.toNat]

def cc0_transform_114 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c48_i32 : BitVec 32 := 48#32
  let v18 : BitVec 32 := Scalar.addi v17 c48_i32
  let v19 : Index := Scalar.indexCast v18
  let v20 : BitVec 32 := pf.at 0 (Rect.unit (s := S4096) ![v19.toNat] S1.size (k0_off1_inb i 48)) numel1_S1
  let c0_i32_4 : BitVec 32 := 0#32
  let c0_i32_5 : BitVec 32 := 0#32
  ![v16.toNat, v20.toNat, c0_i32_4.toNat]

def cc0_transform_115 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c49_i32 : BitVec 32 := 49#32
  let v18 : BitVec 32 := Scalar.addi v17 c49_i32
  let v19 : Index := Scalar.indexCast v18
  let v20 : BitVec 32 := pf.at 0 (Rect.unit (s := S4096) ![v19.toNat] S1.size (k0_off1_inb i 49)) numel1_S1
  let c0_i32_4 : BitVec 32 := 0#32
  let c0_i32_5 : BitVec 32 := 0#32
  ![v16.toNat, v20.toNat, c0_i32_4.toNat]

def cc0_transform_116 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c50_i32 : BitVec 32 := 50#32
  let v18 : BitVec 32 := Scalar.addi v17 c50_i32
  let v19 : Index := Scalar.indexCast v18
  let v20 : BitVec 32 := pf.at 0 (Rect.unit (s := S4096) ![v19.toNat] S1.size (k0_off1_inb i 50)) numel1_S1
  let c0_i32_4 : BitVec 32 := 0#32
  let c0_i32_5 : BitVec 32 := 0#32
  ![v16.toNat, v20.toNat, c0_i32_4.toNat]

def cc0_transform_117 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c51_i32 : BitVec 32 := 51#32
  let v18 : BitVec 32 := Scalar.addi v17 c51_i32
  let v19 : Index := Scalar.indexCast v18
  let v20 : BitVec 32 := pf.at 0 (Rect.unit (s := S4096) ![v19.toNat] S1.size (k0_off1_inb i 51)) numel1_S1
  let c0_i32_4 : BitVec 32 := 0#32
  let c0_i32_5 : BitVec 32 := 0#32
  ![v16.toNat, v20.toNat, c0_i32_4.toNat]

def cc0_transform_118 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c52_i32 : BitVec 32 := 52#32
  let v18 : BitVec 32 := Scalar.addi v17 c52_i32
  let v19 : Index := Scalar.indexCast v18
  let v20 : BitVec 32 := pf.at 0 (Rect.unit (s := S4096) ![v19.toNat] S1.size (k0_off1_inb i 52)) numel1_S1
  let c0_i32_4 : BitVec 32 := 0#32
  let c0_i32_5 : BitVec 32 := 0#32
  ![v16.toNat, v20.toNat, c0_i32_4.toNat]

def cc0_transform_119 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c53_i32 : BitVec 32 := 53#32
  let v18 : BitVec 32 := Scalar.addi v17 c53_i32
  let v19 : Index := Scalar.indexCast v18
  let v20 : BitVec 32 := pf.at 0 (Rect.unit (s := S4096) ![v19.toNat] S1.size (k0_off1_inb i 53)) numel1_S1
  let c0_i32_4 : BitVec 32 := 0#32
  let c0_i32_5 : BitVec 32 := 0#32
  ![v16.toNat, v20.toNat, c0_i32_4.toNat]

def cc0_transform_120 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c54_i32 : BitVec 32 := 54#32
  let v18 : BitVec 32 := Scalar.addi v17 c54_i32
  let v19 : Index := Scalar.indexCast v18
  let v20 : BitVec 32 := pf.at 0 (Rect.unit (s := S4096) ![v19.toNat] S1.size (k0_off1_inb i 54)) numel1_S1
  let c0_i32_4 : BitVec 32 := 0#32
  let c0_i32_5 : BitVec 32 := 0#32
  ![v16.toNat, v20.toNat, c0_i32_4.toNat]

def cc0_transform_121 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c55_i32 : BitVec 32 := 55#32
  let v18 : BitVec 32 := Scalar.addi v17 c55_i32
  let v19 : Index := Scalar.indexCast v18
  let v20 : BitVec 32 := pf.at 0 (Rect.unit (s := S4096) ![v19.toNat] S1.size (k0_off1_inb i 55)) numel1_S1
  let c0_i32_4 : BitVec 32 := 0#32
  let c0_i32_5 : BitVec 32 := 0#32
  ![v16.toNat, v20.toNat, c0_i32_4.toNat]

def cc0_transform_122 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c56_i32 : BitVec 32 := 56#32
  let v18 : BitVec 32 := Scalar.addi v17 c56_i32
  let v19 : Index := Scalar.indexCast v18
  let v20 : BitVec 32 := pf.at 0 (Rect.unit (s := S4096) ![v19.toNat] S1.size (k0_off1_inb i 56)) numel1_S1
  let c0_i32_4 : BitVec 32 := 0#32
  let c0_i32_5 : BitVec 32 := 0#32
  ![v16.toNat, v20.toNat, c0_i32_4.toNat]

def cc0_transform_123 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c57_i32 : BitVec 32 := 57#32
  let v18 : BitVec 32 := Scalar.addi v17 c57_i32
  let v19 : Index := Scalar.indexCast v18
  let v20 : BitVec 32 := pf.at 0 (Rect.unit (s := S4096) ![v19.toNat] S1.size (k0_off1_inb i 57)) numel1_S1
  let c0_i32_4 : BitVec 32 := 0#32
  let c0_i32_5 : BitVec 32 := 0#32
  ![v16.toNat, v20.toNat, c0_i32_4.toNat]

def cc0_transform_124 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c58_i32 : BitVec 32 := 58#32
  let v18 : BitVec 32 := Scalar.addi v17 c58_i32
  let v19 : Index := Scalar.indexCast v18
  let v20 : BitVec 32 := pf.at 0 (Rect.unit (s := S4096) ![v19.toNat] S1.size (k0_off1_inb i 58)) numel1_S1
  let c0_i32_4 : BitVec 32 := 0#32
  let c0_i32_5 : BitVec 32 := 0#32
  ![v16.toNat, v20.toNat, c0_i32_4.toNat]

def cc0_transform_125 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c59_i32 : BitVec 32 := 59#32
  let v18 : BitVec 32 := Scalar.addi v17 c59_i32
  let v19 : Index := Scalar.indexCast v18
  let v20 : BitVec 32 := pf.at 0 (Rect.unit (s := S4096) ![v19.toNat] S1.size (k0_off1_inb i 59)) numel1_S1
  let c0_i32_4 : BitVec 32 := 0#32
  let c0_i32_5 : BitVec 32 := 0#32
  ![v16.toNat, v20.toNat, c0_i32_4.toNat]

def cc0_transform_126 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c60_i32 : BitVec 32 := 60#32
  let v18 : BitVec 32 := Scalar.addi v17 c60_i32
  let v19 : Index := Scalar.indexCast v18
  let v20 : BitVec 32 := pf.at 0 (Rect.unit (s := S4096) ![v19.toNat] S1.size (k0_off1_inb i 60)) numel1_S1
  let c0_i32_4 : BitVec 32 := 0#32
  let c0_i32_5 : BitVec 32 := 0#32
  ![v16.toNat, v20.toNat, c0_i32_4.toNat]

def cc0_transform_127 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c61_i32 : BitVec 32 := 61#32
  let v18 : BitVec 32 := Scalar.addi v17 c61_i32
  let v19 : Index := Scalar.indexCast v18
  let v20 : BitVec 32 := pf.at 0 (Rect.unit (s := S4096) ![v19.toNat] S1.size (k0_off1_inb i 61)) numel1_S1
  let c0_i32_4 : BitVec 32 := 0#32
  let c0_i32_5 : BitVec 32 := 0#32
  ![v16.toNat, v20.toNat, c0_i32_4.toNat]

def cc0_transform_128 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c62_i32 : BitVec 32 := 62#32
  let v18 : BitVec 32 := Scalar.addi v17 c62_i32
  let v19 : Index := Scalar.indexCast v18
  let v20 : BitVec 32 := pf.at 0 (Rect.unit (s := S4096) ![v19.toNat] S1.size (k0_off1_inb i 62)) numel1_S1
  let c0_i32_4 : BitVec 32 := 0#32
  let c0_i32_5 : BitVec 32 := 0#32
  ![v16.toNat, v20.toNat, c0_i32_4.toNat]

def cc0_transform_129 (k0_off1_inb : ∀ i : grid0.Coords, ∀ (r : Fin 64), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32 : BitVec 32 := 64#32
  let v17 : BitVec 32 := Scalar.muli arg0 c64_i32
  let c63_i32 : BitVec 32 := 63#32
  let v18 : BitVec 32 := Scalar.addi v17 c63_i32
  let v19 : Index := Scalar.indexCast v18
  let v20 : BitVec 32 := pf.at 0 (Rect.unit (s := S4096) ![v19.toNat] S1.size (k0_off1_inb i 63)) numel1_S1
  let c0_i32_4 : BitVec 32 := 0#32
  let c0_i32_5 : BitVec 32 := 0#32
  ![v16.toNat, v20.toNat, c0_i32_4.toNat]

def cc0_transform_130 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_131 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_132 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_133 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 2 → Memref sig .tc .vmem S1x1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x32x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x32x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x32x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x32x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x32x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x32x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x32x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x32x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x32x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x32x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x32x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x32x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x32x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x32x1024 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x32x1024 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x32x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x32x1024 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x32x1024 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x32x1024 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x32x1024 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x32x1024 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x32x1024 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x32x1024 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x32x1024 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x32x1024 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x32x1024 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x32x1024 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x32x1024 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x32x1024 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x32x1024 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x32x1024 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x32x1024 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x32x1024 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x32x1024 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x32x1024 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x32x1024 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x32x1024 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x32x1024 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x32x1024 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x32x1024 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x32x1024 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x32x1024 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x32x1024 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x32x1024 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x32x1024 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x32x1024 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x32x1024 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x32x1024 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x32x1024 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x32x1024 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x32x1024 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S1x32x1024 .f32 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]

abbrev stage0_69 : Fin 2 → Memref sig .tc .vmem S1x32x1024 .f32 := fun | 0 => Memref.whole cc0_stg69_0 | 1 => Memref.whole cc0_stg69_1 | ⟨_ + 2, h⟩ => absurd h (Nat.not_lt.2 (Nat.le_add_left _ _))
abbrev sem0_69 : Fin 2 → DmaSem sig := fun | 0 => cc0_sem69_0 | 1 => cc0_sem69_1 | ⟨_ + 2, h⟩ => absurd h (Nat.not_lt.2 (Nat.le_add_left _ _))
abbrev reads0_69 : Fin grid0.rank → Bool := ![true]

abbrev stage0_70 : Fin 2 → Memref sig .tc .vmem S1x32x1024 .f32 := fun | 0 => Memref.whole cc0_stg70_0 | 1 => Memref.whole cc0_stg70_1 | ⟨_ + 2, h⟩ => absurd h (Nat.not_lt.2 (Nat.le_add_left _ _))
abbrev sem0_70 : Fin 2 → DmaSem sig := fun | 0 => cc0_sem70_0 | 1 => cc0_sem70_1 | ⟨_ + 2, h⟩ => absurd h (Nat.not_lt.2 (Nat.le_add_left _ _))
abbrev reads0_70 : Fin grid0.rank → Bool := ![true]

abbrev stage0_71 : Fin 2 → Memref sig .tc .vmem S1x32x1024 .f32 := fun | 0 => Memref.whole cc0_stg71_0 | 1 => Memref.whole cc0_stg71_1 | ⟨_ + 2, h⟩ => absurd h (Nat.not_lt.2 (Nat.le_add_left _ _))
abbrev sem0_71 : Fin 2 → DmaSem sig := fun | 0 => cc0_sem71_0 | 1 => cc0_sem71_1 | ⟨_ + 2, h⟩ => absurd h (Nat.not_lt.2 (Nat.le_add_left _ _))
abbrev reads0_71 : Fin grid0.rank → Bool := ![true]

abbrev stage0_72 : Fin 2 → Memref sig .tc .vmem S1x32x1024 .f32 := fun | 0 => Memref.whole cc0_stg72_0 | 1 => Memref.whole cc0_stg72_1 | ⟨_ + 2, h⟩ => absurd h (Nat.not_lt.2 (Nat.le_add_left _ _))
abbrev sem0_72 : Fin 2 → DmaSem sig := fun | 0 => cc0_sem72_0 | 1 => cc0_sem72_1 | ⟨_ + 2, h⟩ => absurd h (Nat.not_lt.2 (Nat.le_add_left _ _))
abbrev reads0_72 : Fin grid0.rank → Bool := ![true]

abbrev stage0_73 : Fin 2 → Memref sig .tc .vmem S1x32x1024 .f32 := fun | 0 => Memref.whole cc0_stg73_0 | 1 => Memref.whole cc0_stg73_1 | ⟨_ + 2, h⟩ => absurd h (Nat.not_lt.2 (Nat.le_add_left _ _))
abbrev sem0_73 : Fin 2 → DmaSem sig := fun | 0 => cc0_sem73_0 | 1 => cc0_sem73_1 | ⟨_ + 2, h⟩ => absurd h (Nat.not_lt.2 (Nat.le_add_left _ _))
abbrev reads0_73 : Fin grid0.rank → Bool := ![true]

abbrev stage0_74 : Fin 2 → Memref sig .tc .vmem S1x32x1024 .f32 := fun | 0 => Memref.whole cc0_stg74_0 | 1 => Memref.whole cc0_stg74_1 | ⟨_ + 2, h⟩ => absurd h (Nat.not_lt.2 (Nat.le_add_left _ _))
abbrev sem0_74 : Fin 2 → DmaSem sig := fun | 0 => cc0_sem74_0 | 1 => cc0_sem74_1 | ⟨_ + 2, h⟩ => absurd h (Nat.not_lt.2 (Nat.le_add_left _ _))
abbrev reads0_74 : Fin grid0.rank → Bool := ![true]

abbrev stage0_75 : Fin 2 → Memref sig .tc .vmem S1x32x1024 .f32 := fun | 0 => Memref.whole cc0_stg75_0 | 1 => Memref.whole cc0_stg75_1 | ⟨_ + 2, h⟩ => absurd h (Nat.not_lt.2 (Nat.le_add_left _ _))
abbrev sem0_75 : Fin 2 → DmaSem sig := fun | 0 => cc0_sem75_0 | 1 => cc0_sem75_1 | ⟨_ + 2, h⟩ => absurd h (Nat.not_lt.2 (Nat.le_add_left _ _))
abbrev reads0_75 : Fin grid0.rank → Bool := ![true]

abbrev stage0_76 : Fin 2 → Memref sig .tc .vmem S1x32x1024 .f32 := fun | 0 => Memref.whole cc0_stg76_0 | 1 => Memref.whole cc0_stg76_1 | ⟨_ + 2, h⟩ => absurd h (Nat.not_lt.2 (Nat.le_add_left _ _))
abbrev sem0_76 : Fin 2 → DmaSem sig := fun | 0 => cc0_sem76_0 | 1 => cc0_sem76_1 | ⟨_ + 2, h⟩ => absurd h (Nat.not_lt.2 (Nat.le_add_left _ _))
abbrev reads0_76 : Fin grid0.rank → Bool := ![true]

abbrev stage0_77 : Fin 2 → Memref sig .tc .vmem S1x32x1024 .f32 := fun | 0 => Memref.whole cc0_stg77_0 | 1 => Memref.whole cc0_stg77_1 | ⟨_ + 2, h⟩ => absurd h (Nat.not_lt.2 (Nat.le_add_left _ _))
abbrev sem0_77 : Fin 2 → DmaSem sig := fun | 0 => cc0_sem77_0 | 1 => cc0_sem77_1 | ⟨_ + 2, h⟩ => absurd h (Nat.not_lt.2 (Nat.le_add_left _ _))
abbrev reads0_77 : Fin grid0.rank → Bool := ![true]

abbrev stage0_78 : Fin 2 → Memref sig .tc .vmem S1x32x1024 .f32 := fun | 0 => Memref.whole cc0_stg78_0 | 1 => Memref.whole cc0_stg78_1 | ⟨_ + 2, h⟩ => absurd h (Nat.not_lt.2 (Nat.le_add_left _ _))
abbrev sem0_78 : Fin 2 → DmaSem sig := fun | 0 => cc0_sem78_0 | 1 => cc0_sem78_1 | ⟨_ + 2, h⟩ => absurd h (Nat.not_lt.2 (Nat.le_add_left _ _))
abbrev reads0_78 : Fin grid0.rank → Bool := ![true]

abbrev stage0_79 : Fin 2 → Memref sig .tc .vmem S1x32x1024 .f32 := fun | 0 => Memref.whole cc0_stg79_0 | 1 => Memref.whole cc0_stg79_1 | ⟨_ + 2, h⟩ => absurd h (Nat.not_lt.2 (Nat.le_add_left _ _))
abbrev sem0_79 : Fin 2 → DmaSem sig := fun | 0 => cc0_sem79_0 | 1 => cc0_sem79_1 | ⟨_ + 2, h⟩ => absurd h (Nat.not_lt.2 (Nat.le_add_left _ _))
abbrev reads0_79 : Fin grid0.rank → Bool := ![true]

abbrev stage0_80 : Fin 2 → Memref sig .tc .vmem S1x32x1024 .f32 := fun | 0 => Memref.whole cc0_stg80_0 | 1 => Memref.whole cc0_stg80_1 | ⟨_ + 2, h⟩ => absurd h (Nat.not_lt.2 (Nat.le_add_left _ _))
abbrev sem0_80 : Fin 2 → DmaSem sig := fun | 0 => cc0_sem80_0 | 1 => cc0_sem80_1 | ⟨_ + 2, h⟩ => absurd h (Nat.not_lt.2 (Nat.le_add_left _ _))
abbrev reads0_80 : Fin grid0.rank → Bool := ![true]

abbrev stage0_81 : Fin 2 → Memref sig .tc .vmem S1x32x1024 .f32 := fun | 0 => Memref.whole cc0_stg81_0 | 1 => Memref.whole cc0_stg81_1 | ⟨_ + 2, h⟩ => absurd h (Nat.not_lt.2 (Nat.le_add_left _ _))
abbrev sem0_81 : Fin 2 → DmaSem sig := fun | 0 => cc0_sem81_0 | 1 => cc0_sem81_1 | ⟨_ + 2, h⟩ => absurd h (Nat.not_lt.2 (Nat.le_add_left _ _))
abbrev reads0_81 : Fin grid0.rank → Bool := ![true]

abbrev stage0_82 : Fin 2 → Memref sig .tc .vmem S1x32x1024 .f32 := fun | 0 => Memref.whole cc0_stg82_0 | 1 => Memref.whole cc0_stg82_1 | ⟨_ + 2, h⟩ => absurd h (Nat.not_lt.2 (Nat.le_add_left _ _))
abbrev sem0_82 : Fin 2 → DmaSem sig := fun | 0 => cc0_sem82_0 | 1 => cc0_sem82_1 | ⟨_ + 2, h⟩ => absurd h (Nat.not_lt.2 (Nat.le_add_left _ _))
abbrev reads0_82 : Fin grid0.rank → Bool := ![true]

abbrev stage0_83 : Fin 2 → Memref sig .tc .vmem S1x32x1024 .f32 := fun | 0 => Memref.whole cc0_stg83_0 | 1 => Memref.whole cc0_stg83_1 | ⟨_ + 2, h⟩ => absurd h (Nat.not_lt.2 (Nat.le_add_left _ _))
abbrev sem0_83 : Fin 2 → DmaSem sig := fun | 0 => cc0_sem83_0 | 1 => cc0_sem83_1 | ⟨_ + 2, h⟩ => absurd h (Nat.not_lt.2 (Nat.le_add_left _ _))
abbrev reads0_83 : Fin grid0.rank → Bool := ![true]

abbrev stage0_84 : Fin 2 → Memref sig .tc .vmem S1x32x1024 .f32 := fun | 0 => Memref.whole cc0_stg84_0 | 1 => Memref.whole cc0_stg84_1 | ⟨_ + 2, h⟩ => absurd h (Nat.not_lt.2 (Nat.le_add_left _ _))
abbrev sem0_84 : Fin 2 → DmaSem sig := fun | 0 => cc0_sem84_0 | 1 => cc0_sem84_1 | ⟨_ + 2, h⟩ => absurd h (Nat.not_lt.2 (Nat.le_add_left _ _))
abbrev reads0_84 : Fin grid0.rank → Bool := ![true]

abbrev stage0_85 : Fin 2 → Memref sig .tc .vmem S1x32x1024 .f32 := fun | 0 => Memref.whole cc0_stg85_0 | 1 => Memref.whole cc0_stg85_1 | ⟨_ + 2, h⟩ => absurd h (Nat.not_lt.2 (Nat.le_add_left _ _))
abbrev sem0_85 : Fin 2 → DmaSem sig := fun | 0 => cc0_sem85_0 | 1 => cc0_sem85_1 | ⟨_ + 2, h⟩ => absurd h (Nat.not_lt.2 (Nat.le_add_left _ _))
abbrev reads0_85 : Fin grid0.rank → Bool := ![true]

abbrev stage0_86 : Fin 2 → Memref sig .tc .vmem S1x32x1024 .f32 := fun | 0 => Memref.whole cc0_stg86_0 | 1 => Memref.whole cc0_stg86_1 | ⟨_ + 2, h⟩ => absurd h (Nat.not_lt.2 (Nat.le_add_left _ _))
abbrev sem0_86 : Fin 2 → DmaSem sig := fun | 0 => cc0_sem86_0 | 1 => cc0_sem86_1 | ⟨_ + 2, h⟩ => absurd h (Nat.not_lt.2 (Nat.le_add_left _ _))
abbrev reads0_86 : Fin grid0.rank → Bool := ![true]

abbrev stage0_87 : Fin 2 → Memref sig .tc .vmem S1x32x1024 .f32 := fun | 0 => Memref.whole cc0_stg87_0 | 1 => Memref.whole cc0_stg87_1 | ⟨_ + 2, h⟩ => absurd h (Nat.not_lt.2 (Nat.le_add_left _ _))
abbrev sem0_87 : Fin 2 → DmaSem sig := fun | 0 => cc0_sem87_0 | 1 => cc0_sem87_1 | ⟨_ + 2, h⟩ => absurd h (Nat.not_lt.2 (Nat.le_add_left _ _))
abbrev reads0_87 : Fin grid0.rank → Bool := ![true]

abbrev stage0_88 : Fin 2 → Memref sig .tc .vmem S1x32x1024 .f32 := fun | 0 => Memref.whole cc0_stg88_0 | 1 => Memref.whole cc0_stg88_1 | ⟨_ + 2, h⟩ => absurd h (Nat.not_lt.2 (Nat.le_add_left _ _))
abbrev sem0_88 : Fin 2 → DmaSem sig := fun | 0 => cc0_sem88_0 | 1 => cc0_sem88_1 | ⟨_ + 2, h⟩ => absurd h (Nat.not_lt.2 (Nat.le_add_left _ _))
abbrev reads0_88 : Fin grid0.rank → Bool := ![true]

abbrev stage0_89 : Fin 2 → Memref sig .tc .vmem S1x32x1024 .f32 := fun | 0 => Memref.whole cc0_stg89_0 | 1 => Memref.whole cc0_stg89_1 | ⟨_ + 2, h⟩ => absurd h (Nat.not_lt.2 (Nat.le_add_left _ _))
abbrev sem0_89 : Fin 2 → DmaSem sig := fun | 0 => cc0_sem89_0 | 1 => cc0_sem89_1 | ⟨_ + 2, h⟩ => absurd h (Nat.not_lt.2 (Nat.le_add_left _ _))
abbrev reads0_89 : Fin grid0.rank → Bool := ![true]

abbrev stage0_90 : Fin 2 → Memref sig .tc .vmem S1x32x1024 .f32 := fun | 0 => Memref.whole cc0_stg90_0 | 1 => Memref.whole cc0_stg90_1 | ⟨_ + 2, h⟩ => absurd h (Nat.not_lt.2 (Nat.le_add_left _ _))
abbrev sem0_90 : Fin 2 → DmaSem sig := fun | 0 => cc0_sem90_0 | 1 => cc0_sem90_1 | ⟨_ + 2, h⟩ => absurd h (Nat.not_lt.2 (Nat.le_add_left _ _))
abbrev reads0_90 : Fin grid0.rank → Bool := ![true]

abbrev stage0_91 : Fin 2 → Memref sig .tc .vmem S1x32x1024 .f32 := fun | 0 => Memref.whole cc0_stg91_0 | 1 => Memref.whole cc0_stg91_1 | ⟨_ + 2, h⟩ => absurd h (Nat.not_lt.2 (Nat.le_add_left _ _))
abbrev sem0_91 : Fin 2 → DmaSem sig := fun | 0 => cc0_sem91_0 | 1 => cc0_sem91_1 | ⟨_ + 2, h⟩ => absurd h (Nat.not_lt.2 (Nat.le_add_left _ _))
abbrev reads0_91 : Fin grid0.rank → Bool := ![true]

abbrev stage0_92 : Fin 2 → Memref sig .tc .vmem S1x32x1024 .f32 := fun | 0 => Memref.whole cc0_stg92_0 | 1 => Memref.whole cc0_stg92_1 | ⟨_ + 2, h⟩ => absurd h (Nat.not_lt.2 (Nat.le_add_left _ _))
abbrev sem0_92 : Fin 2 → DmaSem sig := fun | 0 => cc0_sem92_0 | 1 => cc0_sem92_1 | ⟨_ + 2, h⟩ => absurd h (Nat.not_lt.2 (Nat.le_add_left _ _))
abbrev reads0_92 : Fin grid0.rank → Bool := ![true]

abbrev stage0_93 : Fin 2 → Memref sig .tc .vmem S1x32x1024 .f32 := fun | 0 => Memref.whole cc0_stg93_0 | 1 => Memref.whole cc0_stg93_1 | ⟨_ + 2, h⟩ => absurd h (Nat.not_lt.2 (Nat.le_add_left _ _))
abbrev sem0_93 : Fin 2 → DmaSem sig := fun | 0 => cc0_sem93_0 | 1 => cc0_sem93_1 | ⟨_ + 2, h⟩ => absurd h (Nat.not_lt.2 (Nat.le_add_left _ _))
abbrev reads0_93 : Fin grid0.rank → Bool := ![true]

abbrev stage0_94 : Fin 2 → Memref sig .tc .vmem S1x32x1024 .f32 := fun | 0 => Memref.whole cc0_stg94_0 | 1 => Memref.whole cc0_stg94_1 | ⟨_ + 2, h⟩ => absurd h (Nat.not_lt.2 (Nat.le_add_left _ _))
abbrev sem0_94 : Fin 2 → DmaSem sig := fun | 0 => cc0_sem94_0 | 1 => cc0_sem94_1 | ⟨_ + 2, h⟩ => absurd h (Nat.not_lt.2 (Nat.le_add_left _ _))
abbrev reads0_94 : Fin grid0.rank → Bool := ![true]

abbrev stage0_95 : Fin 2 → Memref sig .tc .vmem S1x32x1024 .f32 := fun | 0 => Memref.whole cc0_stg95_0 | 1 => Memref.whole cc0_stg95_1 | ⟨_ + 2, h⟩ => absurd h (Nat.not_lt.2 (Nat.le_add_left _ _))
abbrev sem0_95 : Fin 2 → DmaSem sig := fun | 0 => cc0_sem95_0 | 1 => cc0_sem95_1 | ⟨_ + 2, h⟩ => absurd h (Nat.not_lt.2 (Nat.le_add_left _ _))
abbrev reads0_95 : Fin grid0.rank → Bool := ![true]

abbrev stage0_96 : Fin 2 → Memref sig .tc .vmem S1x32x1024 .f32 := fun | 0 => Memref.whole cc0_stg96_0 | 1 => Memref.whole cc0_stg96_1 | ⟨_ + 2, h⟩ => absurd h (Nat.not_lt.2 (Nat.le_add_left _ _))
abbrev sem0_96 : Fin 2 → DmaSem sig := fun | 0 => cc0_sem96_0 | 1 => cc0_sem96_1 | ⟨_ + 2, h⟩ => absurd h (Nat.not_lt.2 (Nat.le_add_left _ _))
abbrev reads0_96 : Fin grid0.rank → Bool := ![true]

abbrev stage0_97 : Fin 2 → Memref sig .tc .vmem S1x32x1024 .f32 := fun | 0 => Memref.whole cc0_stg97_0 | 1 => Memref.whole cc0_stg97_1 | ⟨_ + 2, h⟩ => absurd h (Nat.not_lt.2 (Nat.le_add_left _ _))
abbrev sem0_97 : Fin 2 → DmaSem sig := fun | 0 => cc0_sem97_0 | 1 => cc0_sem97_1 | ⟨_ + 2, h⟩ => absurd h (Nat.not_lt.2 (Nat.le_add_left _ _))
abbrev reads0_97 : Fin grid0.rank → Bool := ![true]

abbrev stage0_98 : Fin 2 → Memref sig .tc .vmem S1x32x1024 .f32 := fun | 0 => Memref.whole cc0_stg98_0 | 1 => Memref.whole cc0_stg98_1 | ⟨_ + 2, h⟩ => absurd h (Nat.not_lt.2 (Nat.le_add_left _ _))
abbrev sem0_98 : Fin 2 → DmaSem sig := fun | 0 => cc0_sem98_0 | 1 => cc0_sem98_1 | ⟨_ + 2, h⟩ => absurd h (Nat.not_lt.2 (Nat.le_add_left _ _))
abbrev reads0_98 : Fin grid0.rank → Bool := ![true]

abbrev stage0_99 : Fin 2 → Memref sig .tc .vmem S1x32x1024 .f32 := fun | 0 => Memref.whole cc0_stg99_0 | 1 => Memref.whole cc0_stg99_1 | ⟨_ + 2, h⟩ => absurd h (Nat.not_lt.2 (Nat.le_add_left _ _))
abbrev sem0_99 : Fin 2 → DmaSem sig := fun | 0 => cc0_sem99_0 | 1 => cc0_sem99_1 | ⟨_ + 2, h⟩ => absurd h (Nat.not_lt.2 (Nat.le_add_left _ _))
abbrev reads0_99 : Fin grid0.rank → Bool := ![true]

abbrev stage0_100 : Fin 2 → Memref sig .tc .vmem S1x32x1024 .f32 := fun | 0 => Memref.whole cc0_stg100_0 | 1 => Memref.whole cc0_stg100_1 | ⟨_ + 2, h⟩ => absurd h (Nat.not_lt.2 (Nat.le_add_left _ _))
abbrev sem0_100 : Fin 2 → DmaSem sig := fun | 0 => cc0_sem100_0 | 1 => cc0_sem100_1 | ⟨_ + 2, h⟩ => absurd h (Nat.not_lt.2 (Nat.le_add_left _ _))
abbrev reads0_100 : Fin grid0.rank → Bool := ![true]

abbrev stage0_101 : Fin 2 → Memref sig .tc .vmem S1x32x1024 .f32 := fun | 0 => Memref.whole cc0_stg101_0 | 1 => Memref.whole cc0_stg101_1 | ⟨_ + 2, h⟩ => absurd h (Nat.not_lt.2 (Nat.le_add_left _ _))
abbrev sem0_101 : Fin 2 → DmaSem sig := fun | 0 => cc0_sem101_0 | 1 => cc0_sem101_1 | ⟨_ + 2, h⟩ => absurd h (Nat.not_lt.2 (Nat.le_add_left _ _))
abbrev reads0_101 : Fin grid0.rank → Bool := ![true]

abbrev stage0_102 : Fin 2 → Memref sig .tc .vmem S1x32x1024 .f32 := fun | 0 => Memref.whole cc0_stg102_0 | 1 => Memref.whole cc0_stg102_1 | ⟨_ + 2, h⟩ => absurd h (Nat.not_lt.2 (Nat.le_add_left _ _))
abbrev sem0_102 : Fin 2 → DmaSem sig := fun | 0 => cc0_sem102_0 | 1 => cc0_sem102_1 | ⟨_ + 2, h⟩ => absurd h (Nat.not_lt.2 (Nat.le_add_left _ _))
abbrev reads0_102 : Fin grid0.rank → Bool := ![true]

abbrev stage0_103 : Fin 2 → Memref sig .tc .vmem S1x32x1024 .f32 := fun | 0 => Memref.whole cc0_stg103_0 | 1 => Memref.whole cc0_stg103_1 | ⟨_ + 2, h⟩ => absurd h (Nat.not_lt.2 (Nat.le_add_left _ _))
abbrev sem0_103 : Fin 2 → DmaSem sig := fun | 0 => cc0_sem103_0 | 1 => cc0_sem103_1 | ⟨_ + 2, h⟩ => absurd h (Nat.not_lt.2 (Nat.le_add_left _ _))
abbrev reads0_103 : Fin grid0.rank → Bool := ![true]

abbrev stage0_104 : Fin 2 → Memref sig .tc .vmem S1x32x1024 .f32 := fun | 0 => Memref.whole cc0_stg104_0 | 1 => Memref.whole cc0_stg104_1 | ⟨_ + 2, h⟩ => absurd h (Nat.not_lt.2 (Nat.le_add_left _ _))
abbrev sem0_104 : Fin 2 → DmaSem sig := fun | 0 => cc0_sem104_0 | 1 => cc0_sem104_1 | ⟨_ + 2, h⟩ => absurd h (Nat.not_lt.2 (Nat.le_add_left _ _))
abbrev reads0_104 : Fin grid0.rank → Bool := ![true]

abbrev stage0_105 : Fin 2 → Memref sig .tc .vmem S1x32x1024 .f32 := fun | 0 => Memref.whole cc0_stg105_0 | 1 => Memref.whole cc0_stg105_1 | ⟨_ + 2, h⟩ => absurd h (Nat.not_lt.2 (Nat.le_add_left _ _))
abbrev sem0_105 : Fin 2 → DmaSem sig := fun | 0 => cc0_sem105_0 | 1 => cc0_sem105_1 | ⟨_ + 2, h⟩ => absurd h (Nat.not_lt.2 (Nat.le_add_left _ _))
abbrev reads0_105 : Fin grid0.rank → Bool := ![true]

abbrev stage0_106 : Fin 2 → Memref sig .tc .vmem S1x32x1024 .f32 := fun | 0 => Memref.whole cc0_stg106_0 | 1 => Memref.whole cc0_stg106_1 | ⟨_ + 2, h⟩ => absurd h (Nat.not_lt.2 (Nat.le_add_left _ _))
abbrev sem0_106 : Fin 2 → DmaSem sig := fun | 0 => cc0_sem106_0 | 1 => cc0_sem106_1 | ⟨_ + 2, h⟩ => absurd h (Nat.not_lt.2 (Nat.le_add_left _ _))
abbrev reads0_106 : Fin grid0.rank → Bool := ![true]

abbrev stage0_107 : Fin 2 → Memref sig .tc .vmem S1x32x1024 .f32 := fun | 0 => Memref.whole cc0_stg107_0 | 1 => Memref.whole cc0_stg107_1 | ⟨_ + 2, h⟩ => absurd h (Nat.not_lt.2 (Nat.le_add_left _ _))
abbrev sem0_107 : Fin 2 → DmaSem sig := fun | 0 => cc0_sem107_0 | 1 => cc0_sem107_1 | ⟨_ + 2, h⟩ => absurd h (Nat.not_lt.2 (Nat.le_add_left _ _))
abbrev reads0_107 : Fin grid0.rank → Bool := ![true]

abbrev stage0_108 : Fin 2 → Memref sig .tc .vmem S1x32x1024 .f32 := fun | 0 => Memref.whole cc0_stg108_0 | 1 => Memref.whole cc0_stg108_1 | ⟨_ + 2, h⟩ => absurd h (Nat.not_lt.2 (Nat.le_add_left _ _))
abbrev sem0_108 : Fin 2 → DmaSem sig := fun | 0 => cc0_sem108_0 | 1 => cc0_sem108_1 | ⟨_ + 2, h⟩ => absurd h (Nat.not_lt.2 (Nat.le_add_left _ _))
abbrev reads0_108 : Fin grid0.rank → Bool := ![true]

abbrev stage0_109 : Fin 2 → Memref sig .tc .vmem S1x32x1024 .f32 := fun | 0 => Memref.whole cc0_stg109_0 | 1 => Memref.whole cc0_stg109_1 | ⟨_ + 2, h⟩ => absurd h (Nat.not_lt.2 (Nat.le_add_left _ _))
abbrev sem0_109 : Fin 2 → DmaSem sig := fun | 0 => cc0_sem109_0 | 1 => cc0_sem109_1 | ⟨_ + 2, h⟩ => absurd h (Nat.not_lt.2 (Nat.le_add_left _ _))
abbrev reads0_109 : Fin grid0.rank → Bool := ![true]

abbrev stage0_110 : Fin 2 → Memref sig .tc .vmem S1x32x1024 .f32 := fun | 0 => Memref.whole cc0_stg110_0 | 1 => Memref.whole cc0_stg110_1 | ⟨_ + 2, h⟩ => absurd h (Nat.not_lt.2 (Nat.le_add_left _ _))
abbrev sem0_110 : Fin 2 → DmaSem sig := fun | 0 => cc0_sem110_0 | 1 => cc0_sem110_1 | ⟨_ + 2, h⟩ => absurd h (Nat.not_lt.2 (Nat.le_add_left _ _))
abbrev reads0_110 : Fin grid0.rank → Bool := ![true]

abbrev stage0_111 : Fin 2 → Memref sig .tc .vmem S1x32x1024 .f32 := fun | 0 => Memref.whole cc0_stg111_0 | 1 => Memref.whole cc0_stg111_1 | ⟨_ + 2, h⟩ => absurd h (Nat.not_lt.2 (Nat.le_add_left _ _))
abbrev sem0_111 : Fin 2 → DmaSem sig := fun | 0 => cc0_sem111_0 | 1 => cc0_sem111_1 | ⟨_ + 2, h⟩ => absurd h (Nat.not_lt.2 (Nat.le_add_left _ _))
abbrev reads0_111 : Fin grid0.rank → Bool := ![true]

abbrev stage0_112 : Fin 2 → Memref sig .tc .vmem S1x32x1024 .f32 := fun | 0 => Memref.whole cc0_stg112_0 | 1 => Memref.whole cc0_stg112_1 | ⟨_ + 2, h⟩ => absurd h (Nat.not_lt.2 (Nat.le_add_left _ _))
abbrev sem0_112 : Fin 2 → DmaSem sig := fun | 0 => cc0_sem112_0 | 1 => cc0_sem112_1 | ⟨_ + 2, h⟩ => absurd h (Nat.not_lt.2 (Nat.le_add_left _ _))
abbrev reads0_112 : Fin grid0.rank → Bool := ![true]

abbrev stage0_113 : Fin 2 → Memref sig .tc .vmem S1x32x1024 .f32 := fun | 0 => Memref.whole cc0_stg113_0 | 1 => Memref.whole cc0_stg113_1 | ⟨_ + 2, h⟩ => absurd h (Nat.not_lt.2 (Nat.le_add_left _ _))
abbrev sem0_113 : Fin 2 → DmaSem sig := fun | 0 => cc0_sem113_0 | 1 => cc0_sem113_1 | ⟨_ + 2, h⟩ => absurd h (Nat.not_lt.2 (Nat.le_add_left _ _))
abbrev reads0_113 : Fin grid0.rank → Bool := ![true]

abbrev stage0_114 : Fin 2 → Memref sig .tc .vmem S1x32x1024 .f32 := fun | 0 => Memref.whole cc0_stg114_0 | 1 => Memref.whole cc0_stg114_1 | ⟨_ + 2, h⟩ => absurd h (Nat.not_lt.2 (Nat.le_add_left _ _))
abbrev sem0_114 : Fin 2 → DmaSem sig := fun | 0 => cc0_sem114_0 | 1 => cc0_sem114_1 | ⟨_ + 2, h⟩ => absurd h (Nat.not_lt.2 (Nat.le_add_left _ _))
abbrev reads0_114 : Fin grid0.rank → Bool := ![true]

abbrev stage0_115 : Fin 2 → Memref sig .tc .vmem S1x32x1024 .f32 := fun | 0 => Memref.whole cc0_stg115_0 | 1 => Memref.whole cc0_stg115_1 | ⟨_ + 2, h⟩ => absurd h (Nat.not_lt.2 (Nat.le_add_left _ _))
abbrev sem0_115 : Fin 2 → DmaSem sig := fun | 0 => cc0_sem115_0 | 1 => cc0_sem115_1 | ⟨_ + 2, h⟩ => absurd h (Nat.not_lt.2 (Nat.le_add_left _ _))
abbrev reads0_115 : Fin grid0.rank → Bool := ![true]

abbrev stage0_116 : Fin 2 → Memref sig .tc .vmem S1x32x1024 .f32 := fun | 0 => Memref.whole cc0_stg116_0 | 1 => Memref.whole cc0_stg116_1 | ⟨_ + 2, h⟩ => absurd h (Nat.not_lt.2 (Nat.le_add_left _ _))
abbrev sem0_116 : Fin 2 → DmaSem sig := fun | 0 => cc0_sem116_0 | 1 => cc0_sem116_1 | ⟨_ + 2, h⟩ => absurd h (Nat.not_lt.2 (Nat.le_add_left _ _))
abbrev reads0_116 : Fin grid0.rank → Bool := ![true]

abbrev stage0_117 : Fin 2 → Memref sig .tc .vmem S1x32x1024 .f32 := fun | 0 => Memref.whole cc0_stg117_0 | 1 => Memref.whole cc0_stg117_1 | ⟨_ + 2, h⟩ => absurd h (Nat.not_lt.2 (Nat.le_add_left _ _))
abbrev sem0_117 : Fin 2 → DmaSem sig := fun | 0 => cc0_sem117_0 | 1 => cc0_sem117_1 | ⟨_ + 2, h⟩ => absurd h (Nat.not_lt.2 (Nat.le_add_left _ _))
abbrev reads0_117 : Fin grid0.rank → Bool := ![true]

abbrev stage0_118 : Fin 2 → Memref sig .tc .vmem S1x32x1024 .f32 := fun | 0 => Memref.whole cc0_stg118_0 | 1 => Memref.whole cc0_stg118_1 | ⟨_ + 2, h⟩ => absurd h (Nat.not_lt.2 (Nat.le_add_left _ _))
abbrev sem0_118 : Fin 2 → DmaSem sig := fun | 0 => cc0_sem118_0 | 1 => cc0_sem118_1 | ⟨_ + 2, h⟩ => absurd h (Nat.not_lt.2 (Nat.le_add_left _ _))
abbrev reads0_118 : Fin grid0.rank → Bool := ![true]

abbrev stage0_119 : Fin 2 → Memref sig .tc .vmem S1x32x1024 .f32 := fun | 0 => Memref.whole cc0_stg119_0 | 1 => Memref.whole cc0_stg119_1 | ⟨_ + 2, h⟩ => absurd h (Nat.not_lt.2 (Nat.le_add_left _ _))
abbrev sem0_119 : Fin 2 → DmaSem sig := fun | 0 => cc0_sem119_0 | 1 => cc0_sem119_1 | ⟨_ + 2, h⟩ => absurd h (Nat.not_lt.2 (Nat.le_add_left _ _))
abbrev reads0_119 : Fin grid0.rank → Bool := ![true]

abbrev stage0_120 : Fin 2 → Memref sig .tc .vmem S1x32x1024 .f32 := fun | 0 => Memref.whole cc0_stg120_0 | 1 => Memref.whole cc0_stg120_1 | ⟨_ + 2, h⟩ => absurd h (Nat.not_lt.2 (Nat.le_add_left _ _))
abbrev sem0_120 : Fin 2 → DmaSem sig := fun | 0 => cc0_sem120_0 | 1 => cc0_sem120_1 | ⟨_ + 2, h⟩ => absurd h (Nat.not_lt.2 (Nat.le_add_left _ _))
abbrev reads0_120 : Fin grid0.rank → Bool := ![true]

abbrev stage0_121 : Fin 2 → Memref sig .tc .vmem S1x32x1024 .f32 := fun | 0 => Memref.whole cc0_stg121_0 | 1 => Memref.whole cc0_stg121_1 | ⟨_ + 2, h⟩ => absurd h (Nat.not_lt.2 (Nat.le_add_left _ _))
abbrev sem0_121 : Fin 2 → DmaSem sig := fun | 0 => cc0_sem121_0 | 1 => cc0_sem121_1 | ⟨_ + 2, h⟩ => absurd h (Nat.not_lt.2 (Nat.le_add_left _ _))
abbrev reads0_121 : Fin grid0.rank → Bool := ![true]

abbrev stage0_122 : Fin 2 → Memref sig .tc .vmem S1x32x1024 .f32 := fun | 0 => Memref.whole cc0_stg122_0 | 1 => Memref.whole cc0_stg122_1 | ⟨_ + 2, h⟩ => absurd h (Nat.not_lt.2 (Nat.le_add_left _ _))
abbrev sem0_122 : Fin 2 → DmaSem sig := fun | 0 => cc0_sem122_0 | 1 => cc0_sem122_1 | ⟨_ + 2, h⟩ => absurd h (Nat.not_lt.2 (Nat.le_add_left _ _))
abbrev reads0_122 : Fin grid0.rank → Bool := ![true]

abbrev stage0_123 : Fin 2 → Memref sig .tc .vmem S1x32x1024 .f32 := fun | 0 => Memref.whole cc0_stg123_0 | 1 => Memref.whole cc0_stg123_1 | ⟨_ + 2, h⟩ => absurd h (Nat.not_lt.2 (Nat.le_add_left _ _))
abbrev sem0_123 : Fin 2 → DmaSem sig := fun | 0 => cc0_sem123_0 | 1 => cc0_sem123_1 | ⟨_ + 2, h⟩ => absurd h (Nat.not_lt.2 (Nat.le_add_left _ _))
abbrev reads0_123 : Fin grid0.rank → Bool := ![true]

abbrev stage0_124 : Fin 2 → Memref sig .tc .vmem S1x32x1024 .f32 := fun | 0 => Memref.whole cc0_stg124_0 | 1 => Memref.whole cc0_stg124_1 | ⟨_ + 2, h⟩ => absurd h (Nat.not_lt.2 (Nat.le_add_left _ _))
abbrev sem0_124 : Fin 2 → DmaSem sig := fun | 0 => cc0_sem124_0 | 1 => cc0_sem124_1 | ⟨_ + 2, h⟩ => absurd h (Nat.not_lt.2 (Nat.le_add_left _ _))
abbrev reads0_124 : Fin grid0.rank → Bool := ![true]

abbrev stage0_125 : Fin 2 → Memref sig .tc .vmem S1x32x1024 .f32 := fun | 0 => Memref.whole cc0_stg125_0 | 1 => Memref.whole cc0_stg125_1 | ⟨_ + 2, h⟩ => absurd h (Nat.not_lt.2 (Nat.le_add_left _ _))
abbrev sem0_125 : Fin 2 → DmaSem sig := fun | 0 => cc0_sem125_0 | 1 => cc0_sem125_1 | ⟨_ + 2, h⟩ => absurd h (Nat.not_lt.2 (Nat.le_add_left _ _))
abbrev reads0_125 : Fin grid0.rank → Bool := ![true]

abbrev stage0_126 : Fin 2 → Memref sig .tc .vmem S1x32x1024 .f32 := fun | 0 => Memref.whole cc0_stg126_0 | 1 => Memref.whole cc0_stg126_1 | ⟨_ + 2, h⟩ => absurd h (Nat.not_lt.2 (Nat.le_add_left _ _))
abbrev sem0_126 : Fin 2 → DmaSem sig := fun | 0 => cc0_sem126_0 | 1 => cc0_sem126_1 | ⟨_ + 2, h⟩ => absurd h (Nat.not_lt.2 (Nat.le_add_left _ _))
abbrev reads0_126 : Fin grid0.rank → Bool := ![true]

abbrev stage0_127 : Fin 2 → Memref sig .tc .vmem S1x32x1024 .f32 := fun | 0 => Memref.whole cc0_stg127_0 | 1 => Memref.whole cc0_stg127_1 | ⟨_ + 2, h⟩ => absurd h (Nat.not_lt.2 (Nat.le_add_left _ _))
abbrev sem0_127 : Fin 2 → DmaSem sig := fun | 0 => cc0_sem127_0 | 1 => cc0_sem127_1 | ⟨_ + 2, h⟩ => absurd h (Nat.not_lt.2 (Nat.le_add_left _ _))
abbrev reads0_127 : Fin grid0.rank → Bool := ![true]

abbrev stage0_128 : Fin 2 → Memref sig .tc .vmem S1x32x1024 .f32 := fun | 0 => Memref.whole cc0_stg128_0 | 1 => Memref.whole cc0_stg128_1 | ⟨_ + 2, h⟩ => absurd h (Nat.not_lt.2 (Nat.le_add_left _ _))
abbrev sem0_128 : Fin 2 → DmaSem sig := fun | 0 => cc0_sem128_0 | 1 => cc0_sem128_1 | ⟨_ + 2, h⟩ => absurd h (Nat.not_lt.2 (Nat.le_add_left _ _))
abbrev reads0_128 : Fin grid0.rank → Bool := ![true]

abbrev stage0_129 : Fin 2 → Memref sig .tc .vmem S1x32x1024 .f32 := fun | 0 => Memref.whole cc0_stg129_0 | 1 => Memref.whole cc0_stg129_1 | ⟨_ + 2, h⟩ => absurd h (Nat.not_lt.2 (Nat.le_add_left _ _))
abbrev sem0_129 : Fin 2 → DmaSem sig := fun | 0 => cc0_sem129_0 | 1 => cc0_sem129_1 | ⟨_ + 2, h⟩ => absurd h (Nat.not_lt.2 (Nat.le_add_left _ _))
abbrev reads0_129 : Fin grid0.rank → Bool := ![true]

abbrev stage0_130 : Fin 1 → Memref sig .tc .vmem S512x1024 .f32 := fun | 0 => Memref.whole cc0_stg130_0 | ⟨_ + 1, h⟩ => absurd h (Nat.not_lt.2 (Nat.le_add_left _ _))
abbrev sem0_130 : Fin 1 → DmaSem sig := fun | 0 => cc0_sem130_0 | ⟨_ + 1, h⟩ => absurd h (Nat.not_lt.2 (Nat.le_add_left _ _))
abbrev reads0_130 : Fin grid0.rank → Bool := ![false]

abbrev stage0_131 : Fin 1 → Memref sig .tc .vmem S1024x32 .i32 := fun | 0 => Memref.whole cc0_stg131_0 | ⟨_ + 1, h⟩ => absurd h (Nat.not_lt.2 (Nat.le_add_left _ _))
abbrev sem0_131 : Fin 1 → DmaSem sig := fun | 0 => cc0_sem131_0 | ⟨_ + 1, h⟩ => absurd h (Nat.not_lt.2 (Nat.le_add_left _ _))
abbrev reads0_131 : Fin grid0.rank → Bool := ![false]

abbrev stage0_132 : Fin 2 → Memref sig .tc .vmem S1x1x64x1024 .f32 := fun | 0 => Memref.whole cc0_stg132_0 | 1 => Memref.whole cc0_stg132_1 | ⟨_ + 2, h⟩ => absurd h (Nat.not_lt.2 (Nat.le_add_left _ _))
abbrev sem0_132 : Fin 2 → DmaSem sig := fun | 0 => cc0_sem132_0 | 1 => cc0_sem132_1 | ⟨_ + 2, h⟩ => absurd h (Nat.not_lt.2 (Nat.le_add_left _ _))
abbrev reads0_132 : Fin grid0.rank → Bool := ![true]

abbrev stage0_133 : Fin 2 → Memref sig .tc .vmem S1x1x64x128 .f32 := fun | 0 => Memref.whole cc0_stg133_0 | 1 => Memref.whole cc0_stg133_1 | ⟨_ + 2, h⟩ => absurd h (Nat.not_lt.2 (Nat.le_add_left _ _))
abbrev sem0_133 : Fin 2 → DmaSem sig := fun | 0 => cc0_sem133_0 | 1 => cc0_sem133_1 | ⟨_ + 2, h⟩ => absurd h (Nat.not_lt.2 (Nat.le_add_left _ _))
abbrev reads0_133 : Fin grid0.rank → Bool := ![true]
-- ==== KernelIdeal.lean ====
variable {F : FTy → Type} [FloatOps F] [Named F]
def κ : String → Option EReal := fun
  | "eps_sq" => some ((5316911940649 / 5316911983139663491615228241121378304 : ℝ) : EReal)
  | _ => none
-- ==== ReferenceIdeal.lean ====
abbrev S2x2048x1024 : Shape := ⟨3, ![2, 2048, 1024]⟩
abbrev S2x16384x1024 : Shape := ⟨3, ![2, 16384, 1024]⟩
abbrev S2x2048 : Shape := ⟨2, ![2, 2048]⟩
abbrev S512x1024 : Shape := ⟨2, ![512, 1024]⟩
abbrev S2x16384 : Shape := ⟨2, ![2, 16384]⟩
abbrev S_ : Shape := ⟨0, ![]⟩
abbrev S2x2048x1 : Shape := ⟨3, ![2, 2048, 1]⟩
abbrev S32 : Shape := ⟨1, ![32]⟩
abbrev S1x1x32 : Shape := ⟨3, ![1, 1, 32]⟩
abbrev S2x2048x32 : Shape := ⟨3, ![2, 2048, 32]⟩
abbrev S2x65536 : Shape := ⟨2, ![2, 65536]⟩
abbrev S2x65536x1 : Shape := ⟨3, ![2, 65536, 1]⟩
abbrev S1 : Shape := ⟨1, ![1]⟩
abbrev S1x1x1 : Shape := ⟨3, ![1, 1, 1]⟩
abbrev S2x65536x1024 : Shape := ⟨3, ![2, 65536, 1024]⟩
abbrev S2x2048x32x1024 : Shape := ⟨4, ![2, 2048, 32, 1024]⟩

abbrev nBuf : Space → Nat
  | .hbm => 190
  | .vmem => 0
  | .smem => 0
  | _ => 0

abbrev hbmTy0_0 (i : Nat) : BufTy := match i % 128 with
  | 0 => ⟨S2x2048x1024, .f32⟩
  | 1 => ⟨S2x16384x1024, .f32⟩
  | 2 => ⟨S2x16384x1024, .f32⟩
  | 3 => ⟨S2x2048, .i32⟩
  | 4 => ⟨S512x1024, .f32⟩
  | 5 => ⟨S2x16384, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S2x2048, .i32⟩
  | 13 => ⟨S2x2048, .i32⟩
  | 14 => ⟨S_, .i32⟩
  | 15 => ⟨S2x2048, .i32⟩
  | 16 => ⟨S2x2048, .i1⟩
  | 17 => ⟨S_, .i32⟩
  | 18 => ⟨S2x2048, .i32⟩
  | 19 => ⟨S2x2048, .i1⟩
  | 20 => ⟨S_, .i32⟩
  | 21 => ⟨S_, .i1⟩
  | 22 => ⟨S2x2048, .i1⟩
  | 23 => ⟨S2x2048, .i1⟩
  | 24 => ⟨S2x2048, .i1⟩
  | 25 => ⟨S2x2048, .i32⟩
  | 26 => ⟨S2x2048, .i32⟩
  | 27 => ⟨S2x2048, .i32⟩
  | 28 => ⟨S_, .i32⟩
  | 29 => ⟨S2x2048, .i32⟩
  | 30 => ⟨S2x2048, .i1⟩
  | 31 => ⟨S_, .i32⟩
  | 32 => ⟨S2x2048, .i32⟩
  | 33 => ⟨S2x2048, .i32⟩
  | 34 => ⟨S2x2048, .i32⟩
  | 35 => ⟨S2x2048x1, .i32⟩
  | 36 => ⟨S2x2048x1024, .f32⟩
  | 37 => ⟨S2x2048x1024, .f32⟩
  | 38 => ⟨S_, .f32⟩
  | 39 => ⟨S2x2048, .f32⟩
  | 40 => ⟨S2x2048x1, .f32⟩
  | 41 => ⟨S2x2048x1, .f32⟩
  | 42 => ⟨S_, .f32⟩
  | 43 => ⟨S2x2048x1, .f32⟩
  | 44 => ⟨S2x2048x1, .f32⟩
  | 45 => ⟨S2x2048x1024, .f32⟩
  | 46 => ⟨S2x2048x1024, .f32⟩
  | 47 => ⟨S_, .i32⟩
  | 48 => ⟨S2x2048, .i32⟩
  | 49 => ⟨S2x2048, .i32⟩
  | 50 => ⟨S2x2048x1, .i32⟩
  | 51 => ⟨S32, .i32⟩
  | 52 => ⟨S1x1x32, .i32⟩
  | 53 => ⟨S2x2048x32, .i32⟩
  | 54 => ⟨S2x2048x32, .i32⟩
  | 55 => ⟨S2x2048x32, .i32⟩
  | 56 => ⟨S2x65536, .i32⟩
  | 57 => ⟨S2x65536x1, .i32⟩
  | 58 => ⟨S_, .i32⟩
  | 59 => ⟨S2x65536x1, .i32⟩
  | 60 => ⟨S2x65536x1, .i1⟩
  | 61 => ⟨S_, .i32⟩
  | 62 => ⟨S2x65536x1, .i32⟩
  | 63 => ⟨S2x65536x1, .i32⟩
  | 64 => ⟨S2x65536x1, .i32⟩
  | 65 => ⟨S1, .i32⟩
  | 66 => ⟨S_, .i32⟩
  | 67 => ⟨S2x65536x1, .i32⟩
  | 68 => ⟨S2x65536x1, .i1⟩
  | 69 => ⟨S1x1x1, .i32⟩
  | 70 => ⟨S2x65536x1, .i32⟩
  | 71 => ⟨S2x65536x1, .i1⟩
  | 72 => ⟨S2x65536x1, .i1⟩
  | 73 => ⟨S_, .i1⟩
  | 74 => ⟨S2x65536, .i1⟩
  | 75 => ⟨S2x65536x1024, .f32⟩
  | 76 => ⟨S2x65536x1024, .i1⟩
  | 77 => ⟨S_, .f32⟩
  | 78 => ⟨S2x65536x1024, .f32⟩
  | 79 => ⟨S2x65536x1024, .f32⟩
  | 80 => ⟨S2x2048x32x1024, .f32⟩
  | 81 => ⟨S2x65536x1, .i32⟩
  | 82 => ⟨S_, .i32⟩
  | 83 => ⟨S2x65536x1, .i32⟩
  | 84 => ⟨S2x65536x1, .i1⟩
  | 85 => ⟨S_, .i32⟩
  | 86 => ⟨S2x65536x1, .i32⟩
  | 87 => ⟨S2x65536x1, .i32⟩
  | 88 => ⟨S2x65536x1, .i32⟩
  | 89 => ⟨S1, .i32⟩
  | 90 => ⟨S_, .i32⟩
  | 91 => ⟨S2x65536x1, .i32⟩
  | 92 => ⟨S2x65536x1, .i1⟩
  | 93 => ⟨S1x1x1, .i32⟩
  | 94 => ⟨S2x65536x1, .i32⟩
  | 95 => ⟨S2x65536x1, .i1⟩
  | 96 => ⟨S2x65536x1, .i1⟩
  | 97 => ⟨S_, .i1⟩
  | 98 => ⟨S2x65536, .i1⟩
  | 99 => ⟨S2x65536x1024, .f32⟩
  | 100 => ⟨S2x65536x1024, .i1⟩
  | 101 => ⟨S_, .f32⟩
  | 102 => ⟨S2x65536x1024, .f32⟩
  | 103 => ⟨S2x65536x1024, .f32⟩
  | 104 => ⟨S2x2048x32x1024, .f32⟩
  | 105 => ⟨S_, .f32⟩
  | 106 => ⟨S2x2048x1024, .f32⟩
  | 107 => ⟨S2x2048x1024, .f32⟩
  | 108 => ⟨S_, .f32⟩
  | 109 => ⟨S2x2048x1024, .f32⟩
  | 110 => ⟨S2x2048x1024, .f32⟩
  | 111 => ⟨S2x2048x1024, .f32⟩
  | 112 => ⟨S2x2048x1024, .f32⟩
  | 113 => ⟨S_, .f32⟩
  | 114 => ⟨S2x2048, .f32⟩
  | 115 => ⟨S2x2048x1, .f32⟩
  | 116 => ⟨S2x2048x1, .f32⟩
  | 117 => ⟨S_, .f32⟩
  | 118 => ⟨S2x2048x1, .f32⟩
  | 119 => ⟨S2x2048x1, .f32⟩
  | 120 => ⟨S2x2048x1024, .f32⟩
  | 121 => ⟨S2x2048x1024, .f32⟩
  | 122 => ⟨S2x2048x32, .f32⟩
  | 123 => ⟨S_, .i32⟩
  | 124 => ⟨S2x65536, .i32⟩
  | 125 => ⟨S2x65536, .i1⟩
  | 126 => ⟨S_, .i32⟩
  | 127 => ⟨S2x65536, .i32⟩
  | _ => ⟨S2x2048x1024, .f32⟩

abbrev hbmTy0_1 (i : Nat) : BufTy := match i % 128 with
  | 0 => ⟨S2x65536, .i32⟩
  | 1 => ⟨S2x65536, .i32⟩
  | 2 => ⟨S2x65536x1, .i32⟩
  | 3 => ⟨S1, .i32⟩
  | 4 => ⟨S_, .i32⟩
  | 5 => ⟨S2x65536x1, .i32⟩
  | 6 => ⟨S2x65536x1, .i1⟩
  | 7 => ⟨S1x1x1, .i32⟩
  | 8 => ⟨S2x65536x1, .i32⟩
  | 9 => ⟨S2x65536x1, .i1⟩
  | 10 => ⟨S2x65536x1, .i1⟩
  | 11 => ⟨S_, .i1⟩
  | 12 => ⟨S2x65536, .i1⟩
  | 13 => ⟨S2x65536, .i32⟩
  | 14 => ⟨S_, .i32⟩
  | 15 => ⟨S2x65536, .i32⟩
  | 16 => ⟨S2x65536, .i32⟩
  | 17 => ⟨S2x2048x32, .i32⟩
  | 18 => ⟨S2x2048x1, .i32⟩
  | 19 => ⟨S2x2048x32, .i32⟩
  | 20 => ⟨S2x2048x32, .i1⟩
  | 21 => ⟨S2x2048x32, .f32⟩
  | 22 => ⟨S_, .f32⟩
  | 23 => ⟨S2x2048, .f32⟩
  | 24 => ⟨S2x2048x1, .f32⟩
  | 25 => ⟨S_, .f32⟩
  | 26 => ⟨S2x2048x1, .f32⟩
  | 27 => ⟨S2x2048x1, .i1⟩
  | 28 => ⟨S_, .f32⟩
  | 29 => ⟨S2x2048x1, .f32⟩
  | 30 => ⟨S2x2048x1, .f32⟩
  | 31 => ⟨S2x2048x32, .f32⟩
  | 32 => ⟨S2x2048x32, .f32⟩
  | 33 => ⟨S2x2048x1024, .f32⟩
  | 34 => ⟨S_, .f32⟩
  | 35 => ⟨S_, .f32⟩
  | 36 => ⟨S_, .f32⟩
  | 37 => ⟨S2x2048x32, .f32⟩
  | 38 => ⟨S2x2048x32, .f32⟩
  | 39 => ⟨S_, .f32⟩
  | 40 => ⟨S2x2048, .f32⟩
  | 41 => ⟨S_, .f32⟩
  | 42 => ⟨S2x2048, .f32⟩
  | 43 => ⟨S2x2048, .f32⟩
  | 44 => ⟨S2x2048x1, .f32⟩
  | 45 => ⟨S2x2048x32, .f32⟩
  | 46 => ⟨S2x2048x32, .f32⟩
  | 47 => ⟨S2x2048x32, .f32⟩
  | 48 => ⟨S_, .f32⟩
  | 49 => ⟨S2x2048, .f32⟩
  | 50 => ⟨S2x2048x1, .f32⟩
  | 51 => ⟨S2x2048x32, .f32⟩
  | 52 => ⟨S2x2048x32, .f32⟩
  | 53 => ⟨S2x2048x1024, .f32⟩
  | 54 => ⟨S2x2048x1024, .i1⟩
  | 55 => ⟨S2x2048x1024, .f32⟩
  | 56 => ⟨S_, .f32⟩
  | 57 => ⟨S2x2048, .f32⟩
  | 58 => ⟨S2x2048, .i1⟩
  | 59 => ⟨S_, .f32⟩
  | 60 => ⟨S2x2048, .f32⟩
  | 61 => ⟨S2x2048, .f32⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_c_1 : Ref sig .tc := ⟨.hbm, 14, rfl⟩
abbrev main_call0_v5 : Ref sig .tc := ⟨.hbm, 15, rfl⟩
abbrev main_call0_v6 : Ref sig .tc := ⟨.hbm, 16, rfl⟩
abbrev main_call0_c_2 : Ref sig .tc := ⟨.hbm, 17, rfl⟩
abbrev main_call0_v7 : Ref sig .tc := ⟨.hbm, 18, rfl⟩
abbrev main_call0_v8 : Ref sig .tc := ⟨.hbm, 19, rfl⟩
abbrev main_call0_c_3 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_v0 : Ref sig .tc := ⟨.hbm, 27, rfl⟩
abbrev main_c_0 : Ref sig .tc := ⟨.hbm, 28, rfl⟩
abbrev main_v1 : Ref sig .tc := ⟨.hbm, 29, rfl⟩
abbrev main_v2 : Ref sig .tc := ⟨.hbm, 30, rfl⟩
abbrev main_c_1 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_call1_v0 : Ref sig .tc := ⟨.hbm, 37, rfl⟩
abbrev main_call1_cst : Ref sig .tc := ⟨.hbm, 38, rfl⟩
abbrev main_call1_v1 : Ref sig .tc := ⟨.hbm, 39, rfl⟩
abbrev main_call1_v2 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_1 : Ref sig .tc := ⟨.hbm, 65, rfl⟩
abbrev main_call2_c_2 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_c_3 : Ref sig .tc := ⟨.hbm, 73, rfl⟩
abbrev main_call2_v11 : Ref sig .tc := ⟨.hbm, 74, rfl⟩
abbrev main_call2_v12 : Ref sig .tc := ⟨.hbm, 75, rfl⟩
abbrev main_call2_v13 : Ref sig .tc := ⟨.hbm, 76, rfl⟩
abbrev main_call2_cst : Ref sig .tc := ⟨.hbm, 77, rfl⟩
abbrev main_call2_v14 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_c_1 : Ref sig .tc := ⟨.hbm, 89, rfl⟩
abbrev main_call3_c_2 : Ref sig .tc := ⟨.hbm, 90, rfl⟩
abbrev main_call3_v5 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_c_3 : Ref sig .tc := ⟨.hbm, 97, rfl⟩
abbrev main_call3_v11 : Ref sig .tc := ⟨.hbm, 98, rfl⟩
abbrev main_call3_v12 : Ref sig .tc := ⟨.hbm, 99, rfl⟩
abbrev main_call3_v13 : Ref sig .tc := ⟨.hbm, 100, rfl⟩
abbrev main_call3_cst : Ref sig .tc := ⟨.hbm, 101, rfl⟩
abbrev main_call3_v14 : Ref sig .tc := ⟨.hbm, 102, rfl⟩
abbrev main_v26 : Ref sig .tc := ⟨.hbm, 103, rfl⟩
abbrev main_v27 : Ref sig .tc := ⟨.hbm, 104, rfl⟩
abbrev main_cst_3 : Ref sig .tc := ⟨.hbm, 105, rfl⟩
abbrev main_v28 : Ref sig .tc := ⟨.hbm, 106, rfl⟩
abbrev main_v29 : Ref sig .tc := ⟨.hbm, 107, rfl⟩
abbrev main_cst_4 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_call4_v0 : Ref sig .tc := ⟨.hbm, 112, rfl⟩
abbrev main_call4_cst : Ref sig .tc := ⟨.hbm, 113, rfl⟩
abbrev main_call4_v1 : Ref sig .tc := ⟨.hbm, 114, rfl⟩
abbrev main_call4_v2 : Ref sig .tc := ⟨.hbm, 115, rfl⟩
abbrev main_v33 : Ref sig .tc := ⟨.hbm, 116, rfl⟩
abbrev main_cst_5 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_call5_c : Ref sig .tc := ⟨.hbm, 123, rfl⟩
abbrev main_call5_v0 : Ref sig .tc := ⟨.hbm, 124, rfl⟩
abbrev main_call5_v1 : Ref sig .tc := ⟨.hbm, 125, rfl⟩
abbrev main_call5_c_0 : Ref sig .tc := ⟨.hbm, 126, rfl⟩
abbrev main_call5_v2 : Ref sig .tc := ⟨.hbm, 127, rfl⟩
abbrev main_call5_v3 : Ref sig .tc := ⟨.hbm, 128, rfl⟩
abbrev main_call5_v4 : Ref sig .tc := ⟨.hbm, 129, rfl⟩
abbrev main_call5_v5 : Ref sig .tc := ⟨.hbm, 130, rfl⟩
abbrev main_call5_c_1 : Ref sig .tc := ⟨.hbm, 131, rfl⟩
abbrev main_call5_c_2 : Ref sig .tc := ⟨.hbm, 132, rfl⟩
abbrev main_call5_v6 : Ref sig .tc := ⟨.hbm, 133, rfl⟩
abbrev main_call5_v7 : Ref sig .tc := ⟨.hbm, 134, rfl⟩
abbrev main_call5_v8 : Ref sig .tc := ⟨.hbm, 135, rfl⟩
abbrev main_call5_v9 : Ref sig .tc := ⟨.hbm, 136, rfl⟩
abbrev main_call5_v10 : Ref sig .tc := ⟨.hbm, 137, rfl⟩
abbrev main_call5_v11 : Ref sig .tc := ⟨.hbm, 138, rfl⟩
abbrev main_call5_c_3 : Ref sig .tc := ⟨.hbm, 139, rfl⟩
abbrev main_call5_v12 : Ref sig .tc := ⟨.hbm, 140, rfl⟩
abbrev main_call5_v13 : Ref sig .tc := ⟨.hbm, 141, rfl⟩
abbrev main_call5_c_4 : Ref sig .tc := ⟨.hbm, 142, rfl⟩
abbrev main_call5_v14 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩
abbrev main_v43 : Ref sig .tc := ⟨.hbm, 148, rfl⟩
abbrev main_v44 : Ref sig .tc := ⟨.hbm, 149, rfl⟩
abbrev main_cst_6 : Ref sig .tc := ⟨.hbm, 150, rfl⟩
abbrev main_v45 : Ref sig .tc := ⟨.hbm, 151, rfl⟩
abbrev main_v46 : Ref sig .tc := ⟨.hbm, 152, rfl⟩
abbrev main_cst_7 : Ref sig .tc := ⟨.hbm, 153, rfl⟩
abbrev main_v47 : Ref sig .tc := ⟨.hbm, 154, rfl⟩
abbrev main_v48 : Ref sig .tc := ⟨.hbm, 155, rfl⟩
abbrev main_cst_8 : Ref sig .tc := ⟨.hbm, 156, rfl⟩
abbrev main_v49 : Ref sig .tc := ⟨.hbm, 157, rfl⟩
abbrev main_v50 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_cst_9 : Ref sig .tc := ⟨.hbm, 162, rfl⟩
abbrev main_cst_10 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_cst_11 : Ref sig .tc := ⟨.hbm, 167, rfl⟩
abbrev main_v57 : Ref sig .tc := ⟨.hbm, 168, rfl⟩
abbrev main_cst_12 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_cst_13 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_call6_v0 : Ref sig .tc := ⟨.hbm, 182, rfl⟩
abbrev main_v69 : Ref sig .tc := ⟨.hbm, 183, rfl⟩
abbrev main_cst_14 : Ref sig .tc := ⟨.hbm, 184, rfl⟩
abbrev main_v70 : Ref sig .tc := ⟨.hbm, 185, rfl⟩
abbrev main_v71 : Ref sig .tc := ⟨.hbm, 186, rfl⟩
abbrev main_cst_15 : Ref sig .tc := ⟨.hbm, 187, rfl⟩
abbrev main_v72 : Ref sig .tc := ⟨.hbm, 188, rfl⟩
abbrev main_v73 : Ref sig .tc := ⟨.hbm, 189, rfl⟩

abbrev nD : Nat := 1
abbrev τ : Topo := Topo.v7x

variable {F : FTy → Type} [FloatOps F]
-- ==== Proof.Steps.Words.lean ====
/- The remainder of an identifier by the number of buckets. -/
module

public import Idealize.ShloMosaic.PureOps
public import Idealize.ShloMosaic.Lib.Affine

@[expose] public section

namespace Steps

open Idealize.ShloMosaic

/-- The bucket of an identifier: the remainder by 512, taken up by 512 where it is negative. -/
def bucket (t : BitVec 32) : BitVec 32 := if (t.srem 512#32).slt 0#32 then t.srem 512#32 + 512#32 else t.srem 512#32

theorem bucket_lt (t : BitVec 32) : (bucket t).toNat < 512 := by
  have h : (t.srem 512#32).toInt = t.toInt.tmod 512 := by rw [BitVec.toInt_srem]; rfl
  have h1 : t.toInt.tmod 512 < 512 := Int.tmod_lt_of_pos _ (by decide)
  have h2 : -512 < t.toInt.tmod 512 := by
    have := Int.tmod_lt_of_pos (-t.toInt) (show (0:ℤ) < 512 by decide)
    rw [Int.neg_tmod] at this; omega
  unfold bucket
  split
  next hs =>
    rw [BitVec.slt_iff_toInt_lt, h] at hs
    simp only [BitVec.toInt_zero] at hs
    have h3 : (t.srem 512#32 + 512#32).toInt = t.toInt.tmod 512 + 512 := by
      rw [BitVec.toInt_add, h]
      show Int.bmod (_ + 512) _ = _
      exact Int.bmod_eq_of_le (by omega) (by omega)
    have := BitVec.toInt_eq_toNat_cond (t.srem 512#32 + 512#32)
    have := (t.srem 512#32 + 512#32).isLt
    split at * <;> omega
  next hs =>
    rw [BitVec.slt_iff_toInt_lt, h] at hs
    simp only [BitVec.toInt_zero] at hs
    have := BitVec.toInt_eq_toNat_cond (t.srem 512#32)
    have := (t.srem 512#32).isLt
    split at * <;> omega

/-- The remainder as the programs take it. -/
theorem bucket_word (t : BitVec 32) :
    (if IntOp.andi (IntOp.cmpi .ne (IntOp.cmpi .slt (IntOp.remsi .host t 512#32) 0#32) (IntOp.cmpi .slt 512#32 0#32))
        (IntOp.cmpi .ne (IntOp.remsi .host t 512#32) 0#32) = 1#1 then IntOp.addi (IntOp.remsi .host t 512#32) 512#32 else IntOp.remsi .host t 512#32)
      = bucket t := by
  have hr : IntOp.remsi .host t 512#32 = t.srem 512#32 := IntOp.remsi_of_pos _ (by decide)
  rw [hr]
  unfold bucket
  generalize t.srem 512#32 = r
  have h0 : (BitVec.slt 512#32 0#32) = false := by decide
  unfold IntOp.cmpi IntOp.andi IntOp.addi
  simp only [h0]
  by_cases hs : r.slt 0#32 = true
  · have hr : (r != 0#32) = true := by
      rw [bne_iff_ne]; rintro rfl; exact absurd hs (by decide)
    rw [hs, hr, if_pos rfl, if_pos (by decide)]
  · rw [if_neg hs, Bool.eq_false_iff.mpr hs, if_neg]
    cases (r != 0#32) <;> decide

end Steps
-- ==== Proof.Steps.Rules.lean ====
/- Steps of a TensorCore program from a context that holds its buffers: a load from a buffer the context lets
   one read (at any share), a scalar load from a table, an assumption, a store over a whole buffer. Each is stated
   backwards, over a context kept as one assertion, so that a run is these lemmas applied one after another. -/
module

public import Idealize.ShloMosaic.Lib.Pipeline.FrameBody
public import Idealize.ShloMosaic.Lib.Pipeline.FrameSuffix
public import Idealize.ShloMosaic.Lib.VecWindow
public import Idealize.ShloMosaic.Lib.Tactic

@[expose] public section

noncomputable section

namespace Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}

local notation "𝕄" => MT nD τ sig Ix Val Name U Lvl

/-- The context `P` lets core `c` read the memref `M`, whose elements read `x`: `P` is something together with a
    share of `M`'s elements at `x`. -/
def Reads (P : sProp 𝕄) (c : Thread nD τ) {sp : CoreSpace} {s : Shape} {e : EltTy} (M : Memref sig c.2.kind sp s e)
    (x : s.Idx → Val e) : Prop :=
  ∃ (q : PosShare TreeShare) (R : sProp 𝕄), P ⊣⊢ iprop(R ∗ owns c M q x)

theorem Reads.left {P Z : sProp 𝕄} {c : Thread nD τ} {sp : CoreSpace} {s : Shape} {e : EltTy} {M : Memref sig c.2.kind sp s e}
    {x : s.Idx → Val e} (h : Reads P c M x) : Reads iprop(P ∗ Z) c M x := by
  obtain ⟨q, R, h⟩ := h
  refine ⟨q, iprop(R ∗ Z), ?_, ?_⟩
  · refine (sep_mono_left h.1).trans ?_
    iintro ⟨⟨H1, H2⟩, H3⟩
    isplitr [H2]
    · isplitl [H1]
      · iexact H1
      · iexact H3
    · iexact H2
  · refine BIBase.Entails.trans ?_ (sep_mono_left h.2)
    iintro ⟨⟨H1, H3⟩, H2⟩
    isplitr [H3]
    · isplitl [H1]
      · iexact H1
      · iexact H2
    · iexact H3

theorem Reads.right {P Z : sProp 𝕄} {c : Thread nD τ} {sp : CoreSpace} {s : Shape} {e : EltTy} {M : Memref sig c.2.kind sp s e}
    {x : s.Idx → Val e} (h : Reads P c M x) : Reads iprop(Z ∗ P) c M x := by
  obtain ⟨q, R, h⟩ := h
  refine ⟨q, iprop(Z ∗ R), ?_, ?_⟩
  · refine (sep_mono_right h.1).trans ?_
    iintro ⟨H1, ⟨H2, H3⟩⟩
    isplitr [H3]
    · isplitl [H1]
      · iexact H1
      · iexact H2
    · iexact H3
  · refine BIBase.Entails.trans ?_ (sep_mono_right h.2)
    iintro ⟨⟨H1, H2⟩, H3⟩
    isplitl [H1]
    · iexact H1
    · isplitl [H2]
      · iexact H2
      · iexact H3

theorem Reads.own (c : Thread nD τ) {sp : CoreSpace} {s : Shape} {e : EltTy} (M : Memref sig c.2.kind sp s e) (q : PosShare TreeShare)
    (x : s.Idx → Val e) : Reads (owns c M q x : sProp 𝕄) c M x :=
  ⟨q, iprop(emp), emp_sep_intro, emp_sep_elim⟩

section Rules
variable [Preorder Lvl] {defs : Defs nD τ sig Val Λ} {𝒱 : Variants} {c : Thread nD τ} {bd : Option 𝒱.V} {E : Set Name}
variable {s : Shape} {e : EltTy} {α β : Type}

theorem load_gen {Q : α → sProp 𝕄} {P : sProp 𝕄} {sp : CoreSpace} {M : Memref sig c.2.kind sp s e} {x : s.Idx → Val e} (hR : Reads P c M x)
    {r : LoadRect s} {hl : M.view.LoadsAt r} {k : (r.shape.Idx → Val e) → Prog (TpuEff nD τ sig Val Λ c.2) α}
    (h : ∀ f : Buf Val (M.view.loc c), M.view.read Val f = x → P ⊢ wp frame (wpE defs 𝒱 c bd) E (k (M.view.readAt Val r f)) Q) :
    P ⊢ wp frame (wpE defs 𝒱 c bd) E (.op (.load M r hl) k) Q := by
  obtain ⟨q, R, hP⟩ := hR
  refine hP.1.trans ?_
  have hown : (owns c M q x : sProp 𝕄) ⊢ iprop((R -∗ wp frame (wpE defs 𝒱 c bd) E (.op (.load M r hl) k) Q)) := by
    unfold owns
    iintro ⟨%f, %hf, Hf⟩
    iintro HR
    iapply (wp_load 𝒱 c bd E (m := M) (r := r) (hl := hl) (S := M.view.set) (View.setOn_subset_set _ _)) $$ Hf
    iintro Hf
    iapply (show iprop(R ∗ owns c M q x) ⊢ wp frame (wpE defs 𝒱 c bd) E (k (M.view.readAt Val r f)) Q from hP.2.trans (h f hf))
    isplitl [HR]
    · iexact HR
    · unfold owns
      iexists f
      isplitr
      · ipureintro; exact hf
      · iexact Hf
  exact (sep_mono_right hown).trans wand_elim_right

/-- A load of a whole buffer. -/
theorem load_full {Q : α → sProp 𝕄} {P : sProp 𝕄} {sp : CoreSpace} {M : Memref sig c.2.kind sp s e} {x : s.Idx → Val e} (hR : Reads P c M x)
    {off : Fin s.rank → ℕ} {inb : ∀ a, off a + s.size a ≤ s.size a} {hl : M.view.LoadsAt (Rect.unit off s.size inb).toLoadRect}
    {k : (s.Idx → Val e) → Prog (TpuEff nD τ sig Val Λ c.2) α}
    (h : P ⊢ wp frame (wpE defs 𝒱 c bd) E (k x) Q) :
    P ⊢ wp frame (wpE defs 𝒱 c bd) E (Prog.lift (.load M (Rect.unit off s.size inb).toLoadRect hl) >>= k) Q :=
  load_gen hR fun f hf => by rw [View.readAt_full, hf]; exact h

/-- A load of a unit-stride rectangle. -/
theorem load_rect {Q : α → sProp 𝕄} {P : sProp 𝕄} {sp : CoreSpace} {M : Memref sig c.2.kind sp s e} {x : s.Idx → Val e} (hR : Reads P c M x)
    {off size : Fin s.rank → ℕ} {inb : ∀ a, off a + size a ≤ s.size a} {hl : M.view.LoadsAt (Rect.unit off size inb).toLoadRect}
    {k : ((Rect.unit off size inb).shape.Idx → Val e) → Prog (TpuEff nD τ sig Val Λ c.2) α}
    (h : P ⊢ wp frame (wpE defs 𝒱 c bd) E (k (View.ld x (Rect.unit off size inb))) Q) :
    P ⊢ wp frame (wpE defs 𝒱 c bd) E (Prog.lift (.load M (Rect.unit off size inb).toLoadRect hl) >>= k) Q :=
  load_gen hR fun f hf => by subst hf; exact h

/-- A scalar load from a table. -/
theorem load_word {Q : α → sProp 𝕄} {P : sProp 𝕄} {M : Memref sig c.2.kind .smem s e} {x : s.Idx → Val e} (hR : Reads P c M x)
    {r : Rect s} {h1 : r.shape.numel = 1} {hw : e.packing = 1}
    {k : Val e → Prog (TpuEff nD τ sig Val Λ c.2) α}
    (h : P ⊢ wp frame (wpE defs 𝒱 c bd) E (k (x (r.idx (Shape.Idx.first (h1.symm ▸ Nat.one_pos))))) Q) :
    P ⊢ wp frame (wpE defs 𝒱 c bd) E (smemLoad M r h1 hw >>= k) Q :=
  load_gen hR fun f hf => by subst hf; exact h

/-- A side condition that holds. -/
theorem assume {Q : α → sProp 𝕄} {P : sProp 𝕄} {p : Prop} {d : Decidable p} {k : PLift p → Prog (TpuEff nD τ sig Val Λ c.2) α} (hp : p)
    (h : P ⊢ wp frame (wpE defs 𝒱 c bd) E (k ⟨hp⟩) Q) :
    P ⊢ wp frame (wpE defs 𝒱 c bd) E (Prog.lift (.assume p d) >>= k) Q :=
  h.trans (wp_assume 𝒱 c bd E hp)

theorem store_gen {Q : α → sProp 𝕄} {R : sProp 𝕄} {sp : CoreSpace} {M : Memref sig c.2.kind sp s e} {d : s.Idx → Val e}
    {off : Fin s.rank → ℕ} {inb : ∀ a, off a + s.size a ≤ s.size a} {w : (Rect.unit off s.size inb).shape.Idx → Val e}
    {hx : (M.access (Rect.unit off s.size inb)).Stores Finset.univ} {hm}
    {k : PUnit → Prog (TpuEff nD τ sig Val Λ c.2) α}
    (h : iprop(R ∗ owns c M fullShare w) ⊢ wp frame (wpE defs 𝒱 c bd) E (k ⟨⟩) Q) :
    iprop(R ∗ owns c M fullShare d)
      ⊢ wp frame (wpE defs 𝒱 c bd) E (Prog.lift (.store M (Rect.unit off s.size inb) w Finset.univ hx hm) >>= k) Q := by
  have hown : (owns c M fullShare d : sProp 𝕄) ⊢ iprop(R -∗ wp frame (wpE defs 𝒱 c bd) E (.op (.store M (Rect.unit off s.size inb) w Finset.univ hx hm) k) Q) := by
    conv_lhs => unfold owns
    iintro ⟨%f, -, Hf⟩
    iintro HR
    iapply (wp_store 𝒱 c bd E (m := M) (r := Rect.unit off s.size inb) (w := w) (hx := hx) (hm := hm) (S := M.view.set) (f := f)
      ((View.setOn_subset_set _ _).trans (by rw [View.set_slice]; exact View.setOn_subset_set _ _))) $$ Hf
    iintro Hf
    iapply h
    isplitl [HR]
    · iexact HR
    · unfold owns
      iexists _
      isplitr
      · ipureintro; exact View.read_writes_full M.view f inb w []
      · iexact Hf
  exact (sep_mono_right hown).trans wand_elim_right

/-- A store over a whole buffer that the context holds in the middle. -/
theorem store_mid {Q : α → sProp 𝕄} {R Z : sProp 𝕄} {sp : CoreSpace} {M : Memref sig c.2.kind sp s e} {d : s.Idx → Val e}
    {off : Fin s.rank → ℕ} {inb : ∀ a, off a + s.size a ≤ s.size a} {w : (Rect.unit off s.size inb).shape.Idx → Val e}
    {hx : (M.access (Rect.unit off s.size inb)).Stores Finset.univ} {hm}
    {k : PUnit → Prog (TpuEff nD τ sig Val Λ c.2) α}
    (h : iprop((R ∗ owns c M fullShare w) ∗ Z) ⊢ wp frame (wpE defs 𝒱 c bd) E (k ⟨⟩) Q) :
    iprop((R ∗ owns c M fullShare d) ∗ Z)
      ⊢ wp frame (wpE defs 𝒱 c bd) E (Prog.lift (.store M (Rect.unit off s.size inb) w Finset.univ hx hm) >>= k) Q :=
  have swap : ∀ A B C : sProp 𝕄, iprop((A ∗ B) ∗ C) ⊢ iprop((A ∗ C) ∗ B) := fun A B C => by
    iintro ⟨⟨H1, H2⟩, H3⟩
    isplitr [H2]
    · isplitl [H1]
      · iexact H1
      · iexact H3
    · iexact H2
  (swap _ _ _).trans (store_gen ((swap _ _ _).trans h))

/-- A program run before another. -/
theorem bind {Q : α → sProp 𝕄} {P : sProp 𝕄} {p : Prog (TpuEff nD τ sig Val Λ c.2) β} {k : β → Prog (TpuEff nD τ sig Val Λ c.2) α}
    (h : P ⊢ wp frame (wpE defs 𝒱 c bd) E p (fun b => wp frame (wpE defs 𝒱 c bd) E (k b) Q)) :
    P ⊢ wp frame (wpE defs 𝒱 c bd) E (p >>= k) Q :=
  h.trans (Entails.of_eq (wp_bind frame (wpE defs 𝒱 c bd) E p k Q).symm)

/-- A program that only answers. -/
theorem ret {Q : α → sProp 𝕄} {P : sProp 𝕄} {a : α} (h : P ⊢ Q a) :
    P ⊢ wp frame (wpE defs 𝒱 c bd) E (pure a) Q :=
  h.trans (fupd_intro.trans (Entails.of_eq (wp_pure frame (wpE defs 𝒱 c bd) E a Q).symm))

end Rules
end Steps

end
-- ==== Proof.Steps.KernelIdealKit.lean ====
/- The launch kit of the idealised kernel: the layout facts the launch theorem takes, and @main as a chain of host
   stretches around the call. -/
module

public import proofs.«01_k».proof.Proof.Gen.KernelIdeal
public import Idealize.ShloMosaic.Lib.Pipeline.Kit
public import Idealize.ShloMosaic.Lib.Pipeline.Regions

@[expose] public section

set_option maxRecDepth 18884

noncomputable section

namespace Cert.KernelIdeal.Kit

open Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F] [Named F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
set_option maxHeartbeats 20000000 in
/-- The custom_calls' staging semaphores, joined in the calls' order, strictly increase: no two are one. -/
theorem semsIncrease : ((List.finRange 1).flatMap semTab).IsChain (· < ·) := by decide +kernel
set_option maxHeartbeats 20000000 in
/-- The program's staging cells are pairwise distinct, its pipelines pinned at any contents of their tables. -/
theorem cellOf_inj (a : (p : Fin 1) → (pcfgs (F := F) p).Adm) :
    Function.Injective (Pipeline.cellOf (nD := nD) (τ := τ) (Pipeline.pin (pcfgs (F := F)) a)) :=
  Pipeline.cellOf_injective_of_isChain (Pipeline.pin (pcfgs (F := F)) a) semTab (fun | 0 => rfl | ⟨_ + 1, h⟩ => absurd h (Nat.not_lt.2 (Nat.le_add_left _ _))) (List.finRange 1) List.mem_finRange semsIncrease

/-! ## custom_call 0 (pipeline 0 of @main) -/

set_option maxHeartbeats 20000000 in
/-- The layout the launch needs, the arrays' distinctness apart: custom_call 0 hands one array to several windows. -/
theorem winFacts₀0 : Pipeline.WinFacts₀ spec0 := by decide +kernel
set_option maxHeartbeats 20000000 in
/-- Every window on an array another window is on is an input window. -/
theorem sharedIn0 : Pipeline.SharedIn spec0 := by decide +kernel
set_option maxHeartbeats 20000000 in
/-- The prefetched tables unscoped, distinct, and no window's array. -/
theorem preFacts0 : Pipeline.PreFacts spec0 pre0 := by decide +kernel
/-- No window's block is empty. -/
theorem block_pos0 : ∀ w : Fin 134, 0 < (spec0 w).block.numel := by decide +kernel
set_option maxHeartbeats 20000000 in
/-- The windows' arrays and the staging memrefs are whole buffers. -/
theorem arr_whole0 : ∀ w : Fin 134, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | 18 => Memref.isWhole_whole _ | 19 => Memref.isWhole_whole _ | 20 => Memref.isWhole_whole _ | 21 => Memref.isWhole_whole _ | 22 => Memref.isWhole_whole _ | 23 => Memref.isWhole_whole _ | 24 => Memref.isWhole_whole _ | 25 => Memref.isWhole_whole _ | 26 => Memref.isWhole_whole _ | 27 => Memref.isWhole_whole _ | 28 => Memref.isWhole_whole _ | 29 => Memref.isWhole_whole _ | 30 => Memref.isWhole_whole _ | 31 => Memref.isWhole_whole _ | 32 => Memref.isWhole_whole _ | 33 => Memref.isWhole_whole _ | 34 => Memref.isWhole_whole _ | 35 => Memref.isWhole_whole _ | 36 => Memref.isWhole_whole _ | 37 => Memref.isWhole_whole _ | 38 => Memref.isWhole_whole _ | 39 => Memref.isWhole_whole _ | 40 => Memref.isWhole_whole _ | 41 => Memref.isWhole_whole _ | 42 => Memref.isWhole_whole _ | 43 => Memref.isWhole_whole _ | 44 => Memref.isWhole_whole _ | 45 => Memref.isWhole_whole _ | 46 => Memref.isWhole_whole _ | 47 => Memref.isWhole_whole _ | 48 => Memref.isWhole_whole _ | 49 => Memref.isWhole_whole _ | 50 => Memref.isWhole_whole _ | 51 => Memref.isWhole_whole _ | 52 => Memref.isWhole_whole _ | 53 => Memref.isWhole_whole _ | 54 => Memref.isWhole_whole _ | 55 => Memref.isWhole_whole _ | 56 => Memref.isWhole_whole _ | 57 => Memref.isWhole_whole _ | 58 => Memref.isWhole_whole _ | 59 => Memref.isWhole_whole _ | 60 => Memref.isWhole_whole _ | 61 => Memref.isWhole_whole _ | 62 => Memref.isWhole_whole _ | 63 => Memref.isWhole_whole _ | 64 => Memref.isWhole_whole _ | 65 => Memref.isWhole_whole _ | 66 => Memref.isWhole_whole _ | 67 => Memref.isWhole_whole _ | 68 => Memref.isWhole_whole _ | 69 => Memref.isWhole_whole _ | 70 => Memref.isWhole_whole _ | 71 => Memref.isWhole_whole _ | 72 => Memref.isWhole_whole _ | 73 => Memref.isWhole_whole _ | 74 => Memref.isWhole_whole _ | 75 => Memref.isWhole_whole _ | 76 => Memref.isWhole_whole _ | 77 => Memref.isWhole_whole _ | 78 => Memref.isWhole_whole _ | 79 => Memref.isWhole_whole _ | 80 => Memref.isWhole_whole _ | 81 => Memref.isWhole_whole _ | 82 => Memref.isWhole_whole _ | 83 => Memref.isWhole_whole _ | 84 => Memref.isWhole_whole _ | 85 => Memref.isWhole_whole _ | 86 => Memref.isWhole_whole _ | 87 => Memref.isWhole_whole _ | 88 => Memref.isWhole_whole _ | 89 => Memref.isWhole_whole _ | 90 => Memref.isWhole_whole _ | 91 => Memref.isWhole_whole _ | 92 => Memref.isWhole_whole _ | 93 => Memref.isWhole_whole _ | 94 => Memref.isWhole_whole _ | 95 => Memref.isWhole_whole _ | 96 => Memref.isWhole_whole _ | 97 => Memref.isWhole_whole _ | 98 => Memref.isWhole_whole _ | 99 => Memref.isWhole_whole _ | 100 => Memref.isWhole_whole _ | 101 => Memref.isWhole_whole _ | 102 => Memref.isWhole_whole _ | 103 => Memref.isWhole_whole _ | 104 => Memref.isWhole_whole _ | 105 => Memref.isWhole_whole _ | 106 => Memref.isWhole_whole _ | 107 => Memref.isWhole_whole _ | 108 => Memref.isWhole_whole _ | 109 => Memref.isWhole_whole _ | 110 => Memref.isWhole_whole _ | 111 => Memref.isWhole_whole _ | 112 => Memref.isWhole_whole _ | 113 => Memref.isWhole_whole _ | 114 => Memref.isWhole_whole _ | 115 => Memref.isWhole_whole _ | 116 => Memref.isWhole_whole _ | 117 => Memref.isWhole_whole _ | 118 => Memref.isWhole_whole _ | 119 => Memref.isWhole_whole _ | 120 => Memref.isWhole_whole _ | 121 => Memref.isWhole_whole _ | 122 => Memref.isWhole_whole _ | 123 => Memref.isWhole_whole _ | 124 => Memref.isWhole_whole _ | 125 => Memref.isWhole_whole _ | 126 => Memref.isWhole_whole _ | 127 => Memref.isWhole_whole _ | 128 => Memref.isWhole_whole _ | 129 => Memref.isWhole_whole _ | 130 => Memref.isWhole_whole _ | 131 => Memref.isWhole_whole _ | 132 => Memref.isWhole_whole _ | 133 => Memref.isWhole_whole _ | ⟨_ + 134, h⟩ => absurd h (Nat.not_lt.2 (Nat.le_add_left _ _))
set_option maxHeartbeats 20000000 in
theorem stage_whole0 : ∀ (w : Fin 134) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | 7 => fun s => hstage0_7 (s.cast nbuf0_7) | 8 => fun s => hstage0_8 (s.cast nbuf0_8) | 9 => fun s => hstage0_9 (s.cast nbuf0_9) | 10 => fun s => hstage0_10 (s.cast nbuf0_10) | 11 => fun s => hstage0_11 (s.cast nbuf0_11) | 12 => fun s => hstage0_12 (s.cast nbuf0_12) | 13 => fun s => hstage0_13 (s.cast nbuf0_13) | 14 => fun s => hstage0_14 (s.cast nbuf0_14) | 15 => fun s => hstage0_15 (s.cast nbuf0_15) | 16 => fun s => hstage0_16 (s.cast nbuf0_16) | 17 => fun s => hstage0_17 (s.cast nbuf0_17) | 18 => fun s => hstage0_18 (s.cast nbuf0_18) | 19 => fun s => hstage0_19 (s.cast nbuf0_19) | 20 => fun s => hstage0_20 (s.cast nbuf0_20) | 21 => fun s => hstage0_21 (s.cast nbuf0_21) | 22 => fun s => hstage0_22 (s.cast nbuf0_22) | 23 => fun s => hstage0_23 (s.cast nbuf0_23) | 24 => fun s => hstage0_24 (s.cast nbuf0_24) | 25 => fun s => hstage0_25 (s.cast nbuf0_25) | 26 => fun s => hstage0_26 (s.cast nbuf0_26) | 27 => fun s => hstage0_27 (s.cast nbuf0_27) | 28 => fun s => hstage0_28 (s.cast nbuf0_28) | 29 => fun s => hstage0_29 (s.cast nbuf0_29) | 30 => fun s => hstage0_30 (s.cast nbuf0_30) | 31 => fun s => hstage0_31 (s.cast nbuf0_31) | 32 => fun s => hstage0_32 (s.cast nbuf0_32) | 33 => fun s => hstage0_33 (s.cast nbuf0_33) | 34 => fun s => hstage0_34 (s.cast nbuf0_34) | 35 => fun s => hstage0_35 (s.cast nbuf0_35) | 36 => fun s => hstage0_36 (s.cast nbuf0_36) | 37 => fun s => hstage0_37 (s.cast nbuf0_37) | 38 => fun s => hstage0_38 (s.cast nbuf0_38) | 39 => fun s => hstage0_39 (s.cast nbuf0_39) | 40 => fun s => hstage0_40 (s.cast nbuf0_40) | 41 => fun s => hstage0_41 (s.cast nbuf0_41) | 42 => fun s => hstage0_42 (s.cast nbuf0_42) | 43 => fun s => hstage0_43 (s.cast nbuf0_43) | 44 => fun s => hstage0_44 (s.cast nbuf0_44) | 45 => fun s => hstage0_45 (s.cast nbuf0_45) | 46 => fun s => hstage0_46 (s.cast nbuf0_46) | 47 => fun s => hstage0_47 (s.cast nbuf0_47) | 48 => fun s => hstage0_48 (s.cast nbuf0_48) | 49 => fun s => hstage0_49 (s.cast nbuf0_49) | 50 => fun s => hstage0_50 (s.cast nbuf0_50) | 51 => fun s => hstage0_51 (s.cast nbuf0_51) | 52 => fun s => hstage0_52 (s.cast nbuf0_52) | 53 => fun s => hstage0_53 (s.cast nbuf0_53) | 54 => fun s => hstage0_54 (s.cast nbuf0_54) | 55 => fun s => hstage0_55 (s.cast nbuf0_55) | 56 => fun s => hstage0_56 (s.cast nbuf0_56) | 57 => fun s => hstage0_57 (s.cast nbuf0_57) | 58 => fun s => hstage0_58 (s.cast nbuf0_58) | 59 => fun s => hstage0_59 (s.cast nbuf0_59) | 60 => fun s => hstage0_60 (s.cast nbuf0_60) | 61 => fun s => hstage0_61 (s.cast nbuf0_61) | 62 => fun s => hstage0_62 (s.cast nbuf0_62) | 63 => fun s => hstage0_63 (s.cast nbuf0_63) | 64 => fun s => hstage0_64 (s.cast nbuf0_64) | 65 => fun s => hstage0_65 (s.cast nbuf0_65) | 66 => fun s => hstage0_66 (s.cast nbuf0_66) | 67 => fun s => hstage0_67 (s.cast nbuf0_67) | 68 => fun s => hstage0_68 (s.cast nbuf0_68) | 69 => fun s => hstage0_69 (s.cast nbuf0_69) | 70 => fun s => hstage0_70 (s.cast nbuf0_70) | 71 => fun s => hstage0_71 (s.cast nbuf0_71) | 72 => fun s => hstage0_72 (s.cast nbuf0_72) | 73 => fun s => hstage0_73 (s.cast nbuf0_73) | 74 => fun s => hstage0_74 (s.cast nbuf0_74) | 75 => fun s => hstage0_75 (s.cast nbuf0_75) | 76 => fun s => hstage0_76 (s.cast nbuf0_76) | 77 => fun s => hstage0_77 (s.cast nbuf0_77) | 78 => fun s => hstage0_78 (s.cast nbuf0_78) | 79 => fun s => hstage0_79 (s.cast nbuf0_79) | 80 => fun s => hstage0_80 (s.cast nbuf0_80) | 81 => fun s => hstage0_81 (s.cast nbuf0_81) | 82 => fun s => hstage0_82 (s.cast nbuf0_82) | 83 => fun s => hstage0_83 (s.cast nbuf0_83) | 84 => fun s => hstage0_84 (s.cast nbuf0_84) | 85 => fun s => hstage0_85 (s.cast nbuf0_85) | 86 => fun s => hstage0_86 (s.cast nbuf0_86) | 87 => fun s => hstage0_87 (s.cast nbuf0_87) | 88 => fun s => hstage0_88 (s.cast nbuf0_88) | 89 => fun s => hstage0_89 (s.cast nbuf0_89) | 90 => fun s => hstage0_90 (s.cast nbuf0_90) | 91 => fun s => hstage0_91 (s.cast nbuf0_91) | 92 => fun s => hstage0_92 (s.cast nbuf0_92) | 93 => fun s => hstage0_93 (s.cast nbuf0_93) | 94 => fun s => hstage0_94 (s.cast nbuf0_94) | 95 => fun s => hstage0_95 (s.cast nbuf0_95) | 96 => fun s => hstage0_96 (s.cast nbuf0_96) | 97 => fun s => hstage0_97 (s.cast nbuf0_97) | 98 => fun s => hstage0_98 (s.cast nbuf0_98) | 99 => fun s => hstage0_99 (s.cast nbuf0_99) | 100 => fun s => hstage0_100 (s.cast nbuf0_100) | 101 => fun s => hstage0_101 (s.cast nbuf0_101) | 102 => fun s => hstage0_102 (s.cast nbuf0_102) | 103 => fun s => hstage0_103 (s.cast nbuf0_103) | 104 => fun s => hstage0_104 (s.cast nbuf0_104) | 105 => fun s => hstage0_105 (s.cast nbuf0_105) | 106 => fun s => hstage0_106 (s.cast nbuf0_106) | 107 => fun s => hstage0_107 (s.cast nbuf0_107) | 108 => fun s => hstage0_108 (s.cast nbuf0_108) | 109 => fun s => hstage0_109 (s.cast nbuf0_109) | 110 => fun s => hstage0_110 (s.cast nbuf0_110) | 111 => fun s => hstage0_111 (s.cast nbuf0_111) | 112 => fun s => hstage0_112 (s.cast nbuf0_112) | 113 => fun s => hstage0_113 (s.cast nbuf0_113) | 114 => fun s => hstage0_114 (s.cast nbuf0_114) | 115 => fun s => hstage0_115 (s.cast nbuf0_115) | 116 => fun s => hstage0_116 (s.cast nbuf0_116) | 117 => fun s => hstage0_117 (s.cast nbuf0_117) | 118 => fun s => hstage0_118 (s.cast nbuf0_118) | 119 => fun s => hstage0_119 (s.cast nbuf0_119) | 120 => fun s => hstage0_120 (s.cast nbuf0_120) | 121 => fun s => hstage0_121 (s.cast nbuf0_121) | 122 => fun s => hstage0_122 (s.cast nbuf0_122) | 123 => fun s => hstage0_123 (s.cast nbuf0_123) | 124 => fun s => hstage0_124 (s.cast nbuf0_124) | 125 => fun s => hstage0_125 (s.cast nbuf0_125) | 126 => fun s => hstage0_126 (s.cast nbuf0_126) | 127 => fun s => hstage0_127 (s.cast nbuf0_127) | 128 => fun s => hstage0_128 (s.cast nbuf0_128) | 129 => fun s => hstage0_129 (s.cast nbuf0_129) | 130 => fun s => hstage0_130 (s.cast nbuf0_130) | 131 => fun s => hstage0_131 (s.cast nbuf0_131) | 132 => fun s => hstage0_132 (s.cast nbuf0_132) | 133 => fun s => hstage0_133 (s.cast nbuf0_133) | ⟨_ + 134, h⟩ => absurd h (Nat.not_lt.2 (Nat.le_add_left _ _))
set_option maxHeartbeats 20000000 in
/-- The layout facts bundled, the input windows' sharing of arrays stated in place of their distinctness. -/
theorem launch₀0 : Pipeline.PLaunchFacts₀ (nD := nD) (τ := τ) (pcfgs (F := F)) 0 :=
  ⟨cellOf_inj, winFacts₀0, sharedIn0, preFacts0, block_pos0, arr_whole0, stage_whole0⟩

/-- The grid has 64 points. -/
theorem N_0 : grid0.N = 64 := by decide +kernel

set_option maxHeartbeats 20000000 in
/-- The core's scoped buffers that are no staging buffer of custom_call 0, each whole at some contents:
    none. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide +kernel) (by decide +kernel)

/-! ## @main as segments and as a chain of items (Lib/Pipeline/Regions.lean `θ_run_regions_kit`, `Pipeline.chain`) -/

/-- 1 host operation of @main, in order. -/
abbrev hostOps0 : List (HloOp τ sig (Elt F)) :=
  [ StableHlo.nullary main_c (constantI S_ 32 512#32) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  StableHlo.nullary_bufs_sub ..
/-- 21 host operations of @remainder (main_call0), in order. -/
abbrev hostOps0_1 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S2x2048, .i32⟩) (broadcastInDim S2x2048 ![] bcast_S_S2x2048),
    StableHlo.TRef.binary (.of main_arg3 : StableHlo.TRef sig ⟨S2x2048, .i32⟩) (.of main_call0_v3 : StableHlo.TRef sig ⟨S2x2048, .i32⟩) (.of main_call0_v4 : StableHlo.TRef sig ⟨S2x2048, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S2x2048, .i32⟩) (broadcastInDim S2x2048 ![] bcast_S_S2x2048),
    StableHlo.TRef.binary (.of main_call0_v4 : StableHlo.TRef sig ⟨S2x2048, .i32⟩) (.of main_call0_v5 : StableHlo.TRef sig ⟨S2x2048, .i32⟩) (.of main_call0_v6 : StableHlo.TRef sig ⟨S2x2048, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S2x2048, .i32⟩) (broadcastInDim S2x2048 ![] bcast_S_S2x2048),
    StableHlo.TRef.binary (.of main_call0_v4 : StableHlo.TRef sig ⟨S2x2048, .i32⟩) (.of main_call0_v7 : StableHlo.TRef sig ⟨S2x2048, .i32⟩) (.of main_call0_v8 : StableHlo.TRef sig ⟨S2x2048, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S2x2048, .i1⟩) (broadcastInDim S2x2048 ![] bcast_S_S2x2048),
    StableHlo.TRef.binary (.of main_call0_v8 : StableHlo.TRef sig ⟨S2x2048, .i1⟩) (.of main_call0_v10 : StableHlo.TRef sig ⟨S2x2048, .i1⟩) (.of main_call0_v11 : StableHlo.TRef sig ⟨S2x2048, .i1⟩) (cmpi .ne),
    StableHlo.TRef.binary (.of main_call0_v11 : StableHlo.TRef sig ⟨S2x2048, .i1⟩) (.of main_call0_v6 : StableHlo.TRef sig ⟨S2x2048, .i1⟩) (.of main_call0_v12 : StableHlo.TRef sig ⟨S2x2048, .i1⟩) andi,
    StableHlo.TRef.unary main_call0_call0.v0 (.of main_call0_v13 : StableHlo.TRef sig ⟨S2x2048, .i32⟩) (broadcastInDim S2x2048 ![] bcast_S_S2x2048),
    StableHlo.TRef.binary (.of main_call0_v4 : StableHlo.TRef sig ⟨S2x2048, .i32⟩) (.of main_call0_v13 : StableHlo.TRef sig ⟨S2x2048, .i32⟩) (.of main_call0_v14 : StableHlo.TRef sig ⟨S2x2048, .i32⟩) addi,
    StableHlo.TRef.ternary (.of main_call0_v12 : StableHlo.TRef sig ⟨S2x2048, .i1⟩) (.of main_call0_v14 : StableHlo.TRef sig ⟨S2x2048, .i32⟩) (.of main_call0_v4 : StableHlo.TRef sig ⟨S2x2048, .i32⟩) (.of main_v0 : StableHlo.TRef sig ⟨S2x2048, .i32⟩) select ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 5 host operations of @main, in order. -/
abbrev hostOps0_2 : List (HloOp τ sig (Elt F)) :=
  [ StableHlo.reshape main_v0 main_v1 (rfl : (.i32 : EltTy) = .i32) shapeCasts_S2x2048_S4096,
    StableHlo.reshape main_arg3 main_v2 (rfl : (.i32 : EltTy) = .i32) shapeCasts_S2x2048_S4096,
    StableHlo.reshape main_arg5 main_v3 (rfl : (.i32 : EltTy) = .i32) shapeCasts_S2x16384_S1024x32,
    StableHlo.reshape main_arg0 main_v4 (rfl : (.f32 : EltTy) = .f32) shapeCasts_S2x2048x1024_S2x32x64x1024,
    StableHlo.reshape main_arg3 main_v5 (rfl : (.i32 : EltTy) = .i32) shapeCasts_S2x2048_S2x32x64x1 ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub .., StableHlo.reshape_bufs_sub ..⟩
/-- 4 host operations of @main, in order. -/
abbrev hostOps1 : List (HloOp τ sig (Elt F)) :=
  [ StableHlo.reshape main_v6_0 main_v7 (rfl : (.f32 : EltTy) = .f32) shapeCasts_S2x32x64x1024_S2x2048x1024,
    StableHlo.unary main_v6_1 main_v8 ((extractStridedSlice S2x32x64x1 ![0, 0, 0, 0] · slices_S2x32x64x128_S2x32x64x1_0_0_0_0) : (⟨S2x32x64x128, .f32⟩ : BufTy).Contents (Elt F) → (⟨S2x32x64x1, .f32⟩ : BufTy).Contents (Elt F)),
    StableHlo.reshape main_v8 main_v9 (rfl : (.f32 : EltTy) = .f32) shapeCasts_S2x32x64x1_S2x32x64,
    StableHlo.reshape main_v9 main_v10 (rfl : (.f32 : EltTy) = .f32) shapeCasts_S2x32x64_S2x2048 ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.reshape_bufs_sub .., StableHlo.unary_bufs_sub .., StableHlo.reshape_bufs_sub .., StableHlo.reshape_bufs_sub ..⟩
set_option maxHeartbeats 20000000 in
/-- `main` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem main_chain (c : Dev nD) : main (F := F) c = (Pipeline.chain
  [ StableHlo.seq hostOps0,
    StableHlo.seq hostOps0_1,
    StableHlo.seq hostOps0_2,
    Prog.lift (.customCall (Pipeline.entry 0) ()),
    StableHlo.seq hostOps1 ] : Prog (TpuEff nD τ sig (Elt F) (Pipeline.Sig Λ₀ (Fin 1) fun p => (pcfgs (F := F) p).Adm) .tc) PUnit) := by
  rewrite [StableHlo.chain_seq_cons, Pipeline.chain_cons, StableHlo.chain_seq_cons, Pipeline.chain_cons, StableHlo.chain_seq_cons]
  chain_rfl

end Cert.KernelIdeal.Kit

end
-- ==== Proof.Steps.KernelIdealHost.lean ====
/- The host operations round the call: the buffers they leave as functions of the arguments, and the bounds on the
   table of buckets. -/
module

public import proofs.«01_k».proof.Proof.Steps.KernelIdealKit
public import proofs.«01_k».proof.Proof.Steps.Words
public import Idealize.ShloMosaic.Lib.StableHlo.ReadAt

@[expose] public section

set_option maxRecDepth 65536

noncomputable section

namespace Cert.KernelIdeal.Host

open Cert.KernelIdeal.Gen Cert.KernelIdeal.Kit
open Idealize.ShloMosaic Idealize.ShloMosaic.TcCoe

variable {F : FTy → Type} [FloatOps F] [Named F]

/-- What a buffer holds when the call starts, from the contents `V` before the host operations. -/
abbrev pre (V : Valuation τ sig (Elt F)) : Valuation τ sig (Elt F) := StableHlo.after (List.flatten [hostOps0, hostOps0_1, hostOps0_2]) V

/-- The table of buckets. -/
theorem pre_v1 (V : Valuation τ sig (Elt F)) :
    pre V (Proc.devRef .tc main_v1) = shapeCast S4096 (fun x => Steps.bucket ((V (Proc.devRef .tc main_arg3) : S2x2048.Idx → BitVec 32) x)) shapeCasts_S2x2048_S4096 := by
  unfold pre
  simp only [List.flatten_cons, List.flatten_nil, List.append_nil, List.cons_append, List.nil_append, hostOps0, hostOps0_1, hostOps0_2]
  after_reads_simp
  simp -implicitDefEqProofs only [StableHlo.TRef.toBuf, StableHlo.TRef.ofBuf, cast_cast, cast_eq]
  refine congrArg (shapeCast S4096 · shapeCasts_S2x2048_S4096) (funext fun x => ?_)
  exact Steps.bucket_word _

/-- The slots' identifiers, a bucket in a row. -/
theorem pre_v3 (V : Valuation τ sig (Elt F)) :
    pre V (Proc.devRef .tc main_v3) = shapeCast S1024x32 (V (Proc.devRef .tc main_arg5) : S2x16384.Idx → BitVec 32) shapeCasts_S2x16384_S1024x32 := by
  unfold pre
  simp only [List.flatten_cons, List.flatten_nil, List.append_nil, List.cons_append, List.nil_append, hostOps0, hostOps0_1, hostOps0_2]
  after_reads_simp
  rfl

/-- The queries, block by block. -/
theorem pre_v4 (V : Valuation τ sig (Elt F)) :
    pre V (Proc.devRef .tc main_v4) = shapeCast S2x32x64x1024 (V (Proc.devRef .tc main_arg0) : S2x2048x1024.Idx → F .f32) shapeCasts_S2x2048x1024_S2x32x64x1024 := by
  unfold pre
  simp only [List.flatten_cons, List.flatten_nil, List.append_nil, List.cons_append, List.nil_append, hostOps0, hostOps0_1, hostOps0_2]
  after_reads_simp
  rfl

/-- The tokens' identifiers, block by block. -/
theorem pre_v5 (V : Valuation τ sig (Elt F)) :
    pre V (Proc.devRef .tc main_v5) = shapeCast S2x32x64x1 (V (Proc.devRef .tc main_arg3) : S2x2048.Idx → BitVec 32) shapeCasts_S2x2048_S2x32x64x1 := by
  unfold pre
  simp only [List.flatten_cons, List.flatten_nil, List.append_nil, List.cons_append, List.nil_append, hostOps0, hostOps0_1, hostOps0_2]
  after_reads_simp
  rfl

/-- A buffer that no operation before the call writes holds what it held. -/
theorem pre_arg (V : Valuation τ sig (Elt F)) (b : Ref sig .tc)
    (hb : b = main_arg0 ∨ b = main_arg1 ∨ b = main_arg2 ∨ b = main_arg3 ∨ b = main_arg4 ∨ b = main_arg5) :
    pre V (Proc.devRef .tc b) = V (Proc.devRef .tc b) := by
  unfold pre
  simp only [List.flatten_cons, List.flatten_nil, List.append_nil, List.cons_append, List.nil_append, hostOps0, hostOps0_1, hostOps0_2]
  rcases hb with rfl | rfl | rfl | rfl | rfl | rfl <;> after_reads_simp

/-! ## Bounds -/

/-- The batch row of a point. -/
def rowW (i : grid0.Coords) : BitVec 32 :=
  Scalar.select (Scalar.andi (Scalar.cmpi .ne
      (Scalar.subi (Scalar.extui (Scalar.cmpi .sgt (BitVec.ofNat 32 (i 0).val) 0#32)) (Scalar.extui (Scalar.cmpi .slt (BitVec.ofNat 32 (i 0).val) 0#32)))
      (Scalar.subi (Scalar.extui (Scalar.cmpi .sgt 32#32 0#32)) (Scalar.extui (Scalar.cmpi .slt 32#32 0#32))))
    (Scalar.cmpi .ne (Scalar.remsi (BitVec.ofNat 32 (i 0).val) 32#32) 0#32))
    (Scalar.subi (Scalar.divsi (BitVec.ofNat 32 (i 0).val) 32#32) 1#32) (Scalar.divsi (BitVec.ofNat 32 (i 0).val) 32#32)

theorem rowW_eq : ∀ i : grid0.Coords, rowW i = BitVec.ofNat 32 ((i 0).val / 32) := by decide +kernel

theorem row_lt (i : grid0.Coords) : (i 0).val / 32 < 2 := by
  have : (i 0).val < 64 := (i 0).isLt
  omega

theorem rowW_toNat (i : grid0.Coords) : (rowW i).toNat = (i 0).val / 32 := by
  rw [rowW_eq, BitVec.toNat_ofNat]
  have := row_lt i
  omega

/-- The offset of a bucket's row among the slots' identifiers. -/
theorem srow_off (i : grid0.Coords) (v : BitVec 32) (hv : v.toNat < 512) : k0_off130 i v 0 = (i 0).val / 32 * 512 + v.toNat := by
  show (rowW i * 512#32 + v).toNat = _
  have := row_lt i
  rw [BitVec.toNat_add, BitVec.toNat_mul, rowW_toNat]
  show (_ * 512 % _ + _) % _ = _
  omega

theorem chkA (v : BitVec 32) (hv : v.toNat < 512) : k0_chk1 v := by
  intro a
  match a with
  | ⟨0, _⟩ => show v.toNat + 1 ≤ 512; omega
  | ⟨1, _⟩ => show 0 + 1024 ≤ 1024; omega

theorem chkS (i : grid0.Coords) (v : BitVec 32) (hv : v.toNat < 512) : k0_chk65 i v := by
  intro a
  match a with
  | ⟨0, _⟩ =>
    have h := srow_off i v hv
    have := row_lt i
    show k0_off130 i v 0 + 1 ≤ 1024
    omega
  | ⟨1, _⟩ => show 0 + 32 ≤ 32; omega

/-- The block of keys and values of the block's token `j`: the batch row, and the bucket that the table holds. -/
def kvIx (pf : pre0.Contents (Elt F)) (i : grid0.Coords) (j : Fin 64) : Fin 3 → Nat :=
  ![(rowW i).toNat, (pf.at 0 (Rect.unit (s := S4096) (k0_off1 i (BitVec.ofNat 32 j.val)) S1.size (k0_off1_inb i j)) numel1_S1).toNat, 0]

theorem kvOk (pf : pre0.Contents (Elt F)) (hpf : ∀ x, (pf 0 x : BitVec 32).toNat < 512) (j : Fin 64) (i : grid0.Coords) :
    ∃ h : (∀ a, (kvIx pf i j a + 1) * S1x32x1024.size a ≤ S2x16384x1024.size a),
      EltTy.bits .f32 = 32 ∨ (Rect.block (s := S2x16384x1024) S1x32x1024.size (kvIx pf i j) h).WholeWords (EltTy.packing .f32) := by
  refine ⟨fun a => ?_, .inl rfl⟩
  match a with
  | ⟨0, _⟩ =>
    have h := rowW_toNat i
    have := row_lt i
    show ((rowW i).toNat + 1) * 1 ≤ 2
    omega
  | ⟨1, _⟩ =>
    have := hpf ((Rect.unit (s := S4096) (k0_off1 i (BitVec.ofNat 32 j.val)) S1.size (k0_off1_inb i j)).idx (Shape.Idx.first (numel1_S1.symm ▸ Nat.one_pos)))
    show ((pf 0 ((Rect.unit (s := S4096) (k0_off1 i (BitVec.ofNat 32 j.val)) S1.size (k0_off1_inb i j)).idx (Shape.Idx.first (numel1_S1.symm ▸ Nat.one_pos))) : BitVec 32).toNat + 1) * 32 ≤ 16384
    omega
  | ⟨2, _⟩ => show (0 + 1) * 1024 ≤ 1024; omega

set_option maxHeartbeats 4000000 in
theorem okOf (pf : pre0.Contents (Elt F)) (hpf : ∀ x, (pf 0 x : BitVec 32).toNat < 512) : ok0 pf :=
  ⟨kvOk pf hpf 0, kvOk pf hpf 1, kvOk pf hpf 2, kvOk pf hpf 3, kvOk pf hpf 4, kvOk pf hpf 5, kvOk pf hpf 6, kvOk pf hpf 7, kvOk pf hpf 8, kvOk pf hpf 9, kvOk pf hpf 10, kvOk pf hpf 11, kvOk pf hpf 12, kvOk pf hpf 13, kvOk pf hpf 14, kvOk pf hpf 15, kvOk pf hpf 16, kvOk pf hpf 17, kvOk pf hpf 18, kvOk pf hpf 19, kvOk pf hpf 20, kvOk pf hpf 21, kvOk pf hpf 22, kvOk pf hpf 23, kvOk pf hpf 24, kvOk pf hpf 25, kvOk pf hpf 26, kvOk pf hpf 27, kvOk pf hpf 28, kvOk pf hpf 29, kvOk pf hpf 30, kvOk pf hpf 31, kvOk pf hpf 32, kvOk pf hpf 33, kvOk pf hpf 34, kvOk pf hpf 35, kvOk pf hpf 36, kvOk pf hpf 37, kvOk pf hpf 38, kvOk pf hpf 39, kvOk pf hpf 40, kvOk pf hpf 41, kvOk pf hpf 42, kvOk pf hpf 43, kvOk pf hpf 44, kvOk pf hpf 45, kvOk pf hpf 46, kvOk pf hpf 47, kvOk pf hpf 48, kvOk pf hpf 49, kvOk pf hpf 50, kvOk pf hpf 51, kvOk pf hpf 52, kvOk pf hpf 53, kvOk pf hpf 54, kvOk pf hpf 55, kvOk pf hpf 56, kvOk pf hpf 57, kvOk pf hpf 58, kvOk pf hpf 59, kvOk pf hpf 60, kvOk pf hpf 61, kvOk pf hpf 62, kvOk pf hpf 63, kvOk pf hpf 0, kvOk pf hpf 1, kvOk pf hpf 2, kvOk pf hpf 3, kvOk pf hpf 4, kvOk pf hpf 5, kvOk pf hpf 6, kvOk pf hpf 7, kvOk pf hpf 8, kvOk pf hpf 9, kvOk pf hpf 10, kvOk pf hpf 11, kvOk pf hpf 12, kvOk pf hpf 13, kvOk pf hpf 14, kvOk pf hpf 15, kvOk pf hpf 16, kvOk pf hpf 17, kvOk pf hpf 18, kvOk pf hpf 19, kvOk pf hpf 20, kvOk pf hpf 21, kvOk pf hpf 22, kvOk pf hpf 23, kvOk pf hpf 24, kvOk pf hpf 25, kvOk pf hpf 26, kvOk pf hpf 27, kvOk pf hpf 28, kvOk pf hpf 29, kvOk pf hpf 30, kvOk pf hpf 31, kvOk pf hpf 32, kvOk pf hpf 33, kvOk pf hpf 34, kvOk pf hpf 35, kvOk pf hpf 36, kvOk pf hpf 37, kvOk pf hpf 38, kvOk pf hpf 39, kvOk pf hpf 40, kvOk pf hpf 41, kvOk pf hpf 42, kvOk pf hpf 43, kvOk pf hpf 44, kvOk pf hpf 45, kvOk pf hpf 46, kvOk pf hpf 47, kvOk pf hpf 48, kvOk pf hpf 49, kvOk pf hpf 50, kvOk pf hpf 51, kvOk pf hpf 52, kvOk pf hpf 53, kvOk pf hpf 54, kvOk pf hpf 55, kvOk pf hpf 56, kvOk pf hpf 57, kvOk pf hpf 58, kvOk pf hpf 59, kvOk pf hpf 60, kvOk pf hpf 61, kvOk pf hpf 62, kvOk pf hpf 63⟩

end Cert.KernelIdeal.Host

end
-- ==== Proof.Steps.KernelIdealEntry.lean ====
/- The region's entry: what the buffers hold when the call starts and the tables read off them, the body of @main as
   host operations, the call and host operations, and that the later operations touch no array of the call. -/
module

public import proofs.«01_k».proof.Proof.Steps.KernelIdealHost
public import Idealize.ShloMosaic.Lib.Pipeline.FrameBody
public import Idealize.ShloMosaic.Lib.Pipeline.FrameSuffix

@[expose] public section

set_option maxRecDepth 65536

noncomputable section

namespace Cert.KernelIdeal.Entry

open Cert.KernelIdeal.Gen Cert.KernelIdeal.Kit
open Idealize.ShloMosaic Idealize.ShloMosaic.TcCoe
open Idealize.SL Idealize.SL.RA Idealize.SL.BI
open scoped Idealize.SL.BI
open Idealize.ShloMosaic.Rounds
open Idealize.ShloMosaic.Pipeline (Dat Cfg Window BodyObligation cellOf)

variable {F : FTy → Type} [FloatOps F] [Named F]

variable (m : (ℓ : Loc nD τ sig) → Buf (Elt F) ℓ)

/-- What the buffers hold when the call starts. -/
abbrev V0 (c : Dev nD) : Valuation τ sig (Elt F) := Host.pre (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 4000000 in
/-- @main is the host operations before, the call, and the host operations after. -/
theorem hmain (𝒱₀ : Variants) : Pipeline.HMainPK (Ix := Unit) (Name := ℕ) (U := UR sig nD τ) (Lvl := ℕ) pcfgs 0 defs₀ 𝒱₀ m
    (main (F := F)) (V m) (fun _ => Pipeline.chain ([hostOps1].map StableHlo.seq)) :=
  Pipeline.hmainP_around pcfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The results' buffers are no table and no array of the call. -/
theorem res_ne_pre : ∀ k, (pre0.ref k : Ref sig .tc) ≠ main_v6_0 ∧ (pre0.ref k : Ref sig .tc) ≠ main_v6_1 ∧ (pre0.ref k : Ref sig .tc) ≠ main_v7
    ∧ (pre0.ref k : Ref sig .tc) ≠ main_v8 ∧ (pre0.ref k : Ref sig .tc) ≠ main_v9 ∧ (pre0.ref k : Ref sig .tc) ≠ main_v10 := by decide +kernel
theorem res_ne_arr : ∀ w, Pipeline.arrRef spec0 w ≠ main_v7
    ∧ Pipeline.arrRef spec0 w ≠ main_v8 ∧ Pipeline.arrRef spec0 w ≠ main_v9 ∧ Pipeline.arrRef spec0 w ≠ main_v10 := by decide +kernel

theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  intro j
  obtain ⟨h1, h2, h3, h4, h5, h6⟩ := res_ne_pre j
  rcases hop with rfl | rfl | rfl | rfl <;>
    simp only [StableHlo.unary_bufs, StableHlo.reshape_bufs, Finset.mem_insert, Finset.mem_singleton, not_or] <;>
    and_intros <;> exact StableHlo.devRef_ne_of_ne (by assumption)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  simp only [hostOps1, List.mem_cons, List.mem_nil_iff, or_false] at hop
  obtain ⟨h1, h2, h3, h4⟩ := res_ne_arr w
  rcases hop with rfl | rfl | rfl | rfl <;>
    simp only [StableHlo.unary_writes, StableHlo.reshape_writes, Finset.mem_singleton] <;>
    exact StableHlo.devRef_ne_of_ne (by assumption)

/-- The arguments are as launched. -/
theorem V_arg (c : Dev nD) (b : Ref sig .tc)
    (hb : b = main_arg0 ∨ b = main_arg1 ∨ b = main_arg2 ∨ b = main_arg3 ∨ b = main_arg4 ∨ b = main_arg5) :
    V m c b = m ((c : Thread nD τ).loc b) := Host.pre_arg _ b hb

/-! ## The tables -/

/-- The tables' contents when the call starts. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every entry of the table of buckets is a bucket. -/
theorem tbl_lt (x) : (tbl m 0 x : BitVec 32).toNat < 512 := by
  have h : (tbl m 0 : S4096.Idx → BitVec 32) = _ := Host.pre_v1 (fun b => m ((0 : Dev nD), b))
  rw [show tbl m 0 x = _ from congrFun h x]
  exact Steps.bucket_lt _

theorem ok : ok0 (F := F) (tbl m) := Host.okOf _ (tbl_lt m)

abbrev adm : (pcfg0 (F := F)).Adm := ⟨tbl m, ok m⟩
abbrev cfgM : Pipeline.Cfg sig Λ₀ := cfg0 (adm m)

/-! ## After the call -/

/-- The arguments that the call stages in no window end as launched. -/
theorem W_arg (dats : (p : Fin _) → (c : Dev nD) → Dat τ (Elt F) Unit ℕ (UR sig nD τ) ℕ ((Pipeline.pin pcfgs fun _ => adm m) p) c) (c : Dev nD)
    (b : Ref sig .tc) (hb : b = main_arg0 ∨ b = main_arg3 ∨ b = main_arg5) :
    Pipeline.afterTail pcfgs (fun _ => adm m) dats 0 (V0 m) [hostOps1] c b = m ((c : Thread nD τ).loc b) := by
  have h1 : b ≠ main_v7 ∧ b ≠ main_v8 ∧ b ≠ main_v9 ∧ b ≠ main_v10 := by
    rcases hb with rfl | rfl | rfl <;> decide +kernel
  have h2 : ∀ w, Pipeline.arrRef spec0 w ≠ b := by
    rcases hb with rfl | rfl | rfl <;> decide +kernel
  have h3 : V m c b = m ((c : Thread nD τ).loc b) := V_arg m c b (by tauto)
  unfold Pipeline.afterTail
  rw [StableHlo.after_of_forall_not_mem (b := Proc.devRef .tc b) _ _ (List.forall_iff_forall_mem.mp (by
      obtain ⟨e1, e2, e3, e4⟩ := h1
      simp only [hostOps1, List.flatten_cons, List.flatten_nil, List.append_nil, List.cons_append, List.nil_append,
        List.Forall, StableHlo.unary_writes, StableHlo.reshape_writes, Finset.mem_singleton]
      and_intros <;> exact StableHlo.devRef_ne_of_ne (by assumption))),
    Pipeline.withArrays_of_ne _ c (V0 m c) _ b h2]
  exact h3

end Cert.KernelIdeal.Entry

end
-- ==== Proof.Steps.KernelIdealBody.lean ====
/- The kernel's body on any staging memrefs: what it stores, as functions of the blocks it reads and of the table of
   buckets, and the body's triple. -/
module

public import proofs.«01_k».proof.Proof.Gen.KernelIdeal
public import proofs.«01_k».proof.Proof.Gen.KernelIdeal.Skeleton
public import proofs.«01_k».proof.Proof.Steps.Rules

@[expose] public section

set_option maxRecDepth 65536

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the body computes -/

/-- The bucket of the block's token `j` at point `i`. -/
def word (T : Vec F S4096 .i32) (i : grid0.Coords) (j : Fin 64) : BitVec 32 :=
  T ((Rect.unit (s := S4096) (k0_off1 i (BitVec.ofNat 32 j.val)) S1.size (k0_off1_inb i j)).idx (Shape.Idx.first (numel1_S1.symm ▸ Nat.one_pos)))

/-- The codebook's row of that bucket. -/
def arow (T : Vec F S4096 .i32) (cb : Vec F S512x1024 .f32) (hA : ∀ y, k0_chk1 (T y)) (i : grid0.Coords) (j : Fin 64) : Vec F S1x1024 .f32 :=
  View.ld cb (Rect.unit (s := S512x1024) (k0_off2 (word T i j)) S1x1024.size (k0_off2_inb _ (hA _)))

/-- The slot identifiers' row of that bucket. -/
def srow (T : Vec F S4096 .i32) (st : Vec F S1024x32 .i32) (i : grid0.Coords) (hS : ∀ y, k0_chk65 i (T y)) (j : Fin 64) : Vec F S1x32 .i32 :=
  View.ld st (Rect.unit (s := S1024x32) (k0_off130 i (word T i j)) S1x32.size (k0_off130_inb _ _ (hS _)))

/-- One-row vectors put one under another. -/
def stack {e : EltTy} {n : ℕ} (f : Fin 64 → Vec F ⟨2, ![1, n]⟩ e)
    (h : Shape.Concatenates ((List.ofFn fun j => (⟨⟨2, ![1, n]⟩, f j⟩ : (s : Shape) × (s.Idx → Elt F e))).map (·.1)) ⟨2, ![64, n]⟩ 0) :
    Vec F ⟨2, ![64, n]⟩ e :=
  concatenate ⟨2, ![64, n]⟩ 0 (List.ofFn fun j => ⟨⟨2, ![1, n]⟩, f j⟩) h

theorem slicesD : ∀ j : Fin 64, S64x1024.Slices ![j.val, 0] S1x1024 := by decide +kernel
theorem slicesS : ∀ j : Fin 64, S64x32.Slices ![j.val, 0] S1x32 := by decide +kernel

/-- The rows of a block scaled to length one. -/
def unitV (x : FVec F S64x1024 .f32) : FVec F S64x1024 .f32 :=
  mulf x (broadcastTo S64x1024 (rsqrt (maximumf
    (shapeCast S64x1 (multiReduction .add [1] S64 (mulf x x) 0x00000000#32 reduces_S64x1024_S64 (.inl rfl) rfl) shapeCasts_S64_S64x1)
    (broadcast S64x1 (Named.named κ "eps_sq" 0x179ABE15#32)))) broadcasts_S64x1_S64x1024)

/-- The queries: half the unit query and half the anchor, scaled to length one. -/
def uqV (q : Vec F S1x1x64x1024 .f32) (A : FVec F S64x1024 .f32) : FVec F S64x1024 .f32 :=
  unitV (addf (mulf (broadcast S64x1024 (Scalar.ofBits .f32 0x3F000000#32)) (unitV (shapeCast S64x1024 q shapeCasts_S1x1x64x1024_S64x1024)))
    (mulf (broadcast S64x1024 (Scalar.ofBits .f32 0x3F000000#32)) A))

/-- Token `j`'s scores against its bucket's keys. -/
def scoreV (uq : FVec F S64x1024 .f32) (k : Fin 64 → Vec F S1x32x1024 .f32) (j : Fin 64) : FVec F S1x32 .f32 :=
  matmul dot_S1x1024_S32x1024_S1x32_1_1_0_0_n_n none (extractStridedSlice S1x1024 ![j.val, 0] uq (slicesD j))
    (shapeCast S32x1024 (k j) shapeCasts_S1x32x1024_S32x1024) (constant S1x32 .f32 0x00000000#32)

/-- The slots whose identifier is the token's, as ones. -/
def maskV (st : IVec S64x32 32) (tid : Vec F S1x1x64x1 .i32) : FVec F S64x32 .f32 :=
  sitofp .f32 (extui 32 (cmpi .eq st (broadcastTo S64x32 (shapeCast S64x1 tid shapeCasts_S1x1x64x1_S64x1) broadcasts_S64x1_S64x32)) natLt_1_32)

/-- Their number. -/
def msumV (mask : FVec F S64x32 .f32) : FVec F S64x1 .f32 :=
  shapeCast S64x1 (multiReduction .add [1] S64 mask 0x00000000#32 reduces_S64x32_S64 (.inl rfl) rfl) shapeCasts_S64_S64x1

/-- Whether there is one. -/
def matchV (mask : FVec F S64x32 .f32) : IVec S64x1 1 :=
  cmpf .ogt (msumV mask) (broadcast S64x1 (Scalar.ofBits .f32 0x00000000#32))

/-- The exponentials of the scores at the temperature, from their largest. -/
def expV (sc : FVec F S64x32 .f32) : FVec F S64x32 .f32 :=
  exp (subf (mulf sc (broadcast S64x32 (Scalar.ofBits .f32 0x41200000#32)))
    (broadcastTo S64x32 (shapeCast S64x1 (multiReduction .maximumf [1] S64 (mulf sc (broadcast S64x32 (Scalar.ofBits .f32 0x41200000#32))) 0xFF800000#32
      reduces_S64x32_S64 (.inl rfl) rfl) shapeCasts_S64_S64x1) broadcasts_S64x1_S64x32))

/-- The weights: the matching slots' where there is one, the softmax elsewhere. -/
def probsV (sc mask : FVec F S64x32 .f32) : FVec F S64x32 .f32 :=
  select (broadcastTo S64x32 (shapeCast S64x1 (matchV mask) shapeCasts_S64x1_S64x1) broadcasts_S64x1_S64x32)
    (divf mask (broadcastTo S64x32 (addf (msumV mask) (broadcast S64x1 (Scalar.ofBits .f32 0x3089705F#32))) broadcasts_S64x1_S64x32))
    (divf (expV sc) (broadcastTo S64x32 (shapeCast S64x1 (multiReduction .add [1] S64 (expV sc) 0x00000000#32
      reduces_S64x32_S64 (.inl rfl) rfl) shapeCasts_S64_S64x1) broadcasts_S64x1_S64x32))

/-- Token `j`'s weighted sum of its bucket's values. -/
def valV (pr : FVec F S64x32 .f32) (v : Fin 64 → Vec F S1x32x1024 .f32) (j : Fin 64) : FVec F S1x1024 .f32 :=
  matmul dot_S1x32_S32x1024_S1x1024_1_0_0_1_n_n none (extractStridedSlice S1x32 ![j.val, 0] pr (slicesS j))
    (shapeCast S32x1024 (v j) shapeCasts_S1x32x1024_S32x1024) (constant S1x1024 .f32 0x00000000#32)

/-- The block of similarities from the scores and the matches. -/
def simV (sc mask : FVec F S64x32 .f32) : FVec F S1x1x64x128 .f32 :=
  shapeCast S1x1x64x128 (mulf
    (broadcastTo S64x128 (select (matchV mask) (broadcast S64x1 (Scalar.ofBits .f32 0x41200000#32))
      (shapeCast S64x1 (multiReduction .maximumf [1] S64 sc 0xFF800000#32 reduces_S64x32_S64 (.inl rfl) rfl) shapeCasts_S64_S64x1)) broadcasts_S64x1_S64x128)
    (broadcastTo S64x128 (broadcast S1x128 (Scalar.ofBits .f32 0x3F800000#32)) broadcasts_S1x128_S64x128)) shapeCasts_S64x128_S1x1x64x128

/-- Rows of the block put together have the block's extents. -/
theorem catD (f : Fin 64 → Vec F S1x1024 .f32) :
    Shape.Concatenates ((List.ofFn fun j => (⟨S1x1024, f j⟩ : (s : Shape) × (s.Idx → F .f32))).map (·.1)) S64x1024 0 := by
  rw [show ((List.ofFn fun j => (⟨S1x1024, f j⟩ : (s : Shape) × (s.Idx → F .f32))).map (·.1)) = List.replicate 64 S1x1024 from by
    rw [List.map_ofFn]; exact List.ofFn_const 64 S1x1024]
  decide +kernel
theorem catS (f : Fin 64 → Vec F S1x32 .f32) :
    Shape.Concatenates ((List.ofFn fun j => (⟨S1x32, f j⟩ : (s : Shape) × (s.Idx → F .f32))).map (·.1)) S64x32 0 := by
  rw [show ((List.ofFn fun j => (⟨S1x32, f j⟩ : (s : Shape) × (s.Idx → F .f32))).map (·.1)) = List.replicate 64 S1x32 from by
    rw [List.map_ofFn]; exact List.ofFn_const 64 S1x32]
  decide +kernel
theorem catI (f : Fin 64 → Vec F S1x32 .i32) :
    Shape.Concatenates ((List.ofFn fun j => (⟨S1x32, f j⟩ : (s : Shape) × (s.Idx → BitVec 32))).map (·.1)) S64x32 0 := by
  rw [show ((List.ofFn fun j => (⟨S1x32, f j⟩ : (s : Shape) × (s.Idx → BitVec 32))).map (·.1)) = List.replicate 64 S1x32 from by
    rw [List.map_ofFn]; exact List.ofFn_const 64 S1x32]
  decide +kernel

/-- The block's scores. -/
def scoresV (q : Vec F S1x1x64x1024 .f32) (a : Fin 64 → Vec F S1x1024 .f32) (k : Fin 64 → Vec F S1x32x1024 .f32) : FVec F S64x32 .f32 :=
  stack (scoreV (uqV q (stack a (catD a))) k) (catS _)

/-- The block's matches. -/
def masksV (s : Fin 64 → Vec F S1x32 .i32) (tid : Vec F S1x1x64x1 .i32) : FVec F S64x32 .f32 :=
  maskV (stack (fun j => shapeCast S1x32 (s j) shapeCasts_S1x32_S1x32) (catI _)) tid

/-- The block of values. -/
def outV (sc mask : FVec F S64x32 .f32) (v : Fin 64 → Vec F S1x32x1024 .f32) : FVec F S1x1x64x1024 .f32 :=
  shapeCast S1x1x64x1024 (stack (valV (probsV sc mask) v) (catD _)) shapeCasts_S64x1024_S1x1x64x1024

/-! ## The triple -/

section Run
variable {defs : Defs nD τ sig (Elt F) Λ₀} {𝒱 : Variants} {c : Dev nD} {bd : Option 𝒱.V} {E : Set ℕ}

/-- A load of one word of a table. -/
theorem table_word {α : Type} {Q : α → sProp 𝕄} {P : sProp 𝕄} {M : Memref sig .tc .smem S4096 .i32} {x : Vec F S4096 .i32}
    (hR : Steps.Reads P (c : Thread nD τ) M x) {off : Fin 1 → ℕ} {inb : ∀ a, off a + S1.size a ≤ S4096.size a}
    {h1 : S1.numel = 1} {hw : (.i32 : EltTy).packing = (.i32 : EltTy).packing} {k : Elt F .i32 → Prog (TpuEff nD τ sig (Elt F) Λ₀ .tc) α}
    (h : P ⊢ wp frame (wpE defs 𝒱 (c : Thread nD τ) bd) E
      (k (x ((Rect.unit (s := S4096) off S1.size inb).idx (Shape.Idx.first (h1.symm ▸ Nat.one_pos))))) Q) :
    P ⊢ wp frame (wpE defs 𝒱 (c : Thread nD τ) bd) E (smemLoad M (Rect.unit (s := S4096) off S1.size inb) h1 hw >>= k) Q :=
  Steps.load_word hR h

set_option maxHeartbeats 40000000 in
/-- From buffers that hold the table, the blocks and the two outputs, the body stores the block's values and its
    similarities. -/
theorem run (i : grid0.Coords) {Rd : sProp 𝕄} {Q : PUnit → sProp 𝕄}
    {T1 T2 : Memref sig .tc .smem S4096 .i32} (hT1 : T1.IsWhole) (hT2 : T2.IsWhole)
    {q : Memref sig .tc .vmem S1x1x64x1024 .f32} (hq : q.IsWhole) {tid : Memref sig .tc .vmem S1x1x64x1 .i32} (htid : tid.IsWhole)
    {k v : Fin 64 → Memref sig .tc .vmem S1x32x1024 .f32} (hk : ∀ j, (k j).IsWhole) (hv : ∀ j, (v j).IsWhole)
    {cb : Memref sig .tc .vmem S512x1024 .f32} (hcb : cb.IsWhole) {st : Memref sig .tc .vmem S1024x32 .i32} (hst : st.IsWhole)
    {out : Memref sig .tc .vmem S1x1x64x1024 .f32} (hout : out.IsWhole) {sim : Memref sig .tc .vmem S1x1x64x128 .f32} (hsim : sim.IsWhole)
    {xT : Vec F S4096 .i32} {xq : Vec F S1x1x64x1024 .f32} {xtid : Vec F S1x1x64x1 .i32} {xk xv : Fin 64 → Vec F S1x32x1024 .f32}
    {xcb : Vec F S512x1024 .f32} {xst : Vec F S1024x32 .i32} {d : Vec F S1x1x64x1024 .f32} {d' : Vec F S1x1x64x128 .f32}
    (hA : ∀ y, k0_chk1 (xT y)) (hS : ∀ y, k0_chk65 i (xT y))
    (rT : Steps.Reads Rd (c : Thread nD τ) T1 xT) (rq : Steps.Reads Rd (c : Thread nD τ) q xq) (rtid : Steps.Reads Rd (c : Thread nD τ) tid xtid)
    (rk : ∀ j, Steps.Reads Rd (c : Thread nD τ) (k j) (xk j)) (rv : ∀ j, Steps.Reads Rd (c : Thread nD τ) (v j) (xv j))
    (rcb : Steps.Reads Rd (c : Thread nD τ) cb xcb) (rst : Steps.Reads Rd (c : Thread nD τ) st xst)
    (hQ : iprop((Rd ∗ owns (c : Thread nD τ) out fullShare (outV (scoresV xq (arow xT xcb hA i) xk) (masksV (srow xT xst i hS) xtid) xv))
        ∗ owns (c : Thread nD τ) sim fullShare (simV (scoresV xq (arow xT xcb hA i) xk) (masksV (srow xT xst i hS) xtid))) ⊢ Q ⟨⟩) :
    iprop((Rd ∗ owns (c : Thread nD τ) out fullShare d) ∗ owns (c : Thread nD τ) sim fullShare d')
      ⊢ wp frame (wpE defs 𝒱 (c : Thread nD τ) bd) E
        (cc0__token_kernel i T1 hT1 T2 hT2 q hq tid htid (k 0) (hk 0) (k 1) (hk 1) (k 2) (hk 2) (k 3) (hk 3) (k 4) (hk 4) (k 5) (hk 5) (k 6) (hk 6) (k 7) (hk 7) (k 8) (hk 8) (k 9) (hk 9) (k 10) (hk 10) (k 11) (hk 11) (k 12) (hk 12) (k 13) (hk 13) (k 14) (hk 14) (k 15) (hk 15) (k 16) (hk 16) (k 17) (hk 17) (k 18) (hk 18) (k 19) (hk 19) (k 20) (hk 20) (k 21) (hk 21) (k 22) (hk 22) (k 23) (hk 23) (k 24) (hk 24) (k 25) (hk 25) (k 26) (hk 26) (k 27) (hk 27) (k 28) (hk 28) (k 29) (hk 29) (k 30) (hk 30) (k 31) (hk 31) (k 32) (hk 32) (k 33) (hk 33) (k 34) (hk 34) (k 35) (hk 35) (k 36) (hk 36) (k 37) (hk 37) (k 38) (hk 38) (k 39) (hk 39) (k 40) (hk 40) (k 41) (hk 41) (k 42) (hk 42) (k 43) (hk 43) (k 44) (hk 44) (k 45) (hk 45) (k 46) (hk 46) (k 47) (hk 47) (k 48) (hk 48) (k 49) (hk 49) (k 50) (hk 50) (k 51) (hk 51) (k 52) (hk 52) (k 53) (hk 53) (k 54) (hk 54) (k 55) (hk 55) (k 56) (hk 56) (k 57) (hk 57) (k 58) (hk 58) (k 59) (hk 59) (k 60) (hk 60) (k 61) (hk 61) (k 62) (hk 62) (k 63) (hk 63) (v 0) (hv 0) (v 1) (hv 1) (v 2) (hv 2) (v 3) (hv 3) (v 4) (hv 4) (v 5) (hv 5) (v 6) (hv 6) (v 7) (hv 7) (v 8) (hv 8) (v 9) (hv 9) (v 10) (hv 10) (v 11) (hv 11) (v 12) (hv 12) (v 13) (hv 13) (v 14) (hv 14) (v 15) (hv 15) (v 16) (hv 16) (v 17) (hv 17) (v 18) (hv 18) (v 19) (hv 19) (v 20) (hv 20) (v 21) (hv 21) (v 22) (hv 22) (v 23) (hv 23) (v 24) (hv 24) (v 25) (hv 25) (v 26) (hv 26) (v 27) (hv 27) (v 28) (hv 28) (v 29) (hv 29) (v 30) (hv 30) (v 31) (hv 31) (v 32) (hv 32) (v 33) (hv 33) (v 34) (hv 34) (v 35) (hv 35) (v 36) (hv 36) (v 37) (hv 37) (v 38) (hv 38) (v 39) (hv 39) (v 40) (hv 40) (v 41) (hv 41) (v 42) (hv 42) (v 43) (hv 43) (v 44) (hv 44) (v 45) (hv 45) (v 46) (hv 46) (v 47) (hv 47) (v 48) (hv 48) (v 49) (hv 49) (v 50) (hv 50) (v 51) (hv 51) (v 52) (hv 52) (v 53) (hv 53) (v 54) (hv 54) (v 55) (hv 55) (v 56) (hv 56) (v 57) (hv 57) (v 58) (hv 58) (v 59) (hv 59) (v 60) (hv 60) (v 61) (hv 61) (v 62) (hv 62) (v 63) (hv 63) cb hcb st hst out hout sim hsim) Q := by
  rw [cc0__token_kernel_eq_skeleton]
  unfold cc0__token_kernel_skel
  rw [k0_part39_eq_skeleton]
  unfold k0_part39_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  repeat (first
    | with_reducible refine table_word rT.left.left ?_
    | (with_reducible refine Steps.assume ?_ ?_
       · first | exact hA _ | exact hS _)
    | with_reducible refine Steps.load_full (rk _).left.left ?_
    | with_reducible refine Steps.load_full (rv _).left.left ?_
    | with_reducible refine Steps.load_rect rcb.left.left ?_
    | with_reducible refine Steps.load_rect rst.left.left ?_
    | with_reducible refine Steps.load_full rq.left.left ?_
    | with_reducible refine Steps.load_full rtid.left.left ?_
    | with_reducible refine Steps.load_full (Steps.Reads.own _ _ _ _).right.left ?_
    | with_reducible refine Steps.load_full (Steps.Reads.own _ _ _ _).right ?_
    | with_reducible refine Steps.store_mid ?_
    | with_reducible refine Steps.store_gen ?_
    | with_reducible refine Steps.bind ?_
    | with_reducible refine Steps.ret ?_
    | unfold k0_part1_skel
    | unfold k0_part2_skel
    | unfold k0_part3_skel
    | unfold k0_part4_skel
    | unfold k0_part5_skel
    | unfold k0_part6_skel
    | unfold k0_part7_skel
    | unfold k0_part8_skel
    | unfold k0_part9_skel
    | unfold k0_part10_skel)
  generalize hU : k0_pay3 (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = U
  have hU' : U = uqV xq (stack (arow xT xcb hA i) (catD _)) := hU.symm.trans rfl
  clear hU
  repeat (first
    | with_reducible refine table_word rT.left.left ?_
    | (with_reducible refine Steps.assume ?_ ?_
       · first | exact hA _ | exact hS _)
    | with_reducible refine Steps.load_full (rk _).left.left ?_
    | with_reducible refine Steps.load_full (rv _).left.left ?_
    | with_reducible refine Steps.load_rect rcb.left.left ?_
    | with_reducible refine Steps.load_rect rst.left.left ?_
    | with_reducible refine Steps.load_full rq.left.left ?_
    | with_reducible refine Steps.load_full rtid.left.left ?_
    | with_reducible refine Steps.load_full (Steps.Reads.own _ _ _ _).right.left ?_
    | with_reducible refine Steps.load_full (Steps.Reads.own _ _ _ _).right ?_
    | with_reducible refine Steps.store_mid ?_
    | with_reducible refine Steps.store_gen ?_
    | with_reducible refine Steps.bind ?_
    | with_reducible refine Steps.ret ?_
    | unfold k0_part11_skel
    | unfold k0_part12_skel
    | unfold k0_part13_skel
    | unfold k0_part14_skel
    | unfold k0_part15_skel
    | unfold k0_part16_skel
    | unfold k0_part17_skel
    | unfold k0_part18_skel
    | unfold k0_part19_skel)
  generalize hSc : k0_pay80 (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = S
  have hS' : S = scoresV xq (arow xT xcb hA i) xk := by
    subst hU'
    exact hSc.symm.trans rfl
  clear hSc hU' U
  repeat (first
    | with_reducible refine table_word rT.left.left ?_
    | (with_reducible refine Steps.assume ?_ ?_
       · first | exact hA _ | exact hS _)
    | with_reducible refine Steps.load_full (rk _).left.left ?_
    | with_reducible refine Steps.load_full (rv _).left.left ?_
    | with_reducible refine Steps.load_rect rcb.left.left ?_
    | with_reducible refine Steps.load_rect rst.left.left ?_
    | with_reducible refine Steps.load_full rq.left.left ?_
    | with_reducible refine Steps.load_full rtid.left.left ?_
    | with_reducible refine Steps.load_full (Steps.Reads.own _ _ _ _).right.left ?_
    | with_reducible refine Steps.load_full (Steps.Reads.own _ _ _ _).right ?_
    | with_reducible refine Steps.store_mid ?_
    | with_reducible refine Steps.store_gen ?_
    | with_reducible refine Steps.bind ?_
    | with_reducible refine Steps.ret ?_
    | unfold k0_part20_skel
    | unfold k0_part21_skel
    | unfold k0_part22_skel
    | unfold k0_part23_skel
    | unfold k0_part24_skel
    | unfold k0_part25_skel
    | unfold k0_part26_skel
    | unfold k0_part27_skel
    | unfold k0_part28_skel
    | unfold k0_part29_skel)
  generalize hM : k0_pay140 (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = M
  have hM' : M = masksV (srow xT xst i hS) xtid := hM.symm.trans rfl
  clear hM
  repeat (first
    | with_reducible refine table_word rT.left.left ?_
    | (with_reducible refine Steps.assume ?_ ?_
       · first | exact hA _ | exact hS _)
    | with_reducible refine Steps.load_full (rk _).left.left ?_
    | with_reducible refine Steps.load_full (rv _).left.left ?_
    | with_reducible refine Steps.load_rect rcb.left.left ?_
    | with_reducible refine Steps.load_rect rst.left.left ?_
    | with_reducible refine Steps.load_full rq.left.left ?_
    | with_reducible refine Steps.load_full rtid.left.left ?_
    | with_reducible refine Steps.load_full (Steps.Reads.own _ _ _ _).right.left ?_
    | with_reducible refine Steps.load_full (Steps.Reads.own _ _ _ _).right ?_
    | with_reducible refine Steps.store_mid ?_
    | with_reducible refine Steps.store_gen ?_
    | with_reducible refine Steps.bind ?_
    | with_reducible refine Steps.ret ?_
    | unfold k0_part30_skel
    | unfold k0_part31_skel
    | unfold k0_part32_skel
    | unfold k0_part33_skel
    | unfold k0_part34_skel
    | unfold k0_part35_skel
    | unfold k0_part36_skel
    | unfold k0_part37_skel
    | unfold k0_part38_skel)
  generalize hW : k0_pay208 (F := F) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ = W
  have hW' : W = stack (valV (probsV S M) xv) (catD _) := hW.symm.trans rfl
  clear hW
  subst hW' hS' hM'
  exact hQ

end Run

end Cert.KernelIdeal.Body

end
-- ==== Proof.Steps.KernelIdealRun.lean ====
/- The run of the whole program: what each window's buffer holds point by point, the body's obligation met by its run,
   the launch, and that the arguments end as launched. -/
module

public import proofs.«01_k».proof.Proof.Steps.KernelIdealEntry
public import proofs.«01_k».proof.Proof.Steps.KernelIdealBody
public import Idealize.ShloMosaic.Lib.Claim

@[expose] public section

set_option maxRecDepth 65536

noncomputable section

namespace Cert.KernelIdeal.Run

open Cert.KernelIdeal.Gen Cert.KernelIdeal.Kit Cert.KernelIdeal.Entry
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## Buffers and contents at equal types -/

def castM {sp sp' : CoreSpace} {s s' : Shape} {e e' : EltTy} (hp : sp = sp') (hs : s = s') (he : e = e')
    (M : Memref sig .tc sp s e) : Memref sig .tc sp' s' e' :=
  cast (by rw [hp, hs, he]) M

def castX {s s' : Shape} {e e' : EltTy} (hs : s = s') (he : e = e') (X : s.Idx → Elt F e) : s'.Idx → Elt F e' :=
  cast (by rw [hs, he]) X

theorem castM_whole {sp sp' : CoreSpace} {s s' : Shape} {e e' : EltTy} (hp : sp = sp') (hs : s = s') (he : e = e')
    {M : Memref sig .tc sp s e} (h : M.IsWhole) : (castM hp hs he M).IsWhole := by
  subst hp hs he; exact h

theorem castM_reads {P : sProp 𝕄} {c : Dev nD} {sp sp' : CoreSpace} {s s' : Shape} {e e' : EltTy} (hp : sp = sp') (hs : s = s') (he : e = e')
    {M : Memref sig .tc sp s e} {X : s.Idx → Elt F e} (h : Steps.Reads P (c : Thread nD τ) M X) :
    Steps.Reads P (c : Thread nD τ) (castM hp hs he M) (castX hs he X) := by
  subst hp hs he; exact h

/-! ## Windows -/

/-- The windows of the keys and of the values of the block's token `j`. -/
def kw (j : Fin 64) : Fin 134 := ⟨2 + j.val, by omega⟩
def vw (j : Fin 64) : Fin 134 := ⟨2 + 64 + j.val, by omega⟩

theorem kw_space (j : Fin 64) : (spec0 (kw j)).stageSpace = .vmem := by fin_cases j <;> rfl
theorem kw_block (j : Fin 64) : (spec0 (kw j)).block = S1x32x1024 := by fin_cases j <;> rfl
theorem kw_elt (j : Fin 64) : (spec0 (kw j)).elt = .f32 := by fin_cases j <;> rfl
theorem vw_space (j : Fin 64) : (spec0 (vw j)).stageSpace = .vmem := by fin_cases j <;> rfl
theorem vw_block (j : Fin 64) : (spec0 (vw j)).block = S1x32x1024 := by fin_cases j <;> rfl
theorem vw_elt (j : Fin 64) : (spec0 (vw j)).elt = .f32 := by fin_cases j <;> rfl

theorem kw_ne (j : Fin 64) : kw j ≠ (132 : Fin 134) ∧ kw j ≠ (133 : Fin 134) := by revert j; decide +kernel
theorem vw_ne (j : Fin 64) : vw j ≠ (132 : Fin 134) ∧ vw j ≠ (133 : Fin 134) := by revert j; decide +kernel

theorem isOut_iff : ∀ w : Fin 134, w ≠ 132 → w ≠ 133 → (spec0 w).isOut = false := by decide +kernel

variable (m : (ℓ : Loc nD τ sig) → Buf (Elt F) ℓ)

/-- The buffer that window `w` uses at point `t`. -/
abbrev stg (t : Fin (cfgM m).N) (w : Fin 134) : Memref sig .tc (spec0 w).stageSpace (spec0 w).block (spec0 w).elt :=
  ((cfgM m).win w).stage ((cfgM m).slots t w)

theorem stg_whole (t : Fin (cfgM m).N) (w : Fin 134) : (stg m t w).IsWhole := stage_whole0 w _

/-- The block of window `w`'s array at point `t`. -/
def iblk (c : Dev nD) (w : Fin 134) (t : Fin (cfgM m).N) : (spec0 w).block.Idx → Elt F (spec0 w).elt :=
  (((cfgM m).win w).blk t).view.read (Elt F) (V m c (Pipeline.arrRef spec0 w))

def kM (t : Fin (cfgM m).N) (j : Fin 64) : Memref sig .tc .vmem S1x32x1024 .f32 := castM (kw_space j) (kw_block j) (kw_elt j) (stg m t (kw j))
def vM (t : Fin (cfgM m).N) (j : Fin 64) : Memref sig .tc .vmem S1x32x1024 .f32 := castM (vw_space j) (vw_block j) (vw_elt j) (stg m t (vw j))
theorem kM_whole (t : Fin (cfgM m).N) (j : Fin 64) : (kM m t j).IsWhole := castM_whole _ _ _ (stg_whole m t _)
theorem vM_whole (t : Fin (cfgM m).N) (j : Fin 64) : (vM m t j).IsWhole := castM_whole _ _ _ (stg_whole m t _)
def kX (c : Dev nD) (t : Fin (cfgM m).N) (j : Fin 64) : Vec F S1x32x1024 .f32 := castX (kw_block j) (kw_elt j) (iblk m c (kw j) t)
def vX (c : Dev nD) (t : Fin (cfgM m).N) (j : Fin 64) : Vec F S1x32x1024 .f32 := castX (vw_block j) (vw_elt j) (iblk m c (vw j) t)

/-! ## What the outputs hold after a point -/

def scoresB (c : Dev nD) (t : Fin (cfgM m).N) : Vec F S64x32 .f32 :=
  Body.scoresV (iblk m c 0 t) (Body.arow (tbl m 0) (iblk m c 130 t) (fun _ => Host.chkA _ (tbl_lt m _)) (grid0.coords t)) (kX m c t)
def masksB (c : Dev nD) (t : Fin (cfgM m).N) :=
  Body.masksV (F := F) (Body.srow (tbl m 0) (iblk m c 131 t) (grid0.coords t) (fun _ => Host.chkS _ _ (tbl_lt m _))) (iblk m c 1 t)
def outB (c : Dev nD) (t : Fin (cfgM m).N) : Vec F S1x1x64x1024 .f32 := Body.outV (scoresB m c t) (masksB m c t) (vX m c t)
def simB (c : Dev nD) (t : Fin (cfgM m).N) : Vec F S1x1x64x128 .f32 := Body.simV (scoresB m c t) (masksB m c t)

/-- What window `w`'s buffer holds after the body at point `t`. -/
def aft (c : Dev nD) (w : Fin 134) (t : Fin (cfgM m).N) : (spec0 w).block.Idx → Elt F (spec0 w).elt :=
  if h : w = 132 then cast (by subst h; rfl) (outB m c t)
  else if h : w = 133 then cast (by subst h; rfl) (simB m c t) else iblk m c w t

theorem aft_out (c : Dev nD) (t : Fin (cfgM m).N) : aft m c 132 t = outB m c t := rfl
theorem aft_sim (c : Dev nD) (t : Fin (cfgM m).N) : aft m c 133 t = simB m c t := rfl
theorem aft_in (c : Dev nD) (w : Fin 134) (t : Fin (cfgM m).N) (h : w ≠ 132) (h' : w ≠ 133) : aft m c w t = iblk m c w t := by
  unfold aft; rw [dif_neg h, dif_neg h']

/-! ## The proof data -/

def dats (_ : Fin 1) (c : Dev nD) : Dat τ (Elt F) Unit ℕ (UR sig nD τ) ℕ (cfgM m) c where
  A w := V m c (Pipeline.arrRef spec0 w)
  after w t := aft m c w t
  Φ _ := iprop(Pipeline.ΦA spec0 c ∗ Pipeline.ΦT pre0 (tbl m) c)
  q w := Pipeline.shareOf spec0 w
  owed _ := 0

theorem A_eq (c : Dev nD) (w : Fin (cfgM m).W) : (dats m 0 c).A w = V m c (Pipeline.arrRef spec0 w) := by
  dsimp only [dats]

theorem before_in (c : Dev nD) (w : Fin 134) (h : w ≠ 132) (h' : w ≠ 133) (t : Fin (cfgM m).N) (d) :
    (dats m 0 c).before w t d = iblk m c w t := by
  rw [Dat.before_in_eq_fetched (dats m 0 c) w (isOut_iff w h h') (fun _ => rfl) (fun _ _ _ => rfl) (fun t => by
    show aft m c w t = (dats m 0 c).blockOf w t
    rw [aft_in m c w t h h']; rfl) t d]
  funext j
  exact Window.fill_xinj _ _ _ _ j

/-! ## The body at a point -/

theorem winE {w w' : Fin 134} (h : w' ≠ w) : w' ∈ (Finset.univ : Finset (Fin 134)).erase w := Finset.mem_erase.mpr ⟨h, Finset.mem_univ _⟩

theorem om_ne : (133 : Fin 134) ≠ 132 := by decide

/-- The inputs' buffers, each at its block. -/
def ins (c : Dev nD) (t : Fin (cfgM m).N) : sProp 𝕄 :=
  bigSep (((Finset.univ : Finset (Fin 134)).erase 132).erase 133) fun w => owns (c : Thread nD τ) (stg m t w) fullShare (iblk m c w t)

theorem reads_in (c : Dev nD) (t : Fin (cfgM m).N) (w : Fin 134) (h : w ≠ 132) (h' : w ≠ 133) :
    Steps.Reads (ins m c t) (c : Thread nD τ) (stg m t w) (iblk m c w t) := by
  refine ⟨fullShare, bigSep ((((Finset.univ : Finset (Fin 134)).erase 132).erase 133).erase w) fun w => owns (c : Thread nD τ) (stg m t w) fullShare (iblk m c w t), ?_⟩
  unfold ins
  rw [bigSep_erase (i := w) (Finset.mem_erase.mpr ⟨h', winE h⟩)]
  exact ⟨sep_comm.1, sep_comm.1⟩

/-- A table's half. -/
def tbPt (c : Dev nD) (j : Fin 2) : sProp 𝕄 := (c : Thread nD τ).loc (pre0.ref j) ↦{fullShare.right} (tbl m j)

theorem PhiT_eq (c : Dev nD) : (Pipeline.ΦT pre0 (tbl m) c : sProp 𝕄) = iprop(tbPt m c 0 ∗ tbPt m c 1) := by
  unfold Pipeline.ΦT Pipeline.prefHeld
  rw [show (Finset.univ : Finset (Fin 2)) = insert 0 {1} from by decide, bigSep_insert (by decide), bigSep_singleton]
  rfl

theorem reads_tbl (c : Dev nD) :
    Steps.Reads (Pipeline.ΦT pre0 (tbl m) c : sProp 𝕄) (c : Thread nD τ) (Memref.whole main_v1 : Memref sig .tc .smem S4096 .i32) (tbl m 0 : S4096.Idx → BitVec 32) := by
  refine ⟨fullShare.right, tbPt m c 1, ?_⟩
  rw [PhiT_eq, show (tbPt m c 0 : sProp 𝕄) = owns (c : Thread nD τ) (Memref.whole main_v1 : Memref sig .tc .smem S4096 .i32) fullShare.right (tbl m 0 : S4096.Idx → BitVec 32) from
    (owns_whole (c : Thread nD τ) main_v1 fullShare.right _).symm]
  exact ⟨sep_comm.1, sep_comm.1⟩

/-- Every window's buffer as the body finds it: the inputs at their blocks, the outputs at something. -/
theorem found (c : Dev nD) (t : Fin (cfgM m).N) :
    (bigSep Finset.univ (fun w : Fin 134 => iprop(∃ d, owns (c : Thread nD τ) (stg m t w) fullShare ((dats m 0 c).before w t d))) : sProp 𝕄)
      ⊢ iprop((∃ d, owns (c : Thread nD τ) (stg m t 132) fullShare d) ∗ (∃ d, owns (c : Thread nD τ) (stg m t 133) fullShare d) ∗ ins m c t) := by
  rw [bigSep_erase (i := 132) (Finset.mem_univ _), bigSep_erase (i := 133) (winE om_ne)]
  refine BIClass.sep_mono (exists_elim fun d => BIClass.exists_intro (Φ := fun d => owns (c : Thread nD τ) (stg m t 132) fullShare d) _)
    (BIClass.sep_mono (exists_elim fun d => BIClass.exists_intro (Φ := fun d => owns (c : Thread nD τ) (stg m t 133) fullShare d) _) ?_)
  unfold ins
  refine Idealize.SL.BI.bigSep_mono fun w hw => ?_
  simp only [before_in m c w (Finset.ne_of_mem_erase (Finset.mem_of_mem_erase hw)) (Finset.ne_of_mem_erase hw)]
  exact BIClass.exists_elim (PROP := sProp 𝕄) fun _ => BIBase.Entails.rfl

/-- And as the body leaves it. -/
theorem left (c : Dev nD) (t : Fin (cfgM m).N) :
    iprop(owns (c : Thread nD τ) (stg m t 132) fullShare (outB m c t) ∗ owns (c : Thread nD τ) (stg m t 133) fullShare (simB m c t) ∗ ins m c t)
      ⊢ (bigSep Finset.univ (fun w : Fin 134 => owns (c : Thread nD τ) (stg m t w) fullShare ((dats m 0 c).after w t)) : sProp 𝕄) := by
  rw [bigSep_erase (i := 132) (Finset.mem_univ _), bigSep_erase (i := 133) (winE om_ne)]
  refine BIClass.sep_mono .rfl (BIClass.sep_mono .rfl (?_ : ins m c t ⊢ _))
  unfold ins
  refine bigSep_mono fun w hw => ?_
  show _ ⊢ owns (c : Thread nD τ) (stg m t w) fullShare (aft m c w t)
  rw [aft_in m c w t (Finset.ne_of_mem_erase (Finset.mem_of_mem_erase hw)) (Finset.ne_of_mem_erase hw)]

set_option maxHeartbeats 4000000 in
theorem sound (c : Dev nD) (t : Fin (cfgM m).N) {R : sProp 𝕄} :
    iprop((Pipeline.ΦA spec0 c ∗ Pipeline.ΦT pre0 (tbl m) c) ∗ R
        ∗ (∃ d, owns (c : Thread nD τ) (stg m t 132) fullShare d) ∗ (∃ d, owns (c : Thread nD τ) (stg m t 133) fullShare d) ∗ ins m c t)
      ⊢ wp frame (wpE (defs₀ (F := F)) Variants.none (c : Thread nD τ) none) Set.univ
        (defs₀ (F := F) .tc (cfgM m).body ((cfgM m).bodyArgs t ((cfgM m).slots t)))
        (fun _ => iprop((Pipeline.ΦA spec0 c ∗ Pipeline.ΦT pre0 (tbl m) c) ∗ R
          ∗ owns (c : Thread nD τ) (stg m t 132) fullShare (outB m c t) ∗ owns (c : Thread nD τ) (stg m t 133) fullShare (simB m c t) ∗ ins m c t)) := by
  unfold defs₀; rw [Defs.onTc_tc]
  iintro ⟨⟨HA, HT⟩, HR, ⟨%d, HO⟩, ⟨%d', HM⟩, HI⟩
  iapply (show (iprop(((((Pipeline.ΦA spec0 c ∗ R) ∗ Pipeline.ΦT pre0 (tbl m) c) ∗ ins m c t) ∗ owns (c : Thread nD τ) (stg m t 132) fullShare d) ∗ owns (c : Thread nD τ) (stg m t 133) fullShare d') : sProp 𝕄) ⊢ _ from
    Body.run (grid0.coords t) (T1 := Memref.whole main_v1) (T2 := Memref.whole main_v2) (Memref.isWhole_whole _) (Memref.isWhole_whole _)
      (stg_whole m t 0) (stg_whole m t 1) (kM_whole m t) (vM_whole m t) (stg_whole m t 130) (stg_whole m t 131) (stg_whole m t 132) (stg_whole m t 133)
      (fun _ => Host.chkA _ (tbl_lt m _)) (fun _ => Host.chkS _ _ (tbl_lt m _))
      (reads_tbl m c).right.left
      (reads_in m c t 0 (by decide) (by decide)).right (reads_in m c t 1 (by decide) (by decide)).right
      (fun j => (castM_reads _ _ _ (reads_in m c t (kw j) (kw_ne j).1 (kw_ne j).2)).right)
      (fun j => (castM_reads _ _ _ (reads_in m c t (vw j) (vw_ne j).1 (vw_ne j).2)).right)
      (reads_in m c t 130 (by decide) (by decide)).right (reads_in m c t 131 (by decide) (by decide)).right
      (by
        iintro ⟨⟨⟨⟨⟨HA, HR⟩, HT⟩, HI⟩, HO⟩, HM⟩
        isplitl [HA HT]
        · isplitl [HA]
          · iexact HA
          · iexact HT
        isplitl [HR]; · iexact HR
        isplitl [HO]; · iexact HO
        isplitl [HM]; · iexact HM
        iexact HI))
  isplitr [HM]
  · isplitr [HO]
    · isplitr [HI]
      · isplitr [HT]
        · isplitl [HA]
          · iexact HA
          · iexact HR
        · iexact HT
      · iexact HI
    · iexact HO
  · iexact HM

theorem body_obligation (c : Dev nD) : BodyObligation (dats (F := F) m 0 c) (defs₀ (F := F)) Variants.none () Set.univ := fun t =>
  triple_restated (sound m c t (R := (dats m 0 c).owesAt () t.castSucc))
    rfl (BIClass.sep_mono .rfl (BIClass.sep_mono .rfl (found m c t))) fun _ => BIClass.sep_mono .rfl (BIClass.sep_mono .rfl (left m c t))

/-! ## The launch and the frame -/

variable (ρ : Dev nD → PrngReg)

set_option backward.isDefEq.respectTransparency.types false in
set_option maxHeartbeats 4000000 in
theorem launch : θ_run defs (onTc (τ := τ) (main (F := F))) (s₀ m ρ) (fun r => (Pipeline.FramePost (Pipeline.pin pcfgs fun _ => adm m) (dats m) 0
    (Pipeline.afterTail pcfgs (fun _ => adm m) (dats m) 0 (V0 m) [hostOps1])) r ∧ r.2.sem = fun _ => 0) :=
  Pipeline.θ_run_frameP_around_shared (Q' := _) pcfgs (fun _ => adm m) (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hpf := V_pre m) (hΦ := fun _ _ => rfl)

/-- An argument that the call stages ends as launched. -/
theorem staged (c : Dev nD) {s : MemSt nD τ sig (Elt F)}
    (h : ∀ w, s.mem (((spec0 w).arr).view.loc (c : Thread nD τ)) = (dats m 0 c).arrAt w (cfgM m).N)
    (w : Fin 134) (hw : w ≠ 132) (hw' : w ≠ 133) (hb : Pipeline.arrRef spec0 w = main_arg1 ∨ Pipeline.arrRef spec0 w = main_arg2 ∨ Pipeline.arrRef spec0 w = main_arg4) :
    s.mem ((c : Thread nD τ).loc (Pipeline.arrRef spec0 w)) = m ((c : Thread nD τ).loc (Pipeline.arrRef spec0 w)) :=
  (h w).trans (((dats m 0 c).arrAt_in w (isOut_iff w hw hw') _).trans ((A_eq m c w).trans (V_arg m c _ (by tauto))))

/-- The arguments end as launched. -/
theorem args_of {r : PUnit × MemSt nD τ sig (Elt F)} (h : Pipeline.FramePost (Pipeline.pin pcfgs fun _ => adm m) (dats m) 0
    (Pipeline.afterTail pcfgs (fun _ => adm m) (dats m) 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (by decide +kernel : main_arg0 ∈ Pipeline.restRefs sig spec0)).trans (W_arg m (dats m) c main_arg0 (by tauto)),
   staged m c (h c).1 (vw 0) (vw_ne 0).1 (vw_ne 0).2 (.inl rfl),
   staged m c (h c).1 (kw 0) (kw_ne 0).1 (kw_ne 0).2 (.inr (.inl rfl)),
   ((h c).2 main_arg3 (by decide +kernel : main_arg3 ∈ Pipeline.restRefs sig spec0)).trans (W_arg m (dats m) c main_arg3 (by tauto)),
   staged m c (h c).1 130 (by decide) (by decide) (.inr (.inr rfl)),
   ((h c).2 main_arg5 (by decide +kernel : main_arg5 ∈ Pipeline.restRefs sig spec0)).trans (W_arg m (dats m) c main_arg5 (by tauto))⟩

/-- The run ends with the arguments as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨args_of m h.1, h.2⟩) (launch m ρ)

end Cert.KernelIdeal.Run

end
-- ==== Proof.Steps.Token.lean ====
/- What one token gets, as the kernel computes it and as the reference does, and that the two agree. -/
module

public import proofs.«01_k».proof.Proof.Steps.Words
public import Idealize.ShloMosaic.PureOps
public import Idealize.ShloMosaic.Lib.IdealHost
public import Idealize.ShloMosaic.Lib.Pointwise

@[expose] public section

set_option maxRecDepth 65536

noncomputable section

namespace Steps.Token

open Idealize.ShloMosaic

/-! ## The kernel's -/

/-- A row scaled by the reciprocal root of its sum of squares, that sum kept from falling below `e`. -/
def unit (e : EReal) (x : Fin 1024 → EReal) (d : Fin 1024) : EReal := x d * Ideal.rsqrt (max (∑ k, x k * x k) e)

/-- The token's query from its embedding and its anchor. -/
def uq (e : EReal) (q a : Fin 1024 → EReal) : Fin 1024 → EReal :=
  unit e fun d => Ideal.ofBits .f32 0x3F000000#32 * unit e q d + Ideal.ofBits .f32 0x3F000000#32 * a d

/-- The token's scores. -/
def score (u : Fin 1024 → EReal) (k : Fin 32 → Fin 1024 → EReal) (s : Fin 32) : EReal := ∑ x, u x * k s x

/-- The token's matches. -/
def mask (st : Fin 32 → BitVec 32) (tid : BitVec 32) (s : Fin 32) : EReal :=
  (FloatOps.sitofp .f32 (BitVec.setWidth 32 (IntOp.cmpi CmpIPredicate.eq (st s) tid)) : Ideal .f32)

/-- Whether a slot matches. -/
def found (M : Fin 32 → EReal) : BitVec 1 := BitVec.ofBool (decide (0 < ∑ x, M x))

/-- The exponentials. -/
def expo (S : Fin 32 → EReal) (s : Fin 32) : EReal :=
  Ideal.exp (S s * Ideal.ofBits .f32 0x41200000#32 -
    Finset.fold max (Ideal.ofBits .f32 0xFF800000#32) (fun x => S x * Ideal.ofBits .f32 0x41200000#32) Finset.univ)

/-- The weights. -/
def prob (S M : Fin 32 → EReal) (s : Fin 32) : EReal :=
  Scalar.select (found M) (Ideal.div (M s) ((∑ x, M x) + Ideal.ofBits .f32 0x3089705F#32)) (Ideal.div (expo S s) (∑ x, expo S x))

/-- The token's value. -/
def val (S M : Fin 32 → EReal) (v : Fin 32 → Fin 1024 → EReal) (d : Fin 1024) : EReal := ∑ s, prob S M s * v s d

/-- The token's similarity. -/
def sim (S M : Fin 32 → EReal) : EReal :=
  Scalar.select (found M) (Ideal.ofBits .f32 0x41200000#32) (Finset.fold max (Ideal.ofBits .f32 0xFF800000#32) S Finset.univ)

/-! ## The reference's -/

/-- A row divided by its norm, the norm kept from falling below the reference's constant. -/
def unitR (x : Fin 1024 → EReal) (d : Fin 1024) : EReal :=
  Ideal.div (x d) (max (Ideal.sqrt (∑ k, x k * x k)) (Ideal.ofBits .f32 0x2B8CBCCC#32))

/-- The half of the unit query and half of the anchor. -/
def mixR (q a : Fin 1024 → EReal) (d : Fin 1024) : EReal :=
  Ideal.ofBits .f32 0x3F000000#32 * unitR q d + Ideal.ofBits .f32 0x3F000000#32 * a d

/-- The matches. -/
def maskR (st : Fin 32 → BitVec 32) (tid : BitVec 32) (s : Fin 32) : EReal :=
  (FloatOps.uitofp .f32 (IntOp.cmpi CmpIPredicate.eq tid (st s)) : Ideal .f32)

/-- The scores over the temperature. -/
def tempR (S : Fin 32 → EReal) (s : Fin 32) : EReal := Ideal.div (S s) (Ideal.div 1 (Ideal.ofBits .f32 0x41200000#32))

/-- The exponentials. -/
def expoR (S : Fin 32 → EReal) (s : Fin 32) : EReal :=
  Ideal.exp (tempR S s - max (Ideal.ofBits .f32 0xFF800000#32) (Finset.fold max (Ideal.ofBits .f32 0xFF800000#32) (tempR S) Finset.univ))

/-- The value. -/
def valR (S M : Fin 32 → EReal) (v : Fin 32 → Fin 1024 → EReal) (d : Fin 1024) : EReal :=
  Scalar.select (found M) (∑ s, Ideal.div (M s) ((∑ x, M x) + Ideal.ofBits .f32 0x3089705F#32) * v s d)
    (∑ s, Ideal.div (expoR S s) (∑ x, expoR S x) * v s d)

/-! ## They agree -/

/-- The square of the reference's constant: `1e-12` as a float. -/
def epsSq : EReal := ((5316911940649 / 5316911983139663491615228241121378304 : ℝ) : EReal)

theorem eps_eq : Ideal.ofBits .f32 0x2B8CBCCC#32 = ((2305843 / 2305843009213693952 : ℝ) : EReal) := by
  simp [Ideal.ofBits, Ideal.ieee, -EReal.coe_mul]; norm_num

theorem ten_eq : Ideal.ofBits .f32 0x41200000#32 = ((10 : ℝ) : EReal) := by
  simp [Ideal.ofBits, Ideal.ieee, -EReal.coe_mul]; norm_num

theorem ninf_eq : Ideal.ofBits .f32 0xFF800000#32 = ⊥ := by
  simp [Ideal.ofBits, Ideal.ieee]

theorem sq_nonneg (x : EReal) : 0 ≤ x * x := by
  rcases le_total 0 x with h | h
  · exact mul_nonneg h h
  · exact EReal.mul_nonneg_iff.mpr (Or.inr ⟨h, h⟩)

theorem unit_eq (x : Fin 1024 → EReal) : unit epsSq x = unitR x := by
  funext d
  unfold unit unitR
  have hS : 0 ≤ ∑ k, x k * x k := Finset.sum_nonneg fun k _ => sq_nonneg (x k)
  generalize (∑ k, x k * x k) = S at hS
  rw [eps_eq]
  unfold epsSq
  induction S with
  | bot => exact absurd hS (by simp)
  | top =>
    have h1 : Ideal.rsqrt ⊤ = 0 := rfl
    have h2 : Ideal.sqrt ⊤ = ⊤ := rfl
    rw [max_eq_left le_top, h1, h2, max_eq_left le_top, Ideal.div, if_neg (by simp), EReal.inv_top]
  | coe s =>
    have hs : 0 ≤ s := by exact_mod_cast hS
    have h1 : Ideal.sqrt (s : EReal) = ((Real.sqrt s : ℝ) : EReal) := by
      show (if s < 0 then ⊥ else (Real.sqrt s : EReal)) = _
      rw [if_neg (not_lt.mpr hs)]
    rw [h1, ← EReal.coe_strictMono.monotone.map_max, ← EReal.coe_strictMono.monotone.map_max]
    set m : ℝ := max s (5316911940649 / 5316911983139663491615228241121378304) with hm
    have hm0 : 0 < m := lt_of_lt_of_le (by norm_num) (le_max_right _ _)
    have hr : max (Real.sqrt s) (2305843 / 2305843009213693952) = Real.sqrt m := by
      have h2 : (2305843 / 2305843009213693952 : ℝ) = Real.sqrt (5316911940649 / 5316911983139663491615228241121378304) := by
        symm
        rw [Real.sqrt_eq_iff_mul_self_eq (by norm_num) (by norm_num)]
        norm_num
      rw [h2, hm]
      exact (Real.sqrt_monotone.map_max).symm
    rw [hr, Ideal.div_coe (Real.sqrt_pos.mpr hm0).ne']
    show x d * (if m < 0 then ⊥ else if m = 0 then ⊤ else (((Real.sqrt m)⁻¹ : ℝ) : EReal)) = _
    rw [if_neg (not_lt.mpr hm0.le), if_neg hm0.ne', one_div]

theorem uq_eq (q a : Fin 1024 → EReal) : uq epsSq q a = unitR (mixR q a) := by
  unfold uq
  rw [unit_eq, unit_eq]
  rfl

theorem mask_eq (st : Fin 32 → BitVec 32) (tid : BitVec 32) : mask st tid = maskR st tid := by
  funext s
  unfold mask maskR
  have : IntOp.cmpi CmpIPredicate.eq (st s) tid = IntOp.cmpi CmpIPredicate.eq tid (st s) := by
    unfold IntOp.cmpi
    exact congrArg BitVec.ofBool (by rw [Bool.beq_comm])
  rw [this]
  have h : ∀ b : BitVec 1, ((BitVec.setWidth 32 b).toInt : ℝ) = (b.toNat : ℝ) := by
    intro b
    have : ∀ b : BitVec 1, (BitVec.setWidth 32 b).toInt = (b.toNat : ℤ) := by decide
    rw [this b]; norm_cast
  exact congrArg (fun r : ℝ => (r : EReal)) (h _)

theorem temp_eq (S : Fin 32 → EReal) (s : Fin 32) : S s * Ideal.ofBits .f32 0x41200000#32 = tempR S s := by
  unfold tempR
  rw [ten_eq, Ideal.div_coe (by norm_num), one_mul, Ideal.div_coe (by norm_num)]
  norm_num

theorem expo_eq (S : Fin 32 → EReal) : expo S = expoR S := by
  funext s
  unfold expo expoR
  simp only [temp_eq, ninf_eq, bot_le, max_eq_right]

theorem val_eq (S M : Fin 32 → EReal) (v : Fin 32 → Fin 1024 → EReal) : val S M v = valR S M v := by
  funext d
  unfold val valR prob
  rw [expo_eq]
  unfold Scalar.select
  split <;> rfl

/-! ## The results from the arguments -/

section Args

variable (Q : (⟨3, ![2, 2048, 1024]⟩ : Shape).Idx → EReal) (W K : (⟨3, ![2, 16384, 1024]⟩ : Shape).Idx → EReal)
  (I : (⟨2, ![2, 2048]⟩ : Shape).Idx → BitVec 32) (C : (⟨2, ![512, 1024]⟩ : Shape).Idx → EReal) (J : (⟨2, ![2, 16384]⟩ : Shape).Idx → BitVec 32)

/-- The slot a token reads in place `s`. -/
def slot (b : Fin 2) (t : Fin 2048) (s : Fin 32) : Fin 16384 :=
  ⟨(Steps.bucket (I (ix2 b t))).toNat * 32 + s.val, by have := Steps.bucket_lt (I (ix2 b t)); omega⟩

/-- The token's bucket as a row of the codebook. -/
def cell (b : Fin 2) (t : Fin 2048) : Fin 512 := ⟨(Steps.bucket (I (ix2 b t))).toNat, Steps.bucket_lt _⟩

/-- A token's embedding, anchor, rows of slots, stored identifiers. -/
def qRow (b : Fin 2) (t : Fin 2048) (d : Fin 1024) : EReal := Q (ix3 b t d)
def aRow (b : Fin 2) (t : Fin 2048) (d : Fin 1024) : EReal := C (ix2 (cell I b t) d)
def kRow (b : Fin 2) (t : Fin 2048) (s : Fin 32) (d : Fin 1024) : EReal := K (ix3 b (slot I b t s) d)
def sRow (b : Fin 2) (t : Fin 2048) (s : Fin 32) : BitVec 32 := J (ix2 b (slot I b t s))

/-- The kernel's scores, matches and results. -/
def scoreK (b : Fin 2) (t : Fin 2048) : Fin 32 → EReal := score (uq epsSq (qRow Q b t) (aRow I C b t)) (kRow K I b t)
def maskK (b : Fin 2) (t : Fin 2048) : Fin 32 → EReal := mask (sRow I J b t) (I (ix2 b t))
def outK (b : Fin 2) (t : Fin 2048) : Fin 1024 → EReal := val (scoreK Q K I C b t) (maskK I J b t) (kRow W I b t)
def simK (b : Fin 2) (t : Fin 2048) : EReal := sim (scoreK Q K I C b t) (maskK I J b t)

/-- The reference's. -/
def scoreR (b : Fin 2) (t : Fin 2048) : Fin 32 → EReal := score (unitR (mixR (qRow Q b t) (aRow I C b t))) (kRow K I b t)
def masksR (b : Fin 2) (t : Fin 2048) : Fin 32 → EReal := maskR (sRow I J b t) (I (ix2 b t))
def outR (b : Fin 2) (t : Fin 2048) : Fin 1024 → EReal := valR (scoreR Q K I C b t) (masksR I J b t) (kRow W I b t)
def simR (b : Fin 2) (t : Fin 2048) : EReal := sim (scoreR Q K I C b t) (masksR I J b t)

theorem scoreK_eq (b : Fin 2) (t : Fin 2048) : scoreK Q K I C b t = scoreR Q K I C b t := by
  unfold scoreK scoreR
  rw [uq_eq]

theorem maskK_eq (b : Fin 2) (t : Fin 2048) : maskK I J b t = masksR I J b t := mask_eq _ _

theorem outK_eq (b : Fin 2) (t : Fin 2048) : outK Q W K I C J b t = outR Q W K I C J b t := by
  unfold outK outR
  rw [scoreK_eq, maskK_eq, val_eq]

theorem simK_eq (b : Fin 2) (t : Fin 2048) : simK Q K I C J b t = simR Q K I C J b t := by
  unfold simK simR
  rw [scoreK_eq, maskK_eq]

end Args

end Steps.Token

end
-- ==== Proof.Steps.KernelIdealRows.lean ====
/- The block's operations read at a token's row: each is a function of the token's own query, keys, values and
   identifiers. -/
module

public import proofs.«01_k».proof.Proof.Steps.KernelIdealBody
public import proofs.«01_k».proof.Proof.Steps.Token
public import Idealize.ShloMosaic.Lib.Pointwise
public import Idealize.ShloMosaic.Lib.Pipeline.Value

@[expose] public section

set_option maxRecDepth 65536

noncomputable section

namespace Cert.KernelIdeal.Rows

open Cert.KernelIdeal.Gen Cert.KernelIdeal.Body
open Idealize.ShloMosaic Idealize.ShloMosaic.TcCoe
open Steps.Token (epsSq unit uq score mask found expo prob val sim)

/-- A stack of rows read at a row. -/
theorem stack_apply {e : EltTy} {n : ℕ} (f : Fin 64 → Vec Ideal ⟨2, ![1, n]⟩ e) (h) (r : Fin 64) (x : Fin n) :
    stack f h (ix2 r x) = f r (ix2 0 x) := by
  unfold stack
  exact concatenate_ofFn_unit_apply 0 f h rfl rfl (ix2 r x) r rfl (ix2 0 x) fun b hb => by fin_cases b <;> first | rfl | exact absurd rfl hb

/-- The named constant's value. -/
theorem named_eps : Named.named (F := Ideal) κ "eps_sq" (φ := .f32) 0x179ABE15#32 = epsSq :=
  IdealRules.named_const.ideal_named_scalar _ _ _ _ rfl

theorem unitV_apply (x : FVec Ideal S64x1024 .f32) (r : Fin 64) (d : Fin 1024) :
    unitV x (ix2 r d) = unit epsSq (fun k => x (ix2 r k)) d := by
  pointwise [unitV]
  rw [named_eps]
  rfl

theorem uqV_apply (q) (A : FVec Ideal S64x1024 .f32) (r : Fin 64) (d : Fin 1024) :
    uqV q A (ix2 r d) = uq epsSq (fun k => q (ix4 0 0 r k)) (fun k => A (ix2 r k)) d := by
  unfold uqV
  rw [unitV_apply]
  refine congrArg (fun f => unit epsSq f d) (funext fun k => ?_)
  pointwise
  rw [unitV_apply]
  refine congrArg (fun f => _ * unit epsSq f k + _) (funext fun l => ?_)
  pointwise

theorem scoresV_apply (q a k) (r : Fin 64) (s : Fin 32) :
    scoresV (F := Ideal) q a k (ix2 r s)
      = score (uq epsSq (fun d => q (ix4 0 0 r d)) (fun d => a r (ix2 0 d))) (fun s d => k r (ix3 0 s d)) s := by
  unfold scoresV
  rw [stack_apply]
  pointwise [scoreV]
  simp only [uqV_apply, stack_apply]
  rfl

theorem masksV_apply (st) (tid : Vec Ideal S1x1x64x1 .i32) (r : Fin 64) (s : Fin 32) :
    masksV (F := Ideal) st tid (ix2 r s) = mask (fun s => st r (ix2 0 s)) (tid (ix4 0 0 r 0)) s := by
  unfold masksV
  pointwise [maskV]
  rw [stack_apply]
  unfold mask
  refine congrArg (fun b => (FloatOps.sitofp .f32 (BitVec.setWidth 32 (IntOp.cmpi CmpIPredicate.eq b _)) : Ideal .f32)) ?_
  pointwise

theorem msumV_apply (M) (r : Fin 64) (z : Fin 1) : msumV (F := Ideal) M (ix2 r z) = ∑ x, M (ix2 r x) := by
  pointwise [msumV]

theorem matchV_apply (M) (r : Fin 64) (z : Fin 1) : matchV (F := Ideal) M (ix2 r z) = found (fun s => M (ix2 r s)) := by
  pointwise [matchV]
  rw [msumV_apply]
  rfl

theorem expV_apply (S) (r : Fin 64) (s : Fin 32) : expV (F := Ideal) S (ix2 r s) = expo (fun s => S (ix2 r s)) s := by
  pointwise [expV]
  rfl

theorem probsV_apply (S M) (r : Fin 64) (s : Fin 32) :
    probsV (F := Ideal) S M (ix2 r s) = prob (fun s => S (ix2 r s)) (fun s => M (ix2 r s)) s := by
  pointwise [probsV]
  simp only [matchV_apply, msumV_apply, expV_apply]
  rfl

theorem outV_apply (S M v) (r : Fin 64) (d : Fin 1024) :
    outV (F := Ideal) S M v (ix4 0 0 r d) = val (fun s => S (ix2 r s)) (fun s => M (ix2 r s)) (fun s d => v r (ix3 0 s d)) d := by
  pointwise [outV]
  rw [stack_apply]
  pointwise [valV]
  simp only [probsV_apply]
  rfl

theorem simV_apply (S M) (r : Fin 64) (z : Fin 128) :
    simV (F := Ideal) S M (ix4 0 0 r z) = sim (fun s => S (ix2 r s)) (fun s => M (ix2 r s)) := by
  pointwise [simV]
  rw [matchV_apply]
  rfl

end Cert.KernelIdeal.Rows

end
-- ==== Proof.Steps.KernelIdealBlocks.lean ====
/- The windows' blocks as parts of the arguments, and the body's blocks of outputs at a token's row. -/
module

public import proofs.«01_k».proof.Proof.Steps.KernelIdealRun
public import proofs.«01_k».proof.Proof.Steps.KernelIdealRows
public import Idealize.ShloMosaic.Lib.Pipeline.ValueKit

@[expose] public section

set_option maxRecDepth 65536

noncomputable section

namespace Cert.KernelIdeal.Blocks

open Cert.KernelIdeal.Gen Cert.KernelIdeal.Kit Cert.KernelIdeal.Entry Cert.KernelIdeal.Run
open Idealize.ShloMosaic Idealize.ShloMosaic.TcCoe
open Idealize.SL.Sem
open Idealize.ShloMosaic.Pipeline (Dat Cfg Window)

variable (m : (ℓ : Loc nD τ sig) → Buf (Elt Ideal) ℓ) (c : Dev nD)

/-! ## The arguments, and a point's tokens -/

abbrev aQ : S2x2048x1024.Idx → EReal := m ((c : Thread nD τ).loc main_arg0)
abbrev aV : S2x16384x1024.Idx → EReal := m ((c : Thread nD τ).loc main_arg1)
abbrev aK : S2x16384x1024.Idx → EReal := m ((c : Thread nD τ).loc main_arg2)
abbrev aI : S2x2048.Idx → BitVec 32 := m ((c : Thread nD τ).loc main_arg3)
abbrev aC : S512x1024.Idx → EReal := m ((c : Thread nD τ).loc main_arg4)
abbrev aJ : S2x16384.Idx → BitVec 32 := m ((c : Thread nD τ).loc main_arg5)

theorem coords_val : ∀ t : Fin grid0.N, ((grid0.coords t) 0).val = t.val := by decide +kernel

/-- The batch row of point `t`, and its token `r`. -/
def pb (t : Fin grid0.N) : Fin 2 := ⟨t.val / 32, by have : t.val < 64 := t.isLt; omega⟩
def tok (t : Fin grid0.N) (r : Fin 64) : Fin 2048 := ⟨t.val % 32 * 64 + r.val, by omega⟩

/-! ## The table -/

/-- The table's word of a flat token. -/
theorem tbl_apply (n : Fin 4096) : (tbl m 0 : S4096.Idx → BitVec 32) (ix1 n)
    = Steps.bucket (aI m c (ix2 ⟨n.val / 2048, by omega⟩ ⟨n.val % 2048, by omega⟩)) := by
  obtain rfl : c = 0 := Subsingleton.elim _ _
  have h : (tbl m 0 : S4096.Idx → BitVec 32) = _ := Host.pre_v1 (fun b => m ((0 : Dev nD), b))
  rw [h]
  pointwise []

/-- The index of a token's word. -/
theorem word_ix (t : Fin grid0.N) (r : Fin 64) :
    (Rect.unit (s := S4096) (k0_off1 (grid0.coords t) (BitVec.ofNat 32 r.val)) S1.size (k0_off1_inb _ r)).idx (Shape.Idx.first (numel1_S1.symm ▸ Nat.one_pos))
      = ix1 ⟨t.val * 64 + r.val, by have : t.val < 64 := t.isLt; omega⟩ := by
  funext a
  refine Fin.ext ?_
  obtain rfl : a = 0 := Subsingleton.elim _ _
  have h : k0_off1 (grid0.coords t) (BitVec.ofNat 32 r.val) 0 = t.val * 64 + r.val := by
    show (BitVec.ofNat 32 ((grid0.coords t) 0).val * 64#32 + BitVec.ofNat 32 r.val).toNat = _
    have : t.val < 64 := t.isLt
    rw [coords_val]
    simp only [BitVec.toNat_add, BitVec.toNat_mul, BitVec.toNat_ofNat]
    omega
  show k0_off1 (grid0.coords t) (BitVec.ofNat 32 r.val) 0 + 1 * 0 = _
  rw [h]
  rfl

/-- The word that the body reads for token `r` at point `t`. -/
theorem word_eq (t : Fin grid0.N) (r : Fin 64) : Body.word (F := Ideal) (tbl m 0) (grid0.coords t) r = Steps.bucket (aI m c (ix2 (pb t) (tok t r))) := by
  unfold Body.word
  rw [word_ix, tbl_apply m c]
  have : t.val < 64 := t.isLt
  have h1 : (t.val * 64 + r.val) / 2048 = t.val / 32 := by omega
  have h2 : (t.val * 64 + r.val) % 2048 = t.val % 32 * 64 + r.val := by omega
  unfold pb tok
  simp only [h1, h2]

/-! ## The blocks -/

theorem ixq : ∀ t : Fin grid0.N, cc0_transform_0 (grid0.coords t) = ![t.val / 32, t.val % 32, 0, 0] := by decide +kernel
theorem ixt : ∀ t : Fin grid0.N, cc0_transform_1 (grid0.coords t) = ![t.val / 32, t.val % 32, 0, 0] := by decide +kernel
theorem ixc : ∀ t : Fin grid0.N, cc0_transform_130 (grid0.coords t) = ![0, 0] := by decide +kernel
theorem ixs : ∀ t : Fin grid0.N, cc0_transform_131 (grid0.coords t) = ![0, 0] := by decide +kernel
theorem ixo : ∀ t : Fin grid0.N, cc0_transform_132 (grid0.coords t) = ![t.val / 32, t.val % 32, 0, 0] := by decide +kernel
theorem ixm : ∀ t : Fin grid0.N, cc0_transform_133 (grid0.coords t) = ![t.val / 32, t.val % 32, 0, 0] := by decide +kernel

theorem flo : ∀ t : Fin grid0.N, Window.flushOf grid0 true cc0_transform_132 t = true := by decide +kernel
theorem flm : ∀ t : Fin grid0.N, Window.flushOf grid0 true cc0_transform_133 t = true := by decide +kernel

/-- The queries' block: its tokens' rows. -/
theorem q_apply (t : Fin grid0.N) (r : Fin 64) (d : Fin 1024) :
    (iblk m c 0 t : S1x1x64x1024.Idx → EReal) (ix4 0 0 r d) = aQ m c (ix3 (pb t) (tok t r) d) := by
  have h : (V m c main_v4 : S2x32x64x1024.Idx → EReal) = _ := Host.pre_v4 (fun b => m (c, b))
  have e : (((cfgM m).win 0).blk t).view.emb (ix4 0 0 r d) = (ix4 (pb t) ⟨t.val % 32, by omega⟩ r d : S2x32x64x1024.Idx) := by
    have hi : ((cfgM m).win 0).index t = ![t.val / 32, t.val % 32, 0, 0] := ixq t
    blk_ext [hi]
    rfl
  show (V m c main_v4 : S2x32x64x1024.Idx → EReal) ((((cfgM m).win 0).blk t).view.emb (ix4 0 0 r d)) = _
  rw [e, h]
  pointwise []
  rfl

/-- The identifiers' block. -/
theorem tid_apply (t : Fin grid0.N) (r : Fin 64) :
    (iblk m c 1 t : S1x1x64x1.Idx → BitVec 32) (ix4 0 0 r 0) = aI m c (ix2 (pb t) (tok t r)) := by
  have h : (V m c main_v5 : S2x32x64x1.Idx → BitVec 32) = _ := Host.pre_v5 (fun b => m (c, b))
  have e : (((cfgM m).win 1).blk t).view.emb (ix4 0 0 r 0) = (ix4 (pb t) ⟨t.val % 32, by omega⟩ r 0 : S2x32x64x1.Idx) := by
    have hi : ((cfgM m).win 1).index t = ![t.val / 32, t.val % 32, 0, 0] := ixt t
    blk_ext [hi]
    rfl
  show (V m c main_v5 : S2x32x64x1.Idx → BitVec 32) ((((cfgM m).win 1).blk t).view.emb (ix4 0 0 r 0)) = _
  rw [e, h]
  pointwise []
  rfl

/-- The codebook's block is the codebook. -/
theorem cb_apply (t : Fin grid0.N) (x : Fin 512) (d : Fin 1024) : (iblk m c 130 t : S512x1024.Idx → EReal) (ix2 x d) = aC m c (ix2 x d) := by
  have h : (V m c main_arg4 : S512x1024.Idx → EReal) = aC m c := V_arg m c main_arg4 (by tauto)
  have e : (((cfgM m).win 130).blk t).view.emb (ix2 x d) = (ix2 x d : S512x1024.Idx) := by
    have hi : ((cfgM m).win 130).index t = ![0, 0] := ixc t
    blk_ext [hi]
  show (V m c main_arg4 : S512x1024.Idx → EReal) ((((cfgM m).win 130).blk t).view.emb (ix2 x d)) = _
  rw [e, h]

/-- The block of stored identifiers is all of them, a bucket in a row. -/
theorem st_apply (t : Fin grid0.N) (x : Fin 1024) (s : Fin 32) : (iblk m c 131 t : S1024x32.Idx → BitVec 32) (ix2 x s)
    = aJ m c (ix2 ⟨x.val / 512, by omega⟩ ⟨x.val % 512 * 32 + s.val, by omega⟩) := by
  have h : (V m c main_v3 : S1024x32.Idx → BitVec 32) = _ := Host.pre_v3 (fun b => m (c, b))
  have e : (((cfgM m).win 131).blk t).view.emb (ix2 x s) = (ix2 x s : S1024x32.Idx) := by
    have hi : ((cfgM m).win 131).index t = ![0, 0] := ixs t
    blk_ext [hi]
  show (V m c main_v3 : S1024x32.Idx → BitVec 32) ((((cfgM m).win 131).blk t).view.emb (ix2 x s)) = _
  rw [e, h]
  pointwise []

/-- Where a token's row of the codebook starts. -/
theorem arow_ix (w : BitVec 32) (hw : w.toNat < 512) (h) (d : Fin 1024) :
    (Rect.unit (s := S512x1024) (k0_off2 w) S1x1024.size h).idx (ix2 0 d) = (ix2 ⟨w.toNat, hw⟩ d : S512x1024.Idx) := by
  funext a
  refine Fin.ext ?_
  match a with
  | ⟨0, _⟩ => rfl
  | ⟨1, _⟩ => show 0 + 1 * d.val = d.val; omega

/-- Where a token's row of stored identifiers starts. -/
theorem srow_ix (i : grid0.Coords) (w : BitVec 32) (hw : w.toNat < 512) (h) (s : Fin 32) (x : Fin 1024) (hx : x.val = (i 0).val / 32 * 512 + w.toNat) :
    (Rect.unit (s := S1024x32) (k0_off130 i w) S1x32.size h).idx (ix2 0 s) = (ix2 x s : S1024x32.Idx) := by
  funext a
  refine Fin.ext ?_
  match a with
  | ⟨0, _⟩ => show k0_off130 i w 0 + 1 * 0 = x.val; rw [Host.srow_off i w hw, hx]; omega
  | ⟨1, _⟩ => show 0 + 1 * s.val = s.val; omega

/-- The codebook's row of a token. -/
theorem a_apply (t : Fin grid0.N) (r : Fin 64) (hA) (d : Fin 1024) :
    Body.arow (F := Ideal) (tbl m 0) (iblk m c 130 t) hA (grid0.coords t) r (ix2 0 d) = Steps.Token.aRow (aI m c) (aC m c) (pb t) (tok t r) d := by
  have hb : (Body.word (F := Ideal) (tbl m 0) (grid0.coords t) r).toNat < 512 := tbl_lt m _
  have e := arow_ix (Body.word (F := Ideal) (tbl m 0) (grid0.coords t) r) hb (k0_off2_inb _ (hA _)) d
  refine (congrArg (iblk m c 130 t : S512x1024.Idx → EReal) e).trans ((cb_apply m c t _ d).trans ?_)
  unfold Steps.Token.aRow Steps.Token.cell
  simp only [word_eq m c t r]

/-- The stored identifiers of a token's bucket. -/
theorem s_apply (t : Fin grid0.N) (r : Fin 64) (hS) (s : Fin 32) :
    Body.srow (F := Ideal) (tbl m 0) (iblk m c 131 t) (grid0.coords t) hS r (ix2 0 s) = Steps.Token.sRow (aI m c) (aJ m c) (pb t) (tok t r) s := by
  have hb : (Body.word (F := Ideal) (tbl m 0) (grid0.coords t) r).toNat < 512 := tbl_lt m _
  have hp := Host.row_lt (grid0.coords t)
  have e := srow_ix (grid0.coords t) (Body.word (F := Ideal) (tbl m 0) (grid0.coords t) r) hb (k0_off130_inb _ _ (hS _)) s
    ⟨((grid0.coords t) 0).val / 32 * 512 + (Body.word (F := Ideal) (tbl m 0) (grid0.coords t) r).toNat, by omega⟩ rfl
  refine (congrArg (iblk m c 131 t : S1024x32.Idx → BitVec 32) e).trans ((st_apply m c t _ s).trans ?_)
  have hw := congrArg BitVec.toNat (word_eq m c t r)
  have hc := coords_val t
  refine congrArg (aJ m c) (congrArg₂ (fun (x : Fin 2) (y : Fin 16384) => (ix2 x y : S2x16384.Idx)) (Fin.ext ?_) (Fin.ext ?_))
  · show (((grid0.coords t) 0).val / 32 * 512 + (Body.word (F := Ideal) (tbl m 0) (grid0.coords t) r).toNat) / 512 = t.val / 32
    omega
  · show (((grid0.coords t) 0).val / 32 * 512 + (Body.word (F := Ideal) (tbl m 0) (grid0.coords t) r).toNat) % 512 * 32 + s.val
      = (Steps.bucket (aI m c (ix2 (pb t) (tok t r)))).toNat * 32 + s.val
    omega

/-- Where the blocks of a token's keys and values lie. -/
abbrev kvRect (t : Fin grid0.N) (r : Fin 64) : Rect S2x16384x1024 :=
  Rect.block (s := S2x16384x1024) S1x32x1024.size (Host.kvIx (tbl m) (grid0.coords t) r) (Host.kvOk (tbl m) (tbl_lt m) r (grid0.coords t)).1

set_option maxHeartbeats 8000000 in
theorem kX_eq (t : Fin grid0.N) (r : Fin 64) : kX m c t r = fun y => (V m c main_arg2 : S2x16384x1024.Idx → EReal) ((kvRect m t r).idx y) := by
  fin_cases r <;> rfl

set_option maxHeartbeats 8000000 in
theorem vX_eq (t : Fin grid0.N) (r : Fin 64) : vX m c t r = fun y => (V m c main_arg1 : S2x16384x1024.Idx → EReal) ((kvRect m t r).idx y) := by
  fin_cases r <;> rfl

theorem kv_ix (t : Fin grid0.N) (r : Fin 64) (s : Fin 32) (d : Fin 1024) :
    (kvRect m t r).idx (ix3 0 s d) = (ix3 (pb t) (Steps.Token.slot (aI m c) (pb t) (tok t r) s) d : S2x16384x1024.Idx) := by
  have hw := congrArg BitVec.toNat (word_eq m c t r)
  have hc := coords_val t
  have hr := Host.rowW_toNat (grid0.coords t)
  funext a
  refine Fin.ext ?_
  match a with
  | ⟨0, _⟩ => show (Host.rowW (grid0.coords t)).toNat * 1 + 1 * 0 = t.val / 32; rw [hr, hc]; omega
  | ⟨1, _⟩ =>
    show (Body.word (F := Ideal) (tbl m 0) (grid0.coords t) r).toNat * 32 + 1 * s.val = (Steps.bucket (aI m c (ix2 (pb t) (tok t r)))).toNat * 32 + s.val
    omega
  | ⟨2, _⟩ => show 0 * 1024 + 1 * d.val = d.val; omega

theorem k_apply (t : Fin grid0.N) (r : Fin 64) (s : Fin 32) (d : Fin 1024) :
    kX m c t r (ix3 0 s d) = Steps.Token.kRow (aK m c) (aI m c) (pb t) (tok t r) s d := by
  rw [kX_eq]
  exact congr (V_arg m c main_arg2 (by tauto)) (kv_ix m c t r s d)

theorem v_apply (t : Fin grid0.N) (r : Fin 64) (s : Fin 32) (d : Fin 1024) :
    vX m c t r (ix3 0 s d) = Steps.Token.kRow (aV m c) (aI m c) (pb t) (tok t r) s d := by
  rw [vX_eq]
  exact congr (V_arg m c main_arg1 (by tauto)) (kv_ix m c t r s d)

/-! ## The body's block at a token -/

theorem scores_row (t : Fin grid0.N) (r : Fin 64) :
    (fun s : Fin 32 => scoresB m c t (ix2 r s)) = Steps.Token.scoreK (aQ m c) (aK m c) (aI m c) (aC m c) (pb t) (tok t r) := by
  funext s
  unfold scoresB
  rw [Rows.scoresV_apply]
  unfold Steps.Token.scoreK
  have hq := funext fun d => q_apply m c t r d
  have ha := funext fun d => a_apply m c t r (fun _ => Host.chkA _ (tbl_lt m _)) d
  have hk := funext fun s => funext fun d => k_apply m c t r s d
  exact congrFun (congrArg₂ Steps.Token.score (congrArg₂ (Steps.Token.uq Steps.Token.epsSq) hq ha) hk) s

theorem masks_row (t : Fin grid0.N) (r : Fin 64) :
    (fun s : Fin 32 => masksB m c t (ix2 r s)) = Steps.Token.maskK (aI m c) (aJ m c) (pb t) (tok t r) := by
  funext s
  unfold masksB
  rw [Rows.masksV_apply]
  unfold Steps.Token.maskK
  have hs := funext fun s => s_apply m c t r (fun _ => Host.chkS _ _ (tbl_lt m _)) s
  exact congrFun (congrArg₂ Steps.Token.mask hs (tid_apply m c t r)) s

theorem out_row (t : Fin grid0.N) (r : Fin 64) (d : Fin 1024) :
    outB m c t (ix4 0 0 r d) = Steps.Token.outK (aQ m c) (aV m c) (aK m c) (aI m c) (aC m c) (aJ m c) (pb t) (tok t r) d := by
  unfold outB
  rw [Rows.outV_apply, scores_row, masks_row]
  unfold Steps.Token.outK
  exact congrArg (fun f => Steps.Token.val _ _ f d) (funext fun s => funext fun d => v_apply m c t r s d)

theorem sim_row (t : Fin grid0.N) (r : Fin 64) (z : Fin 128) :
    simB m c t (ix4 0 0 r z) = Steps.Token.simK (aQ m c) (aK m c) (aI m c) (aC m c) (aJ m c) (pb t) (tok t r) := by
  unfold simB
  rw [Rows.simV_apply, scores_row, masks_row]
  rfl

end Cert.KernelIdeal.Blocks

end
-- ==== Proof.Steps.KernelIdealValue.lean ====
/- What the run leaves in the results, index by index: the outputs' arrays, and the host operations after the call. -/
module

public import proofs.«01_k».proof.Proof.Steps.KernelIdealBlocks
public import Idealize.ShloMosaic.Lib.Pipeline.ValueKit

@[expose] public section

set_option maxRecDepth 65536

noncomputable section

namespace Cert.KernelIdeal.Value

open Cert.KernelIdeal.Gen Cert.KernelIdeal.Kit Cert.KernelIdeal.Entry Cert.KernelIdeal.Run Cert.KernelIdeal.Blocks
open Idealize.ShloMosaic Idealize.ShloMosaic.TcCoe
open Idealize.SL.Sem
open Idealize.ShloMosaic.Pipeline (Dat Cfg Window)

variable (m : (ℓ : Loc nD τ sig) → Buf (Elt Ideal) ℓ) (c : Dev nD)

/-! ## The outputs' arrays -/

/-- The token of a place among the blocks. -/
def gt (b : Fin 32) (r : Fin 64) : Fin 2048 := ⟨b.val * 64 + r.val, by omega⟩

/-- The point that works on a batch row's block. -/
def pt (a : Fin 2) (b : Fin 32) : Fin grid0.N := ⟨a.val * 32 + b.val, show a.val * 32 + b.val < 64 by omega⟩

theorem pt_div (a : Fin 2) (b : Fin 32) : (pt a b).val / 32 = a.val := by
  show (a.val * 32 + b.val) / 32 = a.val
  omega

theorem pt_mod (a : Fin 2) (b : Fin 32) : (pt a b).val % 32 = b.val := by
  show (a.val * 32 + b.val) % 32 = b.val
  omega

/-- What the outputs' arrays end as. -/
def outG : S2x32x64x1024.Idx → EReal := fun i =>
  Steps.Token.outK (aQ m c) (aV m c) (aK m c) (aI m c) (aC m c) (aJ m c) (i 0) (gt (i 1) (i 2)) (i 3)
def simG : S2x32x64x128.Idx → EReal := fun i =>
  Steps.Token.simK (aQ m c) (aK m c) (aI m c) (aC m c) (aJ m c) (i 0) (gt (i 1) (i 2))

theorem emb_out (t : Fin grid0.N) (r : Fin 64) (d : Fin 1024) :
    (((cfgM m).win 132).blk t).view.emb (ix4 0 0 r d) = (ix4 (pb t) ⟨t.val % 32, by omega⟩ r d : S2x32x64x1024.Idx) := by
  have hi : ((cfgM m).win 132).index t = ![t.val / 32, t.val % 32, 0, 0] := ixo t
  blk_ext [hi]
  rfl

theorem emb_sim (t : Fin grid0.N) (r : Fin 64) (z : Fin 128) :
    (((cfgM m).win 133).blk t).view.emb (ix4 0 0 r z) = (ix4 (pb t) ⟨t.val % 32, by omega⟩ r z : S2x32x64x128.Idx) := by
  have hi : ((cfgM m).win 133).index t = ![t.val / 32, t.val % 32, 0, 0] := ixm t
  blk_ext [hi]
  rfl

theorem ix4_unit {n0 n1 : Nat} (y : (⟨4, ![1, 1, n0, n1]⟩ : Shape).Idx) : y = ix4 0 0 (y 2) (y 3) := by
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem out_put (t : Fin grid0.N) (y : S1x1x64x1024.Idx) :
    outB m c t y = outG m c ((((cfgM m).win 132).blk t).view.emb y) := by
  obtain ⟨r, d, rfl⟩ : ∃ (r : Fin 64) (d : Fin 1024), y = ix4 0 0 r d := ⟨_, _, ix4_unit y⟩
  rw [out_row, emb_out]
  rfl

theorem sim_put (t : Fin grid0.N) (y : S1x1x64x128.Idx) :
    simB m c t y = simG m c ((((cfgM m).win 133).blk t).view.emb y) := by
  obtain ⟨r, d, rfl⟩ : ∃ (r : Fin 64) (d : Fin 128), y = ix4 0 0 r d := ⟨_, _, ix4_unit y⟩
  rw [sim_row, emb_sim]
  rfl

theorem out_arr : ((dats m 0 c).arrAt 132 grid0.N : S2x32x64x1024.Idx → EReal) = outG m c := by
  refine Dat.arrAt_eq_of_emb (dats m 0 c) 132 (outG m c) (fun t _ y => out_put m c t y) fun (i : S2x32x64x1024.Idx) => ?_
  obtain ⟨a, b, r, d, rfl⟩ : ∃ (a : Fin 2) (b : Fin 32) (r : Fin 64) (d : Fin 1024), i = ix4 a b r d := ⟨_, _, _, _, eq_ix4 i⟩
  refine ⟨pt a b, flo _, ?_⟩
  have e : (((cfgM m).win 132).blk (pt a b)).view.emb (ix4 0 0 r d) = (ix4 a b r d : S2x32x64x1024.Idx) :=
    (emb_out m (pt a b) r d).trans (congrArg₂ (fun (x : Fin 2) (y : Fin 32) => (ix4 x y r d : S2x32x64x1024.Idx)) (Fin.ext (pt_div a b)) (Fin.ext (pt_mod a b)))
  exact e ▸ View.emb_mem_set _ _

theorem sim_arr : ((dats m 0 c).arrAt 133 grid0.N : S2x32x64x128.Idx → EReal) = simG m c := by
  refine Dat.arrAt_eq_of_emb (dats m 0 c) 133 (simG m c) (fun t _ y => sim_put m c t y) fun (i : S2x32x64x128.Idx) => ?_
  obtain ⟨a, b, r, d, rfl⟩ : ∃ (a : Fin 2) (b : Fin 32) (r : Fin 64) (d : Fin 128), i = ix4 a b r d := ⟨_, _, _, _, eq_ix4 i⟩
  refine ⟨pt a b, flm _, ?_⟩
  have e : (((cfgM m).win 133).blk (pt a b)).view.emb (ix4 0 0 r d) = (ix4 a b r d : S2x32x64x128.Idx) :=
    (emb_sim m (pt a b) r d).trans (congrArg₂ (fun (x : Fin 2) (y : Fin 32) => (ix4 x y r d : S2x32x64x128.Idx)) (Fin.ext (pt_div a b)) (Fin.ext (pt_mod a b)))
  exact e ▸ View.emb_mem_set _ _

/-! ## The results -/

/-- What the results end as. -/
def resOut : S2x2048x1024.Idx → EReal := fun i =>
  Steps.Token.outK (aQ m c) (aV m c) (aK m c) (aI m c) (aC m c) (aJ m c) (i 0) (i 1) (i 2)
def resSim : S2x2048.Idx → EReal := fun i => Steps.Token.simK (aQ m c) (aK m c) (aI m c) (aC m c) (aJ m c) (i 0) (i 1)

theorem gt_split (t : Fin 2048) (h h') : gt ⟨t.val / 64, h⟩ ⟨t.val % 64, h'⟩ = t :=
  Fin.ext (show t.val / 64 * 64 + t.val % 64 = t.val by omega)

theorem out_flat : shapeCast S2x2048x1024 (outG m c) shapeCasts_S2x32x64x1024_S2x2048x1024 = resOut m c := by
  funext (i : S2x2048x1024.Idx)
  obtain ⟨b, t, d, rfl⟩ : ∃ (b : Fin 2) (t : Fin 2048) (d : Fin 1024), i = ix3 b t d := ⟨_, _, _, eq_ix3 i⟩
  pointwise []
  show Steps.Token.outK _ _ _ _ _ _ _ (gt _ _) _ = Steps.Token.outK _ _ _ _ _ _ b t d
  exact congrArg (fun t => Steps.Token.outK (aQ m c) (aV m c) (aK m c) (aI m c) (aC m c) (aJ m c) b t d) (gt_split t _ _)

theorem sim_flat : shapeCast S2x2048 (shapeCast S2x32x64 (extractStridedSlice S2x32x64x1 ![0, 0, 0, 0] (simG m c) slices_S2x32x64x128_S2x32x64x1_0_0_0_0)
    shapeCasts_S2x32x64x1_S2x32x64) shapeCasts_S2x32x64_S2x2048 = resSim m c := by
  funext (i : S2x2048.Idx)
  obtain ⟨b, t, rfl⟩ : ∃ (b : Fin 2) (t : Fin 2048), i = ix2 b t := ⟨_, _, eq_ix2 i⟩
  pointwise []
  show Steps.Token.simK _ _ _ _ _ _ (gt _ _) = Steps.Token.simK _ _ _ _ _ b t
  exact congrArg (fun t => Steps.Token.simK (aQ m c) (aK m c) (aI m c) (aC m c) (aJ m c) b t) (gt_split t _ _)

theorem tail_out (W : Valuation τ sig (Elt Ideal)) : StableHlo.after (List.flatten [hostOps1]) W (Proc.devRef .tc main_v7)
    = shapeCast S2x2048x1024 (W (Proc.devRef .tc main_v6_0) : S2x32x64x1024.Idx → EReal) shapeCasts_S2x32x64x1024_S2x2048x1024 := by
  simp only [List.flatten_cons, List.flatten_nil, List.append_nil, List.cons_append, List.nil_append, hostOps1]
  after_reads_simp
  rfl

theorem tail_sim (W : Valuation τ sig (Elt Ideal)) : StableHlo.after (List.flatten [hostOps1]) W (Proc.devRef .tc main_v10)
    = shapeCast S2x2048 (shapeCast S2x32x64 (extractStridedSlice S2x32x64x1 ![0, 0, 0, 0] (W (Proc.devRef .tc main_v6_1) : S2x32x64x128.Idx → EReal)
      slices_S2x32x64x128_S2x32x64x1_0_0_0_0) shapeCasts_S2x32x64x1_S2x32x64) shapeCasts_S2x32x64_S2x2048 := by
  simp only [List.flatten_cons, List.flatten_nil, List.append_nil, List.cons_append, List.nil_append, hostOps1]
  after_reads_simp
  rfl

theorem out_alone : ∀ w : Fin 134, w ≠ 132 → Pipeline.arrRef spec0 w ≠ Pipeline.arrRef spec0 132 := by decide +kernel
theorem sim_alone : ∀ w : Fin 134, w ≠ 133 → Pipeline.arrRef spec0 w ≠ Pipeline.arrRef spec0 133 := by decide +kernel

/-- The arrays of the call read back after it. -/
theorem after_arr (w : Fin 134) : Pipeline.withArrays spec0 c (V0 m c) (fun w => (dats m 0 c).arrAt w grid0.N) (Proc.devRef .tc (Pipeline.arrRef spec0 w))
    = (dats m 0 c).arrAt w grid0.N := by
  refine Pipeline.withArrays_arr_shared spec0 c (V0 m c) _ (fun u u' hu he => ?_) w
  by_cases h : u = 132
  · subst h; exact absurd he.symm (out_alone u' hu.symm)
  by_cases h' : u = 133
  · subst h'; exact absurd he.symm (sim_alone u' hu.symm)
  exact ((dats m 0 c).arrAt_in u (isOut_iff u h h') _).trans (A_eq m c u)

variable (ρ : Dev nD → PrngReg)

theorem after_out : Pipeline.afterTail pcfgs (fun _ => adm m) (dats m) 0 (V0 m) [hostOps1] c main_v7 = resOut m c := by
  have h : Pipeline.withArrays spec0 c (V0 m c) (fun w => (dats m 0 c).arrAt w grid0.N) (Proc.devRef .tc main_v6_0) = outG m c :=
    (after_arr m c 132).trans (out_arr m c)
  unfold Pipeline.afterTail
  refine (tail_out _).trans (Eq.trans ?_ (out_flat m c))
  exact congrArg (fun x : S2x32x64x1024.Idx → EReal => shapeCast S2x2048x1024 x shapeCasts_S2x32x64x1024_S2x2048x1024) h

theorem after_sim : Pipeline.afterTail pcfgs (fun _ => adm m) (dats m) 0 (V0 m) [hostOps1] c main_v10 = resSim m c := by
  have h : Pipeline.withArrays spec0 c (V0 m c) (fun w => (dats m 0 c).arrAt w grid0.N) (Proc.devRef .tc main_v6_1) = simG m c :=
    (after_arr m c 133).trans (sim_arr m c)
  unfold Pipeline.afterTail
  refine (tail_sim _).trans (Eq.trans ?_ (sim_flat m c))
  exact congrArg (fun x : S2x32x64x128.Idx → EReal => shapeCast S2x2048 (shapeCast S2x32x64 (extractStridedSlice S2x32x64x1 ![0, 0, 0, 0] x
    slices_S2x32x64x128_S2x32x64x1_0_0_0_0) shapeCasts_S2x32x64x1_S2x32x64) shapeCasts_S2x32x64_S2x2048) h

/-- The run's results. -/
theorem run : θ_run defs (onTc (τ := τ) (main (F := Ideal))) ⟨m, fun _ => 0, ρ⟩ (fun r => ∀ c : Dev nD,
      r.2.mem ((c.tc : Thread nD τ).loc main_v7) = resOut m c
      ∧ r.2.mem ((c.tc : Thread nD τ).loc main_v10) = resSim m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  exact (θ_run defs _ _).mono (fun r h c =>
    ⟨((h.1 c).2 main_v7 (by decide +kernel : main_v7 ∈ Pipeline.restRefs sig spec0)).trans (after_out m c),
     ((h.1 c).2 main_v10 (by decide +kernel : main_v10 ∈ Pipeline.restRefs sig spec0)).trans (after_sim m c), args_of m h.1 c⟩) (launch m ρ)

end Cert.KernelIdeal.Value

end
-- ==== Proof.Steps.RefRead.lean ====
/- What the reference's rows are, index by index. -/
module

public import proofs.«01_k».proof.Proof.Gen.ReferenceIdeal.Run
public import proofs.«01_k».proof.Proof.Steps.Words
public import proofs.«01_k».proof.Proof.Steps.Token
public import Idealize.ShloMosaic.Lib.Pointwise

@[expose] public section

set_option maxRecDepth 65536

noncomputable section

namespace Cert.ReferenceIdeal.Read

open Cert.ReferenceIdeal.Gen Cert.ReferenceIdeal.Value
open Idealize.ShloMosaic Idealize.ShloMosaic.TcCoe

/-- Rows of the codebook taken at the buckets. -/
theorem gather_codebook {α : Type} (x : S512x1024.Idx → α) (idx : IVec S2x2048x1 32) (b : Fin 2) (t : Fin 2048) (d : Fin 1024) :
    Host.gather gather_S512x1024_S2x2048x1_S2x2048x1024_2_0_n_n_0_2_11024 x idx (ix3 b t d)
      = x (ix2 ⟨min (idx (ix3 b t 0)).toInt.toNat 511, by omega⟩ d) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (by decide), GatherDims.offCoord_eq_zero _ _ _ (by decide)]
    simp only [Nat.add_zero]
    unfold GatherDims.start
    rw [dif_pos (by decide)]
    refine congrArg (fun y => min (idx y).toInt.toNat 511) ?_
    funext b; refine Fin.ext ?_
    match b with
    | ⟨0, _⟩ => rfl
    | ⟨1, _⟩ => rfl
    | ⟨2, _⟩ => rfl
  · unfold GatherDims.start GatherDims.offCoord
    rw [GatherDims.batchCoord_eq_zero _ _ _ (by decide), dif_neg (by decide), dif_pos (by decide)]
    simp only [Nat.zero_add]
    rfl

/-- Slots taken along the second axis. -/
theorem gather_slots {α : Type} (x : S2x16384x1024.Idx → α) (idx : IVec S2x65536x1 32) (b : Fin 2) (t : Fin 65536) (d : Fin 1024) :
    Host.gather gather_S2x16384x1024_S2x65536x1_S2x65536x1024_2_1_0_0_1_2_111024 x idx (ix3 b t d)
      = x (ix3 b ⟨min (idx (ix3 b t 0)).toInt.toNat 16383, by omega⟩ d) := by
  unfold Host.gather
  congr 1
  funext a
  refine Fin.ext ?_
  show GatherDims.start _ _ idx a + GatherDims.batchCoord _ _ a + GatherDims.offCoord _ _ a = _
  have h01 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    refine congrArg (fun y => min (idx y).toInt.toNat 16383) ?_
    funext b; refine Fin.ext ?_
    match b with
    | ⟨0, _⟩ => rfl
    | ⟨1, _⟩ => rfl
    | ⟨2, _⟩ => rfl
  · unfold GatherDims.start GatherDims.offCoord
    rw [GatherDims.batchCoord_eq_zero _ _ _ (by decide), dif_neg (by decide), dif_pos (by decide)]
    simp only [Nat.zero_add]
    rfl

/-- Slot identifiers taken along the second axis. -/
theorem gather_ids {α : Type} (x : S2x16384.Idx → α) (idx : IVec S2x65536x1 32) (b : Fin 2) (t : Fin 65536) :
    Host.gather gather_S2x16384_S2x65536x1_S2x65536_n_1_0_0_1_2_11 x idx (ix2 b t)
      = x (ix2 b ⟨min (idx (ix3 b t 0)).toInt.toNat 16383, by omega⟩) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.start_batching _ _ _ _ (by decide), GatherDims.offCoord_eq_zero _ _ _ (by decide)]
    unfold GatherDims.batchCoord
    rw [dif_pos (by decide)]
    simp only [Nat.zero_add, Nat.add_zero]
    rfl
  · rw [GatherDims.batchCoord_eq_zero _ _ _ (by decide), GatherDims.offCoord_eq_zero _ _ _ (by decide)]
    simp only [Nat.add_zero]
    unfold GatherDims.start
    rw [dif_pos (by decide)]
    refine congrArg (fun y => min (idx y).toInt.toNat 16383) ?_
    funext b; refine Fin.ext ?_
    match b with
    | ⟨0, _⟩ => rfl
    | ⟨1, _⟩ => rfl
    | ⟨2, _⟩ => rfl

/-! ## Index words -/

theorem slt_zero (v : BitVec 32) (h : v.toNat < 16384) : IntOp.cmpi CmpIPredicate.slt v 0#32 = 0#1 := by
  have : v.slt 0#32 = false := by
    rw [BitVec.slt_eq_decide]
    have : v.toInt = v.toNat := BitVec.toInt_eq_toNat_of_lt (by omega)
    simp [this]
  show BitVec.ofBool (v.slt 0#32) = _
  rw [this]; rfl

theorem sge_zero (v : BitVec 32) (h : v.toNat < 16384) : IntOp.cmpi CmpIPredicate.sge v 0#32 = 1#1 := by
  have : BitVec.sle 0#32 v = true := by
    rw [BitVec.sle_eq_decide]
    have : v.toInt = v.toNat := BitVec.toInt_eq_toNat_of_lt (by omega)
    simp [this]
  show BitVec.ofBool (BitVec.sle 0#32 v) = _
  rw [this]; rfl

theorem sle_last (v : BitVec 32) (h : v.toNat < 16384) : IntOp.cmpi CmpIPredicate.sle v 16383#32 = 1#1 := by
  have : BitVec.sle v 16383#32 = true := by
    rw [BitVec.sle_eq_decide]
    have h1 : v.toInt = v.toNat := BitVec.toInt_eq_toNat_of_lt (by omega)
    have h2 : (16383#32).toInt = 16383 := by decide
    rw [h1, h2]
    exact decide_eq_true (by omega)
  show BitVec.ofBool (BitVec.sle v 16383#32) = _
  rw [this]; rfl

theorem toInt_toNat (v : BitVec 32) (h : v.toNat < 16384) : v.toInt.toNat = v.toNat := by
  rw [BitVec.toInt_eq_toNat_of_lt (by omega)]; rfl

theorem flat_toNat (w : BitVec 32) (hw : w.toNat < 512) (s : Nat) (hs : s < 32) :
    (w * 32#32 + BitVec.ofNat 32 s).toNat = w.toNat * 32 + s := by
  simp only [BitVec.toNat_add, BitVec.toNat_mul, BitVec.toNat_ofNat]
  omega

/-- The check that every index is in range, at one index. -/
theorem inRange (I : IVec S2x65536x1 32) (b : Fin 2) (x : Fin 65536) (h : (I (ix3 b x 0)).toNat < 16384) :
    Finset.fold IntOp.andi 1#1 (fun i => IntOp.andi (IntOp.cmpi CmpIPredicate.sge (I i) 0#32) (IntOp.cmpi CmpIPredicate.sle (I i) 16383#32))
      {i | reducesTo_S2x65536x1_S2x65536_d2.drop i = ix2 b x} = 1#1 := by
  refine (Shape.ReducesTo.fold_fiber_r3_a2 (n0 := 2) (n1 := 65536) (n2 := 1) reducesTo_S2x65536x1_S2x65536_d2 (ix2 b x) _ _ _).trans ?_
  have hu : (Finset.univ : Finset (Fin 1)) = {0} := rfl
  rw [hu, Finset.fold_singleton]
  show IntOp.andi (IntOp.andi (IntOp.cmpi _ (I (ix3 b x 0)) _) (IntOp.cmpi _ (I (ix3 b x 0)) _)) _ = _
  rw [sge_zero _ h, sle_last _ h]
  rfl

variable (V0 : Valuation τ sig (Elt Ideal))

theorem bucket_apply (b : Fin 2) (t : Fin 2048) :
    res_main_v0 V0 (ix2 b t) = Steps.bucket ((V0 (Proc.devRef .tc main_arg3) : S2x2048.Idx → BitVec 32) (ix2 b t)) :=
  Steps.bucket_word _

/-- The arguments. -/
abbrev aQ : S2x2048x1024.Idx → EReal := V0 (Proc.devRef .tc main_arg0)
abbrev aV : S2x16384x1024.Idx → EReal := V0 (Proc.devRef .tc main_arg1)
abbrev aK : S2x16384x1024.Idx → EReal := V0 (Proc.devRef .tc main_arg2)
abbrev aI : S2x2048.Idx → BitVec 32 := V0 (Proc.devRef .tc main_arg3)
abbrev aC : S512x1024.Idx → EReal := V0 (Proc.devRef .tc main_arg4)
abbrev aJ : S2x16384.Idx → BitVec 32 := V0 (Proc.devRef .tc main_arg5)

abbrev slot (b : Fin 2) (t : Fin 2048) (s : Fin 32) : Fin 16384 := Steps.Token.slot (aI V0) b t s
abbrev cell (b : Fin 2) (t : Fin 2048) : Fin 512 := Steps.Token.cell (aI V0) b t

/-- Place `s` of token `t` along the flat axis. -/
def flatAt (t : Fin 2048) (s : Fin 32) : Fin 65536 := ⟨t.val * 32 + s.val, by omega⟩

theorem v21_apply (b : Fin 2) (t : Fin 2048) (s : Fin 32) :
    ((res_main_v21 V0 : S2x65536.Idx → BitVec 32) (ix2 b (flatAt t s))).toNat = (slot V0 b t s).val := by
  have h : (res_main_v21 V0 : S2x65536.Idx → BitVec 32) (ix2 b (flatAt t s))
      = (Steps.bucket ((V0 (Proc.devRef .tc main_arg3) : S2x2048.Idx → BitVec 32) (ix2 b t))) * 32#32 + BitVec.ofNat 32 s.val := by
    rw [← bucket_apply V0 b t]
    have h1 : (flatAt t s).val / 32 = t.val := by show (t.val * 32 + s.val) / 32 = _; omega
    have h2 : (flatAt t s).val % 32 = s.val := by show (t.val * 32 + s.val) % 32 = _; omega
    pointwise [res_main_v21]
    simp only [h1, h2]
    rfl
  rw [h, flat_toNat _ (Steps.bucket_lt _) _ s.isLt]
  rfl

theorem call2_apply (b : Fin 2) (t : Fin 2048) (s : Fin 32) :
    ((res_main_call2_v4 V0 : S2x65536x1.Idx → BitVec 32) (ix3 b (flatAt t s) 0)).toNat = (slot V0 b t s).val := by
  have h := v21_apply V0 b t s
  rw [← h]
  pointwise [res_main_call2_v4, res_main_v22]
  rw [slt_zero _ (by rw [h]; exact (slot V0 b t s).isLt)]
  rfl

theorem call3_apply (b : Fin 2) (t : Fin 2048) (s : Fin 32) :
    ((res_main_call3_v4 V0 : S2x65536x1.Idx → BitVec 32) (ix3 b (flatAt t s) 0)).toNat = (slot V0 b t s).val :=
  call2_apply V0 b t s

theorem call5_apply (b : Fin 2) (t : Fin 2048) (s : Fin 32) :
    ((res_main_call5_v5 V0 : S2x65536x1.Idx → BitVec 32) (ix3 b (flatAt t s) 0)).toNat = (slot V0 b t s).val := by
  have h := v21_apply V0 b t s
  rw [← h]
  pointwise [res_main_call5_v5]
  rw [slt_zero _ (by rw [h]; exact (slot V0 b t s).isLt)]
  rfl

/-- A gathered slot, the range check passed. -/
theorem take (I : IVec S2x65536x1 32) (x : S2x16384x1024.Idx → EReal) (z : EReal) (b : Fin 2) (t : Fin 2048) (s : Fin 32) (d : Fin 1024)
    (h : (I (ix3 b (flatAt t s) 0)).toNat = (slot V0 b t s).val) :
    Scalar.select (Finset.fold IntOp.andi 1#1 (fun i => IntOp.andi (IntOp.cmpi CmpIPredicate.sge (I i) 0#32) (IntOp.cmpi CmpIPredicate.sle (I i) 16383#32))
      {i | reducesTo_S2x65536x1_S2x65536_d2.drop i = ix2 b (flatAt t s)})
      (Host.gather gather_S2x16384x1024_S2x65536x1_S2x65536x1024_2_1_0_0_1_2_111024 x I (ix3 b (flatAt t s) d)) z
      = x (ix3 b (slot V0 b t s) d) := by
  have hl : (I (ix3 b (flatAt t s) 0)).toNat < 16384 := by rw [h]; exact (slot V0 b t s).isLt
  rw [inRange I b _ hl, gather_slots]
  show x _ = x _
  congr 2
  refine Fin.ext ?_
  show min (I (ix3 b (flatAt t s) 0)).toInt.toNat 16383 = _
  rw [toInt_toNat _ hl, h]
  have := (slot V0 b t s).isLt
  omega

theorem take_id (I : IVec S2x65536x1 32) (x : S2x16384.Idx → BitVec 32) (z : BitVec 32) (b : Fin 2) (t : Fin 2048) (s : Fin 32)
    (h : (I (ix3 b (flatAt t s) 0)).toNat = (slot V0 b t s).val) :
    Scalar.select (Finset.fold IntOp.andi 1#1 (fun i => IntOp.andi (IntOp.cmpi CmpIPredicate.sge (I i) 0#32) (IntOp.cmpi CmpIPredicate.sle (I i) 16383#32))
      {i | reducesTo_S2x65536x1_S2x65536_d2.drop i = ix2 b (flatAt t s)})
      (Host.gather gather_S2x16384_S2x65536x1_S2x65536_n_1_0_0_1_2_11 x I (ix2 b (flatAt t s))) z
      = x (ix2 b (slot V0 b t s)) := by
  have hl : (I (ix3 b (flatAt t s) 0)).toNat < 16384 := by rw [h]; exact (slot V0 b t s).isLt
  rw [inRange I b _ hl, gather_ids]
  show x _ = x _
  congr 2
  refine Fin.ext ?_
  show min (I (ix3 b (flatAt t s) 0)).toInt.toNat 16383 = _
  rw [toInt_toNat _ hl, h]
  have := (slot V0 b t s).isLt
  omega

/-! ## Rows -/

abbrev qRow (b : Fin 2) (t : Fin 2048) : Fin 1024 → EReal := Steps.Token.qRow (aQ V0) b t
abbrev aRow (b : Fin 2) (t : Fin 2048) : Fin 1024 → EReal := Steps.Token.aRow (aI V0) (aC V0) b t
abbrev vRow (b : Fin 2) (t : Fin 2048) : Fin 32 → Fin 1024 → EReal := Steps.Token.kRow (aV V0) (aI V0) b t
abbrev scoreRow (b : Fin 2) (t : Fin 2048) : Fin 32 → EReal := Steps.Token.scoreR (aQ V0) (aK V0) (aI V0) (aC V0) b t
abbrev maskRow (b : Fin 2) (t : Fin 2048) : Fin 32 → EReal := Steps.Token.masksR (aI V0) (aJ V0) b t

theorem v27_apply (b : Fin 2) (t : Fin 2048) (s : Fin 32) (d : Fin 1024) :
    (res_main_v27 V0 : S2x2048x32x1024.Idx → EReal) (ix4 b t s d) = vRow V0 b t s d := by
  pointwise [res_main_v27]
  exact take V0 (res_main_call3_v4 V0) _ _ b t s d (call3_apply V0 b t s)

theorem v44_apply (b : Fin 2) (t : Fin 2048) (s : Fin 32) :
    (res_main_v44 V0 : S2x2048x32.Idx → EReal) (ix3 b t s) = maskRow V0 b t s := by
  pointwise [res_main_v44]
  exact congrArg (fun w => (FloatOps.uitofp .f32 (IntOp.cmpi CmpIPredicate.eq (aI V0 (ix2 b t)) w) : Ideal .f32))
    (take_id V0 (res_main_call5_v5 V0) _ _ b t s (call5_apply V0 b t s))

theorem v46_apply (b : Fin 2) (t : Fin 2048) :
    (res_main_v46 V0 : S2x2048x1.Idx → EReal) (ix3 b t 0) = ∑ x, maskRow V0 b t x := by
  pointwise [res_main_v46]
  exact congrArg (fun f : Fin 32 → EReal => ∑ x, f x) (funext fun x => v44_apply V0 b t x)

theorem v48_apply (b : Fin 2) (t : Fin 2048) :
    (res_main_v48 V0 : S2x2048x1.Idx → BitVec 1) (ix3 b t 0) = Steps.Token.found (maskRow V0 b t) := by
  pointwise [res_main_v48]
  exact congrArg (fun y : EReal => BitVec.ofBool (decide (0 < y))) (v46_apply V0 b t)

theorem anchor_apply (b : Fin 2) (t : Fin 2048) (d : Fin 1024) :
    Host.gather gather_S512x1024_S2x2048x1_S2x2048x1024_2_0_n_n_0_2_11024 (V0 (Proc.devRef .tc main_arg4) : S512x1024.Idx → EReal)
      (broadcastInDim S2x2048x1 ![0, 1] bcast_S2x2048_S2x2048x1_0_1 (select (cmpi .slt (res_main_v0 V0) (broadcastInDim S2x2048 ![] bcast_S_S2x2048 (constantI S_ 32 0#32))) (addi (res_main_v0 V0) (broadcastInDim S2x2048 ![] bcast_S_S2x2048 (constantI S_ 32 512#32))) (res_main_v0 V0)))
      (ix3 b t d) = aRow V0 b t d := by
  have hl := Steps.bucket_lt ((V0 (Proc.devRef .tc main_arg3) : S2x2048.Idx → BitVec 32) (ix2 b t))
  rw [gather_codebook]
  unfold aRow Steps.Token.aRow Steps.Token.cell
  congr 2
  refine Fin.ext ?_
  pointwise []
  rw [bucket_apply, slt_zero _ (by omega)]
  show min (Steps.bucket _).toInt.toNat 511 = _
  rw [toInt_toNat _ (by omega)]
  exact min_eq_left (by omega)

theorem v32_apply (b : Fin 2) (t : Fin 2048) (d : Fin 1024) :
    (res_main_v32 V0 : S2x2048x1024.Idx → EReal) (ix3 b t d) = Steps.Token.mixR (qRow V0 b t) (aRow V0 b t) d := by
  unfold Steps.Token.mixR
  rw [← anchor_apply V0 b t d]
  pointwise [res_main_v32]
  rfl

theorem v38_apply (b : Fin 2) (t : Fin 2048) (s : Fin 32) :
    (res_main_v38 V0 : S2x2048x32.Idx → EReal) (ix3 b t s) = scoreRow V0 b t s := by
  pointwise [res_main_v38]
  refine congrArg (fun f : Fin 1024 → EReal => ∑ x, f x) (funext fun x => congrArg₂ (fun p q : EReal => p * q) ?_ (take V0 (res_main_call2_v4 V0) _ _ b t s x (call2_apply V0 b t s)))
  have h : (fun d => (res_main_v32 V0 : S2x2048x1024.Idx → EReal) (ix3 b t d)) = Steps.Token.mixR (qRow V0 b t) (aRow V0 b t) :=
    funext fun d => v32_apply V0 b t d
  rw [← h]
  rfl

theorem v56_apply (b : Fin 2) (t : Fin 2048) (s : Fin 32) :
    (res_main_v56 V0 : S2x2048x32.Idx → EReal) (ix3 b t s) = Steps.Token.tempR (scoreRow V0 b t) s := by
  unfold Steps.Token.tempR
  rw [← v38_apply V0 b t s]
  pointwise [res_main_v56]

/-- The maximum of a row of 32. -/
theorem max_row (x : S2x2048x32.Idx → EReal) (f : Fin 32 → EReal) (z : EReal) (b : Fin 2) (t : Fin 2048) (h : ∀ s, x (ix3 b t s) = f s) :
    Finset.fold max z x {i | reducesTo_S2x2048x32_S2x2048_d2.drop i = ix2 b t} = Finset.fold max z f Finset.univ := by
  refine (Shape.ReducesTo.fold_fiber_r3_a2 (n0 := 2) (n1 := 2048) (n2 := 32) reducesTo_S2x2048x32_S2x2048_d2 (ix2 b t) _ _ _).trans ?_
  exact congrArg (fun g => Finset.fold max z g Finset.univ) (funext h)

theorem v63_apply (b : Fin 2) (t : Fin 2048) (s : Fin 32) :
    (res_main_v63 V0 : S2x2048x32.Idx → EReal) (ix3 b t s) = Steps.Token.expoR (scoreRow V0 b t) s := by
  pointwise [res_main_v63]
  exact congrArg₂ (fun p q : EReal => Ideal.exp (p - max (Ideal.ofBits .f32 0xFF800000#32) q)) (v56_apply V0 b t s)
    (max_row (res_main_v56 V0) _ _ b t (v56_apply V0 b t))

/-- The first result. -/
theorem out_apply (b : Fin 2) (t : Fin 2048) (d : Fin 1024) :
    (select (broadcastInDim S2x2048x1024 ![0, 1, 2] bcast_S2x2048x1_S2x2048x1024_0_1_2 (res_main_v48 V0)) (Host.dotGeneral (φ₁ := .f32) (φ₂ := .f32) dot_S2x2048x32_S2x2048x32x1024_S2x2048x1024_2_2_n_3_01_01 none (Host.divf (res_main_v44 V0) (broadcastInDim S2x2048x32 ![0, 1, 2] bcast_S2x2048x1_S2x2048x32_0_1_2 (addf (res_main_v46 V0) (broadcastInDim S2x2048x1 ![] bcast_S_S2x2048x1 (constant S_ .f32 0x3089705F#32))))) (res_main_v27 V0)) (Host.dotGeneral (φ₁ := .f32) (φ₂ := .f32) dot_S2x2048x32_S2x2048x32x1024_S2x2048x1024_2_2_n_3_01_01 none (Host.divf (res_main_v63 V0) (broadcastInDim S2x2048x32 ![0, 1, 2] bcast_S2x2048x1_S2x2048x32_0_1_2 (broadcastInDim S2x2048x1 ![0, 1] bcast_S2x2048_S2x2048x1_0_1 (Host.reduceAdd (res_main_v63 V0) (constant S_ .f32 0x00000000#32) reducesTo_S2x2048x32_S2x2048_d2 h_S_)))) (res_main_v27 V0)) : S2x2048x1024.Idx → EReal) (ix3 b t d)
      = Steps.Token.outR (aQ V0) (aV V0) (aK V0) (aI V0) (aC V0) (aJ V0) b t d := by
  pointwise []
  simp only [v48_apply, v46_apply, v27_apply, v63_apply, v44_apply]
  rfl

/-- The second result. -/
theorem sim_apply (b : Fin 2) (t : Fin 2048) :
    (select (shapeCast _ (res_main_v48 V0) shapeCasts_S2x2048x1_S2x2048) (broadcastInDim S2x2048 ![] bcast_S_S2x2048 (constant (F := Ideal) S_ .f32 0x41200000#32)) (Host.reduce (α := Ideal .f32) FloatOps.maximumf (res_main_v38 V0) (constant (F := Ideal) S_ .f32 0xFF800000#32) reducesTo_S2x2048x32_S2x2048_d2 h_S_) : S2x2048.Idx → EReal) (ix2 b t)
      = Steps.Token.simR (aQ V0) (aK V0) (aI V0) (aC V0) (aJ V0) b t := by
  pointwise []
  exact congrArg₂ (fun (p : BitVec 1) (q : EReal) => Scalar.select p (Ideal.ofBits .f32 0x41200000#32) q) (v48_apply V0 b t)
    (max_row (res_main_v38 V0) _ _ b t (v38_apply V0 b t))

end Cert.ReferenceIdeal.Read

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Steps.KernelRun
public import proofs.«01_k».proof.Proof.Steps.KernelIdealRun
public import proofs.«01_k».proof.Proof.Steps.KernelIdealValue
public import proofs.«01_k».proof.Proof.Steps.RefRead
public import Idealize.ShloMosaic.Adequacy
public import Idealize.ShloMosaic.Init

@[expose] public section

noncomputable section

namespace Cert.Proof

open Idealize.ShloMosaic Idealize.SL.Sem Cert.Kernel

theorem preserves : Cert.preserves_Kernel_KernelIdeal :=
  IdealRules.named_const.statement Cert.KernelIdeal.κ "eps_sq" .f32 0x179ABE15#32 (_) rfl

theorem quietReference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The reference's result at agreeing arguments is the kernel's. -/
theorem algebraic : Cert.algebraic_KernelIdeal_ReferenceIdeal := by
  intro m ρ m' ρ' _ hagree
  refine ⟨fun c => Cert.KernelIdeal.Value.resOut m c, fun c => Cert.KernelIdeal.Value.resSim m c, Cert.KernelIdeal.Value.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨h0, h1, h2, h3, h4, h5⟩ := hagree c
    have e0 : Cert.ReferenceIdeal.Read.aQ (StableHlo.launchContents m' c) = Cert.KernelIdeal.Blocks.aQ m c := h0
    have e1 : Cert.ReferenceIdeal.Read.aV (StableHlo.launchContents m' c) = Cert.KernelIdeal.Blocks.aV m c := h1
    have e2 : Cert.ReferenceIdeal.Read.aK (StableHlo.launchContents m' c) = Cert.KernelIdeal.Blocks.aK m c := h2
    have e3 : Cert.ReferenceIdeal.Read.aI (StableHlo.launchContents m' c) = Cert.KernelIdeal.Blocks.aI m c := h3
    have e4 : Cert.ReferenceIdeal.Read.aC (StableHlo.launchContents m' c) = Cert.KernelIdeal.Blocks.aC m c := h4
    have e5 : Cert.ReferenceIdeal.Read.aJ (StableHlo.launchContents m' c) = Cert.KernelIdeal.Blocks.aJ m c := h5
    funext (i : Cert.ReferenceIdeal.S2x2048x1024.Idx)
    obtain ⟨b, t, d, rfl⟩ : ∃ (b : Fin 2) (t : Fin 2048) (d : Fin 1024), i = ix3 b t d := ⟨_, _, _, eq_ix3 i⟩
    refine (Cert.ReferenceIdeal.Read.out_apply _ b t d).trans ?_
    refine Eq.trans ?_ (congrFun (Steps.Token.outK_eq _ _ _ _ _ _ b t) d).symm
    rw [e0, e1, e2, e3, e4, e5]
  · obtain ⟨h0, h1, h2, h3, h4, h5⟩ := hagree c
    have e0 : Cert.ReferenceIdeal.Read.aQ (StableHlo.launchContents m' c) = Cert.KernelIdeal.Blocks.aQ m c := h0
    have e2 : Cert.ReferenceIdeal.Read.aK (StableHlo.launchContents m' c) = Cert.KernelIdeal.Blocks.aK m c := h2
    have e3 : Cert.ReferenceIdeal.Read.aI (StableHlo.launchContents m' c) = Cert.KernelIdeal.Blocks.aI m c := h3
    have e4 : Cert.ReferenceIdeal.Read.aC (StableHlo.launchContents m' c) = Cert.KernelIdeal.Blocks.aC m c := h4
    have e5 : Cert.ReferenceIdeal.Read.aJ (StableHlo.launchContents m' c) = Cert.KernelIdeal.Blocks.aJ m c := h5
    funext (i : Cert.ReferenceIdeal.S2x2048.Idx)
    obtain ⟨b, t, rfl⟩ : ∃ (b : Fin 2) (t : Fin 2048), i = ix2 b t := ⟨_, _, eq_ix2 i⟩
    refine (Cert.ReferenceIdeal.Read.sim_apply _ b t).trans ?_
    refine Eq.trans ?_ (Steps.Token.simK_eq _ _ _ _ _ b t).symm
    rw [e0, e2, e3, e4, e5]

theorem claim : Cert.Claim :=
  ⟨Cert.Kernel.Gen.facts, Cert.KernelIdeal.Gen.facts, Cert.ReferenceIdeal.Gen.facts,
    fun m ρ _ => Cert.Kernel.Run.frame m ρ, fun m ρ _ => Cert.KernelIdeal.Run.frame m ρ, quietReference, preserves, algebraic⟩

end Cert.Proof

end
